-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_RowStats (m : (ℓ : Loc Cert.RowStats.nD Cert.RowStats.τ Cert.RowStats.sig) → Buf (Elt Bits) ℓ) : Prop :=
  True

def Pre_RowStatsIdeal (m : (ℓ : Loc Cert.RowStatsIdeal.nD Cert.RowStatsIdeal.τ Cert.RowStatsIdeal.sig) → Buf (Elt Ideal) ℓ) : Prop :=
  True

def Pre_RowStatsReferenceIdeal (m : (ℓ : Loc Cert.RowStatsReferenceIdeal.nD Cert.RowStatsReferenceIdeal.τ Cert.RowStatsReferenceIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitIdeal_positive [hPre_positive : Cert.Pre_positive.Facts] (m : (ℓ : Loc Cert.SplitIdeal.nD Cert.SplitIdeal.τ Cert.SplitIdeal.sig) → Buf (Elt Ideal) ℓ) : Prop :=
  ∀ c : Dev Cert.SplitIdeal.nD,
    (Cert.Pre_positive.fn (F := Ideal) (m ((c.tc : Thread Cert.SplitIdeal.nD Cert.SplitIdeal.τ).loc Cert.SplitIdeal.main_arg0)) (m ((c.tc : Thread Cert.SplitIdeal.nD Cert.SplitIdeal.τ).loc Cert.SplitIdeal.main_arg1))) = (fun _ => 1#1)

def Pre_SplitReferenceIdeal (m : (ℓ : Loc Cert.SplitReferenceIdeal.nD Cert.SplitReferenceIdeal.τ Cert.SplitReferenceIdeal.sig) → Buf (Elt Ideal) ℓ) : Prop :=
  True

def Pre_SplitReferenceIdeal_positive [hPre_positive : Cert.Pre_positive.Facts] (m : (ℓ : Loc Cert.SplitReferenceIdeal.nD Cert.SplitReferenceIdeal.τ Cert.SplitReferenceIdeal.sig) → Buf (Elt Ideal) ℓ) : Prop :=
  ∀ c : Dev Cert.SplitReferenceIdeal.nD,
    (Cert.Pre_positive.fn (F := Ideal) (m ((c.tc : Thread Cert.SplitReferenceIdeal.nD Cert.SplitReferenceIdeal.τ).loc Cert.SplitReferenceIdeal.main_arg0)) (m ((c.tc : Thread Cert.SplitReferenceIdeal.nD Cert.SplitReferenceIdeal.τ).loc Cert.SplitReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_RowStats [hRowStats : Cert.RowStats.Facts] : Prop :=
  ∀ (m : (ℓ : Loc Cert.RowStats.nD Cert.RowStats.τ Cert.RowStats.sig) → Buf (Elt Bits) ℓ) (g : Dev Cert.RowStats.nD → PrngReg), Pre_RowStats m →
    θ_run (Cert.RowStats.defs (F := Bits)) (Cert.RowStats.threads (F := Bits)) ⟨m, fun _ => 0, g⟩ (fun r => (∀ c : Dev Cert.RowStats.nD,
      r.2.mem ((c.tc : Thread Cert.RowStats.nD Cert.RowStats.τ).loc Cert.RowStats.main_arg0) = m ((c.tc : Thread Cert.RowStats.nD Cert.RowStats.τ).loc Cert.RowStats.main_arg0))
      ∧ r.2.sem = fun _ => 0)

def quiescent_RowStatsIdeal [hRowStatsIdeal : Cert.RowStatsIdeal.Facts] : Prop :=
  ∀ (m : (ℓ : Loc Cert.RowStatsIdeal.nD Cert.RowStatsIdeal.τ Cert.RowStatsIdeal.sig) → Buf (Elt Ideal) ℓ) (g : Dev Cert.RowStatsIdeal.nD → PrngReg), Pre_RowStatsIdeal m →
    θ_run (Cert.RowStatsIdeal.defs (F := Ideal)) (Cert.RowStatsIdeal.threads (F := Ideal)) ⟨m, fun _ => 0, g⟩ (fun r => (∀ c : Dev Cert.RowStatsIdeal.nD,
      r.2.mem ((c.tc : Thread Cert.RowStatsIdeal.nD Cert.RowStatsIdeal.τ).loc Cert.RowStatsIdeal.main_arg0) = m ((c.tc : Thread Cert.RowStatsIdeal.nD Cert.RowStatsIdeal.τ).loc Cert.RowStatsIdeal.main_arg0))
      ∧ r.2.sem = fun _ => 0)

def quiescent_RowStatsReferenceIdeal [hRowStatsReferenceIdeal : Cert.RowStatsReferenceIdeal.Facts] : Prop :=
  ∀ (m : (ℓ : Loc Cert.RowStatsReferenceIdeal.nD Cert.RowStatsReferenceIdeal.τ Cert.RowStatsReferenceIdeal.sig) → Buf (Elt Ideal) ℓ) (g : Dev Cert.RowStatsReferenceIdeal.nD → PrngReg), Pre_RowStatsReferenceIdeal m →
    θ_run (Cert.RowStatsReferenceIdeal.defs (F := Ideal)) (onTc (τ := Cert.RowStatsReferenceIdeal.τ) (Cert.RowStatsReferenceIdeal.main (F := Ideal))) ⟨m, fun _ => 0, g⟩ (fun r => (∀ c : Dev Cert.RowStatsReferenceIdeal.nD,
      r.2.mem ((c.tc : Thread Cert.RowStatsReferenceIdeal.nD Cert.RowStatsReferenceIdeal.τ).loc Cert.RowStatsReferenceIdeal.main_arg0) = m ((c.tc : Thread Cert.RowStatsReferenceIdeal.nD Cert.RowStatsReferenceIdeal.τ).loc Cert.RowStatsReferenceIdeal.main_arg0))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (Cert.Split.threads (F := Bits)) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0)
      ∧ r.2.mem ((c.tc : Thread Cert.Split.nD Cert.Split.τ).loc Cert.Split.main_arg1) = m ((c.tc : Thread Cert.Split.nD Cert.Split.τ).loc Cert.Split.main_arg1))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (Cert.SplitIdeal.threads (F := Ideal)) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ r.2.sem = fun _ => 0)

def quiescent_SplitIdeal_pre_positive [hSplitIdeal : Cert.SplitIdeal.Facts] [hPre_positive : Cert.Pre_positive.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal_positive m →
    θ_run (Cert.SplitIdeal.defs (F := Ideal)) (Cert.SplitIdeal.threads (F := Ideal)) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
      ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ r.2.sem = fun _ => 0)

def quiescent_SplitReferenceIdeal [hSplitReferenceIdeal : Cert.SplitReferenceIdeal.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0)
      ∧ r.2.mem ((c.tc : Thread Cert.SplitReferenceIdeal.nD Cert.SplitReferenceIdeal.τ).loc Cert.SplitReferenceIdeal.main_arg1) = m ((c.tc : Thread Cert.SplitReferenceIdeal.nD Cert.SplitReferenceIdeal.τ).loc Cert.SplitReferenceIdeal.main_arg1))
      ∧ r.2.sem = fun _ => 0)

def quiescent_SplitReferenceIdeal_pre_positive [hSplitReferenceIdeal : Cert.SplitReferenceIdeal.Facts] [hPre_positive : Cert.Pre_positive.Facts] : Prop :=
  ∀ (m : (ℓ : Loc Cert.SplitReferenceIdeal.nD Cert.SplitReferenceIdeal.τ Cert.SplitReferenceIdeal.sig) → Buf (Elt Ideal) ℓ) (g : Dev Cert.SplitReferenceIdeal.nD → PrngReg), Pre_SplitReferenceIdeal_positive m →
    θ_run (Cert.SplitReferenceIdeal.defs (F := Ideal)) (onTc (τ := Cert.SplitReferenceIdeal.τ) (Cert.SplitReferenceIdeal.main (F := Ideal))) ⟨m, fun _ => 0, g⟩ (fun r => (∀ c : Dev Cert.SplitReferenceIdeal.nD,
      r.2.mem ((c.tc : Thread Cert.SplitReferenceIdeal.nD Cert.SplitReferenceIdeal.τ).loc Cert.SplitReferenceIdeal.main_arg0) = m ((c.tc : Thread Cert.SplitReferenceIdeal.nD Cert.SplitReferenceIdeal.τ).loc Cert.SplitReferenceIdeal.main_arg0)
      ∧ r.2.mem ((c.tc : Thread Cert.SplitReferenceIdeal.nD Cert.SplitReferenceIdeal.τ).loc Cert.SplitReferenceIdeal.main_arg1) = m ((c.tc : Thread Cert.SplitReferenceIdeal.nD Cert.SplitReferenceIdeal.τ).loc Cert.SplitReferenceIdeal.main_arg1))
      ∧ r.2.sem = fun _ => 0)

def preserves_Kernel_KernelIdeal : Prop :=
  True

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_RowStats_RowStatsIdeal : Prop :=
  True

def algebraic_RowStatsIdeal_RowStatsReferenceIdeal [hRowStatsIdeal : Cert.RowStatsIdeal.Facts] [hRowStatsReferenceIdeal : Cert.RowStatsReferenceIdeal.Facts] : Prop :=
  ∀ (m : (ℓ : Loc Cert.RowStatsIdeal.nD Cert.RowStatsIdeal.τ Cert.RowStatsIdeal.sig) → Buf (Elt Ideal) ℓ) (g : Dev Cert.RowStatsIdeal.nD → PrngReg)
    (m' : (ℓ : Loc Cert.RowStatsReferenceIdeal.nD Cert.RowStatsReferenceIdeal.τ Cert.RowStatsReferenceIdeal.sig) → Buf (Elt Ideal) ℓ) (g' : Dev Cert.RowStatsReferenceIdeal.nD → PrngReg), Pre_RowStatsIdeal m →
    (∀ c : Dev Cert.RowStatsIdeal.nD,
      m' ((c.tc : Thread Cert.RowStatsReferenceIdeal.nD Cert.RowStatsReferenceIdeal.τ).loc Cert.RowStatsReferenceIdeal.main_arg0) = m ((c.tc : Thread Cert.RowStatsIdeal.nD Cert.RowStatsIdeal.τ).loc Cert.RowStatsIdeal.main_arg0)) →
    ∃ (v0 : (c : Dev Cert.RowStatsIdeal.nD) → Buf (Elt Ideal) ((c.tc : Thread Cert.RowStatsIdeal.nD Cert.RowStatsIdeal.τ).loc Cert.RowStatsIdeal.main_v1_0)) (v1 : (c : Dev Cert.RowStatsIdeal.nD) → Buf (Elt Ideal) ((c.tc : Thread Cert.RowStatsIdeal.nD Cert.RowStatsIdeal.τ).loc Cert.RowStatsIdeal.main_v1_1)),
      θ_run (Cert.RowStatsIdeal.defs (F := Ideal)) (Cert.RowStatsIdeal.threads (F := Ideal)) ⟨m, fun _ => 0, g⟩ (fun r => ∀ c : Dev Cert.RowStatsIdeal.nD,
          r.2.mem ((c.tc : Thread Cert.RowStatsIdeal.nD Cert.RowStatsIdeal.τ).loc Cert.RowStatsIdeal.main_v1_0) = v0 c
          ∧ r.2.mem ((c.tc : Thread Cert.RowStatsIdeal.nD Cert.RowStatsIdeal.τ).loc Cert.RowStatsIdeal.main_v1_1) = v1 c
          ∧ r.2.mem ((c.tc : Thread Cert.RowStatsIdeal.nD Cert.RowStatsIdeal.τ).loc Cert.RowStatsIdeal.main_arg0) = m ((c.tc : Thread Cert.RowStatsIdeal.nD Cert.RowStatsIdeal.τ).loc Cert.RowStatsIdeal.main_arg0))
      ∧ θ_run (Cert.RowStatsReferenceIdeal.defs (F := Ideal)) (onTc (τ := Cert.RowStatsReferenceIdeal.τ) (Cert.RowStatsReferenceIdeal.main (F := Ideal))) ⟨m', fun _ => 0, g'⟩ (fun r => ∀ c : Dev Cert.RowStatsReferenceIdeal.nD,
          r.2.mem ((c.tc : Thread Cert.RowStatsReferenceIdeal.nD Cert.RowStatsReferenceIdeal.τ).loc Cert.RowStatsReferenceIdeal.main_v1) = v0 c
          ∧ r.2.mem ((c.tc : Thread Cert.RowStatsReferenceIdeal.nD Cert.RowStatsReferenceIdeal.τ).loc Cert.RowStatsReferenceIdeal.main_v2) = v1 c
          ∧ r.2.mem ((c.tc : Thread Cert.RowStatsReferenceIdeal.nD Cert.RowStatsReferenceIdeal.τ).loc Cert.RowStatsReferenceIdeal.main_arg0) = m' ((c.tc : Thread Cert.RowStatsReferenceIdeal.nD Cert.RowStatsReferenceIdeal.τ).loc Cert.RowStatsReferenceIdeal.main_arg0))

def preserves_Split_SplitIdeal : Prop :=
  True

def algebraic_SplitIdeal_SplitReferenceIdeal_pre_positive [hSplitIdeal : Cert.SplitIdeal.Facts] [hSplitReferenceIdeal : Cert.SplitReferenceIdeal.Facts] [hPre_positive : Cert.Pre_positive.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitReferenceIdeal.nD Cert.SplitReferenceIdeal.τ Cert.SplitReferenceIdeal.sig) → Buf (Elt Ideal) ℓ) (g' : Dev Cert.SplitReferenceIdeal.nD → PrngReg), Pre_SplitIdeal_positive m →
    (∀ c : Dev Cert.SplitIdeal.nD,
      m' ((c.tc : Thread Cert.SplitReferenceIdeal.nD Cert.SplitReferenceIdeal.τ).loc Cert.SplitReferenceIdeal.main_arg0) = m ((c.tc : Thread Cert.SplitIdeal.nD Cert.SplitIdeal.τ).loc Cert.SplitIdeal.main_arg0)
      ∧ m' ((c.tc : Thread Cert.SplitReferenceIdeal.nD Cert.SplitReferenceIdeal.τ).loc Cert.SplitReferenceIdeal.main_arg1) = m ((c.tc : Thread Cert.SplitIdeal.nD Cert.SplitIdeal.τ).loc Cert.SplitIdeal.main_arg1)) →
    ∃ (v0 : (c : Dev Cert.SplitIdeal.nD) → Buf (Elt Ideal) ((c.tc : Thread Cert.SplitIdeal.nD Cert.SplitIdeal.τ).loc Cert.SplitIdeal.main_v6)),
      θ_run (Cert.SplitIdeal.defs (F := Ideal)) (Cert.SplitIdeal.threads (F := Ideal)) ⟨m, fun _ => 0, g⟩ (fun r => ∀ c : Dev Cert.SplitIdeal.nD,
          r.2.mem ((c.tc : Thread Cert.SplitIdeal.nD Cert.SplitIdeal.τ).loc Cert.SplitIdeal.main_v6) = v0 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0)
          ∧ r.2.mem ((c.tc : Thread Cert.SplitIdeal.nD Cert.SplitIdeal.τ).loc Cert.SplitIdeal.main_arg1) = m ((c.tc : Thread Cert.SplitIdeal.nD Cert.SplitIdeal.τ).loc Cert.SplitIdeal.main_arg1))
      ∧ θ_run (Cert.SplitReferenceIdeal.defs (F := Ideal)) (onTc (τ := Cert.SplitReferenceIdeal.τ) (Cert.SplitReferenceIdeal.main (F := Ideal))) ⟨m', fun _ => 0, g'⟩ (fun r => ∀ c : Dev Cert.SplitReferenceIdeal.nD,
          r.2.mem ((c.tc : Thread Cert.SplitReferenceIdeal.nD Cert.SplitReferenceIdeal.τ).loc Cert.SplitReferenceIdeal.main_v34) = v0 c
          ∧ r.2.mem ((c.tc : Thread Cert.SplitReferenceIdeal.nD Cert.SplitReferenceIdeal.τ).loc Cert.SplitReferenceIdeal.main_arg0) = m' ((c.tc : Thread Cert.SplitReferenceIdeal.nD Cert.SplitReferenceIdeal.τ).loc Cert.SplitReferenceIdeal.main_arg0)
          ∧ r.2.mem ((c.tc : Thread Cert.SplitReferenceIdeal.nD Cert.SplitReferenceIdeal.τ).loc Cert.SplitReferenceIdeal.main_arg1) = m' ((c.tc : Thread Cert.SplitReferenceIdeal.nD Cert.SplitReferenceIdeal.τ).loc Cert.SplitReferenceIdeal.main_arg1))

def Claim : Prop :=
  ∃ (hKernel : Cert.Kernel.Facts) (hKernelIdeal : Cert.KernelIdeal.Facts) (hReferenceIdeal : Cert.ReferenceIdeal.Facts) (hRowStats : Cert.RowStats.Facts) (hRowStatsIdeal : Cert.RowStatsIdeal.Facts) (hRowStatsReferenceIdeal : Cert.RowStatsReferenceIdeal.Facts) (hSplit : Cert.Split.Facts) (hSplitIdeal : Cert.SplitIdeal.Facts) (hSplitReferenceIdeal : Cert.SplitReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ quiescent_RowStats (hRowStats := hRowStats)
    ∧ quiescent_RowStatsIdeal (hRowStatsIdeal := hRowStatsIdeal)
    ∧ quiescent_RowStatsReferenceIdeal (hRowStatsReferenceIdeal := hRowStatsReferenceIdeal)
    ∧ quiescent_Split (hSplit := hSplit)
    ∧ quiescent_SplitIdeal (hSplitIdeal := hSplitIdeal)
    ∧ quiescent_SplitIdeal_pre_positive (hSplitIdeal := hSplitIdeal) (hPre_positive := hPre_positive)
    ∧ quiescent_SplitReferenceIdeal (hSplitReferenceIdeal := hSplitReferenceIdeal)
    ∧ quiescent_SplitReferenceIdeal_pre_positive (hSplitReferenceIdeal := hSplitReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
    ∧ preserves_RowStats_RowStatsIdeal
    ∧ algebraic_RowStatsIdeal_RowStatsReferenceIdeal (hRowStatsIdeal := hRowStatsIdeal) (hRowStatsReferenceIdeal := hRowStatsReferenceIdeal)
    ∧ preserves_Split_SplitIdeal
    ∧ algebraic_SplitIdeal_SplitReferenceIdeal_pre_positive (hSplitIdeal := hSplitIdeal) (hSplitReferenceIdeal := hSplitReferenceIdeal) (hPre_positive := hPre_positive)
-- ==== Pre_positive.lean ====
abbrev S16384x128 : Shape := ⟨2, ![16384, 128]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : IVec S1 32) : IVec S_ 1 :=
  let main_cst : FVec F S_ .f32 := constant S_ .f32 0x00000000#32
  let main_v0 : FVec F S16384x128 .f32 := broadcastInDim S16384x128 ![] bcast_S_S16384x128 main_cst
  let main_v1 : IVec S16384x128 1 := cmpf .ogt main_arg0 main_v0
  let main_cst_0 : FVec F S_ .f32 := constant S_ .f32 0x7F800000#32
  let main_v2 : FVec F S16384x128 .f32 := broadcastInDim S16384x128 ![] bcast_S_S16384x128 main_cst_0
  let main_v3 : IVec S16384x128 1 := cmpf .olt main_arg0 main_v2
  let main_v4 : IVec S16384x128 1 := andi main_v1 main_v3
  let main_c : IVec S_ 1 := constantI S_ 1 1#1
  let main_v5 : IVec S_ 1 := (fun x v => Host.reduce IntOp.andi x v reducesTo_S16384x128_S_d0_1 h_S_) main_v4 main_c
  main_v5
-- ==== Kernel.lean ====
abbrev S16384x128 : Shape := ⟨2, ![16384, 128]⟩
abbrev S1 : Shape := ⟨1, ![1]⟩
abbrev S2048x128 : Shape := ⟨2, ![2048, 128]⟩
abbrev S2 : Shape := ⟨1, ![2]⟩
abbrev S2048 : Shape := ⟨1, ![2048]⟩
abbrev S1x2048 : Shape := ⟨2, ![1, 2048]⟩
abbrev S1x1 : Shape := ⟨2, ![1, 1]⟩

abbrev nBuf : Space → Nat
  | .hbm => 3
  | .vmem => 2
  | .smem => 3
  | _ => 0

abbrev bufTy : (tb : Table) → Fin (tcTables nBuf tb) → BufTy
  | .hbm, ⟨0, _⟩ => ⟨S16384x128, .f32⟩
  | .hbm, ⟨1, _⟩ => ⟨S1, .i32⟩
  | .hbm, ⟨2, _⟩ => ⟨S1, .f32⟩
  | .local _ .vmem, ⟨0, _⟩ => ⟨S2048x128, .f32⟩
  | .local _ .vmem, ⟨1, _⟩ => ⟨S2048x128, .f32⟩
  | .local _ .smem, ⟨0, _⟩ => ⟨S1, .i32⟩
  | .local _ .smem, ⟨1, _⟩ => ⟨S1, .f32⟩
  | .local _ .smem, ⟨2, _⟩ => ⟨S2, .f32⟩
  | _, _ => ⟨S16384x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg2_0 : Ref sig .tc := ⟨.smem, 1, rfl⟩
abbrev cc0_scratch0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v29 : BitVec 1 := Scalar.cmpi .eq arg0 c7_i32
  let v30 : BitVec 32 := Scalar.extui v29
  let c0_i32_12 : BitVec 32 := 0#32
  let v31 : BitVec 1 := Scalar.cmpi .ne v30 c0_i32_12
  v31

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x128 : Shape := ⟨2, ![16384, 128]⟩
abbrev S1 : Shape := ⟨1, ![1]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 50
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1, .i32⟩
  | .hbm, ⟨2, _⟩ => ⟨S_, .f32⟩
  | .hbm, ⟨3, _⟩ => ⟨S16384, .f32⟩
  | .hbm, ⟨4, _⟩ => ⟨S16384x128, .i32⟩
  | .hbm, ⟨5, _⟩ => ⟨S_, .f32⟩
  | .hbm, ⟨6, _⟩ => ⟨S_, .i32⟩
  | .hbm, ⟨7, _⟩ => ⟨S16384, .f32⟩
  | .hbm, ⟨8, _⟩ => ⟨S16384, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384, .i32⟩
  | .hbm, ⟨16, _⟩ => ⟨S16384, .f32⟩
  | .hbm, ⟨17, _⟩ => ⟨S16384, .f32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S16384x1, .i32⟩
  | .hbm, ⟨34, _⟩ => ⟨S16384x2, .i32⟩
  | .hbm, ⟨35, _⟩ => ⟨S16384x128, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_c : Ref sig .tc := ⟨.hbm, 6, rfl⟩
abbrev main_call0_v1_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_cst_0 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_c_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== RowStats.lean ====
abbrev S16384x128 : Shape := ⟨2, ![16384, 128]⟩
abbrev S2097152 : Shape := ⟨1, ![2097152]⟩
abbrev S4096 : Shape := ⟨1, ![4096]⟩
abbrev S16384 : Shape := ⟨1, ![16384]⟩
abbrev S272 : Shape := ⟨1, ![272]⟩
abbrev S128 : Shape := ⟨1, ![128]⟩
abbrev S_ : Shape := ⟨0, ![]⟩
abbrev S16 : Shape := ⟨1, ![16]⟩
abbrev S8192 : Shape := ⟨1, ![8192]⟩

abbrev nBuf : Table → Nat
  | .hbm => 4
  | .local .scVector .vmem => 5
  | _ => 0

abbrev bufTy : (tb : Table) → Fin (nBuf tb) → BufTy
  | .hbm, ⟨0, _⟩ => ⟨S16384x128, .f32⟩
  | .hbm, ⟨1, _⟩ => ⟨S2097152, .f32⟩
  | .hbm, ⟨2, _⟩ => ⟨S4096, .f32⟩
  | .hbm, ⟨3, _⟩ => ⟨S4096, .f32⟩
  | .local .scVector .vmem, ⟨0, _⟩ => ⟨S16384, .f32⟩
  | .local .scVector .vmem, ⟨1, _⟩ => ⟨S272, .f32⟩
  | .local .scVector .vmem, ⟨2, _⟩ => ⟨S272, .f32⟩
  | .local .scVector .vmem, ⟨3, _⟩ => ⟨S128, .f32⟩
  | .local .scVector .vmem, ⟨4, _⟩ => ⟨S128, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v6 : BitVec 32 := Scalar.addi v2 c0_i32
  let c128_i32_0 : BitVec 32 := 128#32
  let v7 : BitVec 32 := Scalar.muli v6 c128_i32_0
  ![v7.toNat]
@[reducible] def k0_t1_loop : Scf.Loop 32 :=
  let c0_i32_4 : BitVec 32 := 0#32
  let c8_i32 : BitVec 32 := 8#32
  let v12 : BitVec 32 := Scalar.addi c0_i32_4 c8_i32
  let c1_i32 : BitVec 32 := 1#32
  ⟨c0_i32_4, v12, c1_i32⟩
def k0_cond1 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c4_i32_12 : BitVec 32 := 4#32
  let c0_i32_13 : BitVec 32 := 0#32
  let v30 : BitVec 1 := Scalar.cmpi .eq c4_i32_12 c0_i32_13
  let c1_i32_14 : BitVec 32 := 1#32
  let v31 : BitVec 32 := Scalar.select v30 c1_i32_14 c4_i32_12
  let v32 : BitVec 32 := Scalar.remsi arg12 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let c0_i32_18 : BitVec 32 := 0#32
  let v40 : BitVec 1 := Scalar.cmpi .eq v39 c0_i32_18
  let v41 : BitVec 32 := Scalar.extui v40
  let c0_i32_19 : BitVec 32 := 0#32
  let v42 : BitVec 1 := Scalar.cmpi .ne v41 c0_i32_19
  v42

def k0_cond2 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c2_i32_196 : BitVec 32 := 2#32
  let c0_i32_197 : BitVec 32 := 0#32
  let v857 : BitVec 1 := Scalar.cmpi .eq c2_i32_196 c0_i32_197
  let c1_i32_198 : BitVec 32 := 1#32
  let v858 : BitVec 32 := Scalar.select v857 c1_i32_198 c2_i32_196
  let v859 : BitVec 32 := Scalar.remsi v29 v858
  let c0_i32_200 : BitVec 32 := 0#32
  let v861 : BitVec 1 := Scalar.cmpi .slt v859 c0_i32_200
  let c0_i32_201 : BitVec 32 := 0#32
  let v862 : BitVec 1 := Scalar.cmpi .slt v858 c0_i32_201
  let v863 : BitVec 1 := Scalar.xori v861 v862
  let c0_i32_199 : BitVec 32 := 0#32
  let v860 : BitVec 1 := Scalar.cmpi .ne v859 c0_i32_199
  let v864 : BitVec 1 := Scalar.andi v863 v860
  let v865 : BitVec 32 := Scalar.addi v859 v858
  let v866 : BitVec 32 := Scalar.select v864 v865 v859
  let c0_i32_202 : BitVec 32 := 0#32
  let v867 : BitVec 1 := Scalar.cmpi .eq v866 c0_i32_202
  let v868 : BitVec 32 := Scalar.extui v867
  let c0_i32_203 : BitVec 32 := 0#32
  let v869 : BitVec 1 := Scalar.cmpi .ne v868 c0_i32_203
  v869

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c64_i32_194 : BitVec 32 := 64#32
  let v854 : BitVec 32 := Scalar.muli v29 c64_i32_194
  let v855 : BitVec 32 := Scalar.addi v2 v854
  let c128_i32_195 : BitVec 32 := 128#32
  let v856 : BitVec 32 := Scalar.muli v855 c128_i32_195
  ![v856.toNat]
def k0_cond3 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c2_i32_204 : BitVec 32 := 2#32
  let c0_i32_205 : BitVec 32 := 0#32
  let v870 : BitVec 1 := Scalar.cmpi .eq c2_i32_204 c0_i32_205
  let c1_i32_206 : BitVec 32 := 1#32
  let v871 : BitVec 32 := Scalar.select v870 c1_i32_206 c2_i32_204
  let v872 : BitVec 32 := Scalar.remsi v29 v871
  let c0_i32_208 : BitVec 32 := 0#32
  let v874 : BitVec 1 := Scalar.cmpi .slt v872 c0_i32_208
  let c0_i32_209 : BitVec 32 := 0#32
  let v875 : BitVec 1 := Scalar.cmpi .slt v871 c0_i32_209
  let v876 : BitVec 1 := Scalar.xori v874 v875
  let c0_i32_207 : BitVec 32 := 0#32
  let v873 : BitVec 1 := Scalar.cmpi .ne v872 c0_i32_207
  let v877 : BitVec 1 := Scalar.andi v876 v873
  let v878 : BitVec 32 := Scalar.addi v872 v871
  let v879 : BitVec 32 := Scalar.select v877 v878 v872
  let c1_i32_210 : BitVec 32 := 1#32
  let v880 : BitVec 1 := Scalar.cmpi .eq v879 c1_i32_210
  let v881 : BitVec 32 := Scalar.extui v880
  let c0_i32_211 : BitVec 32 := 0#32
  let v882 : BitVec 1 := Scalar.cmpi .ne v881 c0_i32_211
  v882

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c64_i32_194 : BitVec 32 := 64#32
  let v854 : BitVec 32 := Scalar.muli v29 c64_i32_194
  let v855 : BitVec 32 := Scalar.addi v2 v854
  let c128_i32_195 : BitVec 32 := 128#32
  let v856 : BitVec 32 := Scalar.muli v855 c128_i32_195
  ![v856.toNat]
def k0_cond4 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_212 : BitVec 32 := 1#32
  let v883 : BitVec 32 := Scalar.addi v29 c1_i32_212
  let c2_i32_213 : BitVec 32 := 2#32
  let v884 : BitVec 1 := Scalar.cmpi .slt v883 c2_i32_213
  let v885 : BitVec 32 := Scalar.extui v884
  let c0_i32_214 : BitVec 32 := 0#32
  let v886 : BitVec 1 := Scalar.cmpi .ne v885 c0_i32_214
  v886

def k0_cond5 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c2_i32_218 : BitVec 32 := 2#32
  let c0_i32_219 : BitVec 32 := 0#32
  let v891 : BitVec 1 := Scalar.cmpi .eq c2_i32_218 c0_i32_219
  let c1_i32_220 : BitVec 32 := 1#32
  let v892 : BitVec 32 := Scalar.select v891 c1_i32_220 c2_i32_218
  let v893 : BitVec 32 := Scalar.remsi v887 v892
  let c0_i32_222 : BitVec 32 := 0#32
  let v895 : BitVec 1 := Scalar.cmpi .slt v893 c0_i32_222
  let c0_i32_223 : BitVec 32 := 0#32
  let v896 : BitVec 1 := Scalar.cmpi .slt v892 c0_i32_223
  let v897 : BitVec 1 := Scalar.xori v895 v896
  let c0_i32_221 : BitVec 32 := 0#32
  let v894 : BitVec 1 := Scalar.cmpi .ne v893 c0_i32_221
  let v898 : BitVec 1 := Scalar.andi v897 v894
  let v899 : BitVec 32 := Scalar.addi v893 v892
  let v900 : BitVec 32 := Scalar.select v898 v899 v893
  let c0_i32_224 : BitVec 32 := 0#32
  let v901 : BitVec 1 := Scalar.cmpi .eq v900 c0_i32_224
  let v902 : BitVec 32 := Scalar.extui v901
  let c0_i32_225 : BitVec 32 := 0#32
  let v903 : BitVec 1 := Scalar.cmpi .ne v902 c0_i32_225
  v903

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c64_i32_216 : BitVec 32 := 64#32
  let v888 : BitVec 32 := Scalar.muli v887 c64_i32_216
  let v889 : BitVec 32 := Scalar.addi v2 v888
  let c128_i32_217 : BitVec 32 := 128#32
  let v890 : BitVec 32 := Scalar.muli v889 c128_i32_217
  ![v890.toNat]
def k0_cond6 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c2_i32_226 : BitVec 32 := 2#32
  let c0_i32_227 : BitVec 32 := 0#32
  let v904 : BitVec 1 := Scalar.cmpi .eq c2_i32_226 c0_i32_227
  let c1_i32_228 : BitVec 32 := 1#32
  let v905 : BitVec 32 := Scalar.select v904 c1_i32_228 c2_i32_226
  let v906 : BitVec 32 := Scalar.remsi v887 v905
  let c0_i32_230 : BitVec 32 := 0#32
  let v908 : BitVec 1 := Scalar.cmpi .slt v906 c0_i32_230
  let c0_i32_231 : BitVec 32 := 0#32
  let v909 : BitVec 1 := Scalar.cmpi .slt v905 c0_i32_231
  let v910 : BitVec 1 := Scalar.xori v908 v909
  let c0_i32_229 : BitVec 32 := 0#32
  let v907 : BitVec 1 := Scalar.cmpi .ne v906 c0_i32_229
  let v911 : BitVec 1 := Scalar.andi v910 v907
  let v912 : BitVec 32 := Scalar.addi v906 v905
  let v913 : BitVec 32 := Scalar.select v911 v912 v906
  let c1_i32_232 : BitVec 32 := 1#32
  let v914 : BitVec 1 := Scalar.cmpi .eq v913 c1_i32_232
  let v915 : BitVec 32 := Scalar.extui v914
  let c0_i32_233 : BitVec 32 := 0#32
  let v916 : BitVec 1 := Scalar.cmpi .ne v915 c0_i32_233
  v916

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c64_i32_216 : BitVec 32 := 64#32
  let v888 : BitVec 32 := Scalar.muli v887 c64_i32_216
  let v889 : BitVec 32 := Scalar.addi v2 v888
  let c128_i32_217 : BitVec 32 := 128#32
  let v890 : BitVec 32 := Scalar.muli v889 c128_i32_217
  ![v890.toNat]
def k0_off6 (k0_t1 : Fin k0_t1_loop.trips) (c0_i32_32 : BitVec 32) (c0_i32_33 : BitVec 32) : Fin 1 → Nat :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi v29 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c8192_i32 : BitVec 32 := 8192#32
  let v53 : BitVec 32 := Scalar.muli v52 c8192_i32
  let c4_i32_26 : BitVec 32 := 4#32
  let c0_i32_27 : BitVec 32 := 0#32
  let v54 : BitVec 1 := Scalar.cmpi .eq c4_i32_26 c0_i32_27
  let c1_i32_28 : BitVec 32 := 1#32
  let v55 : BitVec 32 := Scalar.select v54 c1_i32_28 c4_i32_26
  let v56 : BitVec 32 := Scalar.remsi arg12 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c2048_i32 : BitVec 32 := 2048#32
  let v64 : BitVec 32 := Scalar.muli v63 c2048_i32
  let v65 : BitVec 32 := Scalar.addi v53 v64
  let v66 : BitVec 32 := Scalar.addi v65 c0_i32_32
  let v67 : BitVec 32 := Scalar.addi v66 c0_i32_33
  let v68 : Index := Scalar.indexCast v67
  ![v68.toNat]

def k0_chk1 (v723 : IVec S16 32) : Prop :=
  (∀ a x, ((![v723] : Fin 1 → IVec S16 32) a x).toNat < S272.size a)
theorem k0_idx1_inb : ∀ (v723 : IVec S16 32) (k0_hw1 : k0_chk1 v723), ∀ a x, ((![v723] : Fin 1 → IVec S16 32) a x).toNat < S272.size a := fun v723 k0_hw1 => k0_hw1

def k0_chk2 (v726 : IVec S16 32) : Prop :=
  (∀ a x, ((![v726] : Fin 1 → IVec S16 32) a x).toNat < S272.size a)
theorem k0_idx2_inb : ∀ (v726 : IVec S16 32) (k0_hw2 : k0_chk2 v726), ∀ a x, ((![v726] : Fin 1 → IVec S16 32) a x).toNat < S272.size a := fun v726 k0_hw2 => k0_hw2

def k0_chk3 (v729 : IVec S16 32) : Prop :=
  (∀ a x, ((![v729] : Fin 1 → IVec S16 32) a x).toNat < S272.size a)
theorem k0_idx3_inb : ∀ (v729 : IVec S16 32) (k0_hw3 : k0_chk3 v729), ∀ a x, ((![v729] : Fin 1 → IVec S16 32) a x).toNat < S272.size a := fun v729 k0_hw3 => k0_hw3

def k0_chk4 (v732 : IVec S16 32) : Prop :=
  (∀ a x, ((![v732] : Fin 1 → IVec S16 32) a x).toNat < S272.size a)
theorem k0_idx4_inb : ∀ (v732 : IVec S16 32) (k0_hw4 : k0_chk4 v732), ∀ a x, ((![v732] : Fin 1 → IVec S16 32) a x).toNat < S272.size a := fun v732 k0_hw4 => k0_hw4

def k0_chk5 (v735 : IVec S16 32) : Prop :=
  (∀ a x, ((![v735] : Fin 1 → IVec S16 32) a x).toNat < S272.size a)
theorem k0_idx5_inb : ∀ (v735 : IVec S16 32) (k0_hw5 : k0_chk5 v735), ∀ a x, ((![v735] : Fin 1 → IVec S16 32) a x).toNat < S272.size a := fun v735 k0_hw5 => k0_hw5

def k0_chk6 (v738 : IVec S16 32) : Prop :=
  (∀ a x, ((![v738] : Fin 1 → IVec S16 32) a x).toNat < S272.size a)
theorem k0_idx6_inb : ∀ (v738 : IVec S16 32) (k0_hw6 : k0_chk6 v738), ∀ a x, ((![v738] : Fin 1 → IVec S16 32) a x).toNat < S272.size a := fun v738 k0_hw6 => k0_hw6

def k0_chk7 (v741 : IVec S16 32) : Prop :=
  (∀ a x, ((![v741] : Fin 1 → IVec S16 32) a x).toNat < S272.size a)
theorem k0_idx7_inb : ∀ (v741 : IVec S16 32) (k0_hw7 : k0_chk7 v741), ∀ a x, ((![v741] : Fin 1 → IVec S16 32) a x).toNat < S272.size a := fun v741 k0_hw7 => k0_hw7

def k0_chk8 (v744 : IVec S16 32) : Prop :=
  (∀ a x, ((![v744] : Fin 1 → IVec S16 32) a x).toNat < S272.size a)
theorem k0_idx8_inb : ∀ (v744 : IVec S16 32) (k0_hw8 : k0_chk8 v744), ∀ a x, ((![v744] : Fin 1 → IVec S16 32) a x).toNat < S272.size a := fun v744 k0_hw8 => k0_hw8

def k0_chk9 (v747 : IVec S16 32) : Prop :=
  (∀ a x, ((![v747] : Fin 1 → IVec S16 32) a x).toNat < S272.size a)
theorem k0_idx9_inb : ∀ (v747 : IVec S16 32) (k0_hw9 : k0_chk9 v747), ∀ a x, ((![v747] : Fin 1 → IVec S16 32) a x).toNat < S272.size a := fun v747 k0_hw9 => k0_hw9

def k0_chk10 (v751 : IVec S16 32) : Prop :=
  (∀ a x, ((![v751] : Fin 1 → IVec S16 32) a x).toNat < S272.size a)
theorem k0_idx10_inb : ∀ (v751 : IVec S16 32) (k0_hw10 : k0_chk10 v751), ∀ a x, ((![v751] : Fin 1 → IVec S16 32) a x).toNat < S272.size a := fun v751 k0_hw10 => k0_hw10

def k0_chk11 (v755 : IVec S16 32) : Prop :=
  (∀ a x, ((![v755] : Fin 1 → IVec S16 32) a x).toNat < S272.size a)
theorem k0_idx11_inb : ∀ (v755 : IVec S16 32) (k0_hw11 : k0_chk11 v755), ∀ a x, ((![v755] : Fin 1 → IVec S16 32) a x).toNat < S272.size a := fun v755 k0_hw11 => k0_hw11

def k0_chk12 (v759 : IVec S16 32) : Prop :=
  (∀ a x, ((![v759] : Fin 1 → IVec S16 32) a x).toNat < S272.size a)
theorem k0_idx12_inb : ∀ (v759 : IVec S16 32) (k0_hw12 : k0_chk12 v759), ∀ a x, ((![v759] : Fin 1 → IVec S16 32) a x).toNat < S272.size a := fun v759 k0_hw12 => k0_hw12

def k0_chk13 (v763 : IVec S16 32) : Prop :=
  (∀ a x, ((![v763] : Fin 1 → IVec S16 32) a x).toNat < S272.size a)
theorem k0_idx13_inb : ∀ (v763 : IVec S16 32) (k0_hw13 : k0_chk13 v763), ∀ a x, ((![v763] : Fin 1 → IVec S16 32) a x).toNat < S272.size a := fun v763 k0_hw13 => k0_hw13

def k0_chk14 (v767 : IVec S16 32) : Prop :=
  (∀ a x, ((![v767] : Fin 1 → IVec S16 32) a x).toNat < S272.size a)
theorem k0_idx14_inb : ∀ (v767 : IVec S16 32) (k0_hw14 : k0_chk14 v767), ∀ a x, ((![v767] : Fin 1 → IVec S16 32) a x).toNat < S272.size a := fun v767 k0_hw14 => k0_hw14

def k0_chk15 (v771 : IVec S16 32) : Prop :=
  (∀ a x, ((![v771] : Fin 1 → IVec S16 32) a x).toNat < S272.size a)
theorem k0_idx15_inb : ∀ (v771 : IVec S16 32) (k0_hw15 : k0_chk15 v771), ∀ a x, ((![v771] : Fin 1 → IVec S16 32) a x).toNat < S272.size a := fun v771 k0_hw15 => k0_hw15

def k0_chk16 (v775 : IVec S16 32) : Prop :=
  (∀ a x, ((![v775] : Fin 1 → IVec S16 32) a x).toNat < S272.size a)
theorem k0_idx16_inb : ∀ (v775 : IVec S16 32) (k0_hw16 : k0_chk16 v775), ∀ a x, ((![v775] : Fin 1 → IVec S16 32) a x).toNat < S272.size a := fun v775 k0_hw16 => k0_hw16

def k0_chk17 (v779 : IVec S16 32) : Prop :=
  (∀ a x, ((![v779] : Fin 1 → IVec S16 32) a x).toNat < S272.size a)
theorem k0_idx17_inb : ∀ (v779 : IVec S16 32) (k0_hw17 : k0_chk17 v779), ∀ a x, ((![v779] : Fin 1 → IVec S16 32) a x).toNat < S272.size a := fun v779 k0_hw17 => k0_hw17

def k0_chk18 (v783 : IVec S16 32) : Prop :=
  (∀ a x, ((![v783] : Fin 1 → IVec S16 32) a x).toNat < S272.size a)
theorem k0_idx18_inb : ∀ (v783 : IVec S16 32) (k0_hw18 : k0_chk18 v783), ∀ a x, ((![v783] : Fin 1 → IVec S16 32) a x).toNat < S272.size a := fun v783 k0_hw18 => k0_hw18

def k0_chk19 (v787 : IVec S16 32) : Prop :=
  (∀ a x, ((![v787] : Fin 1 → IVec S16 32) a x).toNat < S272.size a)
theorem k0_idx19_inb : ∀ (v787 : IVec S16 32) (k0_hw19 : k0_chk19 v787), ∀ a x, ((![v787] : Fin 1 → IVec S16 32) a x).toNat < S272.size a := fun v787 k0_hw19 => k0_hw19

def k0_chk20 (v791 : IVec S16 32) : Prop :=
  (∀ a x, ((![v791] : Fin 1 → IVec S16 32) a x).toNat < S272.size a)
theorem k0_idx20_inb : ∀ (v791 : IVec S16 32) (k0_hw20 : k0_chk20 v791), ∀ a x, ((![v791] : Fin 1 → IVec S16 32) a x).toNat < S272.size a := fun v791 k0_hw20 => k0_hw20

def k0_chk21 (v795 : IVec S16 32) : Prop :=
  (∀ a x, ((![v795] : Fin 1 → IVec S16 32) a x).toNat < S272.size a)
theorem k0_idx21_inb : ∀ (v795 : IVec S16 32) (k0_hw21 : k0_chk21 v795), ∀ a x, ((![v795] : Fin 1 → IVec S16 32) a x).toNat < S272.size a := fun v795 k0_hw21 => k0_hw21

def k0_chk22 (v799 : IVec S16 32) : Prop :=
  (∀ a x, ((![v799] : Fin 1 → IVec S16 32) a x).toNat < S272.size a)
theorem k0_idx22_inb : ∀ (v799 : IVec S16 32) (k0_hw22 : k0_chk22 v799), ∀ a x, ((![v799] : Fin 1 → IVec S16 32) a x).toNat < S272.size a := fun v799 k0_hw22 => k0_hw22

def k0_chk23 (v803 : IVec S16 32) : Prop :=
  (∀ a x, ((![v803] : Fin 1 → IVec S16 32) a x).toNat < S272.size a)
theorem k0_idx23_inb : ∀ (v803 : IVec S16 32) (k0_hw23 : k0_chk23 v803), ∀ a x, ((![v803] : Fin 1 → IVec S16 32) a x).toNat < S272.size a := fun v803 k0_hw23 => k0_hw23

def k0_chk24 (v807 : IVec S16 32) : Prop :=
  (∀ a x, ((![v807] : Fin 1 → IVec S16 32) a x).toNat < S272.size a)
theorem k0_idx24_inb : ∀ (v807 : IVec S16 32) (k0_hw24 : k0_chk24 v807), ∀ a x, ((![v807] : Fin 1 → IVec S16 32) a x).toNat < S272.size a := fun v807 k0_hw24 => k0_hw24

def k0_chk25 (v811 : IVec S16 32) : Prop :=
  (∀ a x, ((![v811] : Fin 1 → IVec S16 32) a x).toNat < S272.size a)
theorem k0_idx25_inb : ∀ (v811 : IVec S16 32) (k0_hw25 : k0_chk25 v811), ∀ a x, ((![v811] : Fin 1 → IVec S16 32) a x).toNat < S272.size a := fun v811 k0_hw25 => k0_hw25

def k0_chk26 (v815 : IVec S16 32) : Prop :=
  (∀ a x, ((![v815] : Fin 1 → IVec S16 32) a x).toNat < S272.size a)
theorem k0_idx26_inb : ∀ (v815 : IVec S16 32) (k0_hw26 : k0_chk26 v815), ∀ a x, ((![v815] : Fin 1 → IVec S16 32) a x).toNat < S272.size a := fun v815 k0_hw26 => k0_hw26

def k0_chk27 (v819 : IVec S16 32) : Prop :=
  (∀ a x, ((![v819] : Fin 1 → IVec S16 32) a x).toNat < S272.size a)
theorem k0_idx27_inb : ∀ (v819 : IVec S16 32) (k0_hw27 : k0_chk27 v819), ∀ a x, ((![v819] : Fin 1 → IVec S16 32) a x).toNat < S272.size a := fun v819 k0_hw27 => k0_hw27

def k0_chk28 (v823 : IVec S16 32) : Prop :=
  (∀ a x, ((![v823] : Fin 1 → IVec S16 32) a x).toNat < S272.size a)
theorem k0_idx28_inb : ∀ (v823 : IVec S16 32) (k0_hw28 : k0_chk28 v823), ∀ a x, ((![v823] : Fin 1 → IVec S16 32) a x).toNat < S272.size a := fun v823 k0_hw28 => k0_hw28

def k0_chk29 (v827 : IVec S16 32) : Prop :=
  (∀ a x, ((![v827] : Fin 1 → IVec S16 32) a x).toNat < S272.size a)
theorem k0_idx29_inb : ∀ (v827 : IVec S16 32) (k0_hw29 : k0_chk29 v827), ∀ a x, ((![v827] : Fin 1 → IVec S16 32) a x).toNat < S272.size a := fun v827 k0_hw29 => k0_hw29

def k0_chk30 (v831 : IVec S16 32) : Prop :=
  (∀ a x, ((![v831] : Fin 1 → IVec S16 32) a x).toNat < S272.size a)
theorem k0_idx30_inb : ∀ (v831 : IVec S16 32) (k0_hw30 : k0_chk30 v831), ∀ a x, ((![v831] : Fin 1 → IVec S16 32) a x).toNat < S272.size a := fun v831 k0_hw30 => k0_hw30

def k0_chk31 (v835 : IVec S16 32) : Prop :=
  (∀ a x, ((![v835] : Fin 1 → IVec S16 32) a x).toNat < S272.size a)
theorem k0_idx31_inb : ∀ (v835 : IVec S16 32) (k0_hw31 : k0_chk31 v835), ∀ a x, ((![v835] : Fin 1 → IVec S16 32) a x).toNat < S272.size a := fun v835 k0_hw31 => k0_hw31

def k0_chk32 (v839 : IVec S16 32) : Prop :=
  (∀ a x, ((![v839] : Fin 1 → IVec S16 32) a x).toNat < S272.size a)
theorem k0_idx32_inb : ∀ (v839 : IVec S16 32) (k0_hw32 : k0_chk32 v839), ∀ a x, ((![v839] : Fin 1 → IVec S16 32) a x).toNat < S272.size a := fun v839 k0_hw32 => k0_hw32
def k0_off7 (k0_t1 : Fin k0_t1_loop.trips) : Fin 1 → Nat :=
  let c0_i32_4 : BitVec 32 := 0#32
  let c1_i32 : BitVec 32 := 1#32
  let arg12 : BitVec 32 := Scf.iv c0_i32_4 c1_i32 k0_t1
  let c16_i32_192 : BitVec 32 := 16#32
  let v848 : BitVec 32 := Scalar.muli arg12 c16_i32_192
  let v849 : Index := Scalar.indexCast v848
  ![v849.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== RowStatsReferenceIdeal.lean ====
abbrev S16384x128 : Shape := ⟨2, ![16384, 128]⟩
abbrev S4096x128 : Shape := ⟨2, ![4096, 128]⟩
abbrev S_ : Shape := ⟨0, ![]⟩
abbrev S4096 : Shape := ⟨1, ![4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Split.lean ====
abbrev S16384x128 : Shape := ⟨2, ![16384, 128]⟩
abbrev S1 : Shape := ⟨1, ![1]⟩
abbrev S2097152 : Shape := ⟨1, ![2097152]⟩
abbrev S4096 : Shape := ⟨1, ![4096]⟩
abbrev S16384 : Shape := ⟨1, ![16384]⟩
abbrev S272 : Shape := ⟨1, ![272]⟩
abbrev S128 : Shape := ⟨1, ![128]⟩
abbrev S_ : Shape := ⟨0, ![]⟩
abbrev S16 : Shape := ⟨1, ![16]⟩
abbrev S8192 : Shape := ⟨1, ![8192]⟩
abbrev S2 : Shape := ⟨1, ![2]⟩
abbrev S6144x128 : Shape := ⟨2, ![6144, 128]⟩
abbrev S6144 : Shape := ⟨1, ![6144]⟩
abbrev S1x6144 : Shape := ⟨2, ![1, 6144]⟩
abbrev S1x1 : Shape := ⟨2, ![1, 1]⟩
abbrev S32x128 : Shape := ⟨2, ![32, 128]⟩
abbrev S1x32x128 : Shape := ⟨3, ![1, 32, 128]⟩
abbrev S1x1x1 : Shape := ⟨3, ![1, 1, 1]⟩

abbrev nBuf : Table → Nat
  | .hbm => 10
  | .local .tc .vmem => 4
  | .local .tc .smem => 6
  | .local .scVector .vmem => 5
  | _ => 0

abbrev bufTy : (tb : Table) → Fin (nBuf tb) → BufTy
  | .hbm, ⟨0, _⟩ => ⟨S16384x128, .f32⟩
  | .hbm, ⟨1, _⟩ => ⟨S1, .i32⟩
  | .hbm, ⟨2, _⟩ => ⟨S2097152, .f32⟩
  | .hbm, ⟨3, _⟩ => ⟨S4096, .f32⟩
  | .hbm, ⟨4, _⟩ => ⟨S4096, .f32⟩
  | .hbm, ⟨5, _⟩ => ⟨S2, .f32⟩
  | .hbm, ⟨6, _⟩ => ⟨S32x128, .f32⟩
  | .hbm, ⟨7, _⟩ => ⟨S32x128, .f32⟩
  | .hbm, ⟨8, _⟩ => ⟨S1, .f32⟩
  | .hbm, ⟨9, _⟩ => ⟨S_, .f32⟩
  | .local .tc .vmem, ⟨0, _⟩ => ⟨S6144x128, .f32⟩
  | .local .tc .vmem, ⟨1, _⟩ => ⟨S6144x128, .f32⟩
  | .local .tc .vmem, ⟨2, _⟩ => ⟨S32x128, .f32⟩
  | .local .tc .vmem, ⟨3, _⟩ => ⟨S32x128, .f32⟩
  | .local .tc .smem, ⟨0, _⟩ => ⟨S1, .i32⟩
  | .local .tc .smem, ⟨1, _⟩ => ⟨S2, .f32⟩
  | .local .tc .smem, ⟨2, _⟩ => ⟨S2, .f32⟩
  | .local .tc .smem, ⟨3, _⟩ => ⟨S1, .i32⟩
  | .local .tc .smem, ⟨4, _⟩ => ⟨S2, .f32⟩
  | .local .tc .smem, ⟨5, _⟩ => ⟨S1, .f32⟩
  | .local .scVector .vmem, ⟨0, _⟩ => ⟨S16384, .f32⟩
  | .local .scVector .vmem, ⟨1, _⟩ => ⟨S272, .f32⟩
  | .local .scVector .vmem, ⟨2, _⟩ => ⟨S272, .f32⟩
  | .local .scVector .vmem, ⟨3, _⟩ => ⟨S128, .f32⟩
  | .local .scVector .vmem, ⟨4, _⟩ => ⟨S128, .f32⟩
  | _, _ => ⟨S16384x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v0_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc1_stg1_0 : Ref sig .tc := ⟨.vmem, 0, rfl⟩
abbrev cc1_stg1_1 : Ref sig .tc := ⟨.vmem, 1, rfl⟩
abbrev cc2_stg2_0 : Ref sig .tc := ⟨.vmem, 2, rfl⟩
abbrev cc2_stg3_0 : Ref sig .tc := ⟨.vmem, 3, rfl⟩
abbrev cc1_stg0_0 : Ref sig .tc := ⟨.smem, 0, rfl⟩
abbrev cc1_stg2_0 : Ref sig .tc := ⟨.smem, 1, rfl⟩
abbrev cc1_scratch0 : Ref sig .tc := ⟨.smem, 2, rfl⟩
abbrev cc2_stg0_0 : Ref sig .tc := ⟨.smem, 3, rfl⟩
abbrev cc2_stg1_0 : Ref sig .tc := ⟨.smem, 4, rfl⟩
abbrev cc2_stg4_0 : Ref sig .tc := ⟨.smem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc2_sem4_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  let v6 : BitVec 32 := Scalar.addi v2 c0_i32
  let c128_i32_0 : BitVec 32 := 128#32
  let v7 : BitVec 32 := Scalar.muli v6 c128_i32_0
  ![v7.toNat]
@[reducible] def k0_t1_loop : Scf.Loop 32 :=
  let c0_i32_4 : BitVec 32 := 0#32
  let c8_i32 : BitVec 32 := 8#32
  let v12 : BitVec 32 := Scalar.addi c0_i32_4 c8_i32
  let c1_i32 : BitVec 32 := 1#32
  ⟨c0_i32_4, v12, c1_i32⟩
def k0_cond1 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c4_i32_12 : BitVec 32 := 4#32
  let c0_i32_13 : BitVec 32 := 0#32
  let v30 : BitVec 1 := Scalar.cmpi .eq c4_i32_12 c0_i32_13
  let c1_i32_14 : BitVec 32 := 1#32
  let v31 : BitVec 32 := Scalar.select v30 c1_i32_14 c4_i32_12
  let v32 : BitVec 32 := Scalar.remsi arg12 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let c0_i32_18 : BitVec 32 := 0#32
  let v40 : BitVec 1 := Scalar.cmpi .eq v39 c0_i32_18
  let v41 : BitVec 32 := Scalar.extui v40
  let c0_i32_19 : BitVec 32 := 0#32
  let v42 : BitVec 1 := Scalar.cmpi .ne v41 c0_i32_19
  v42

def k0_cond2 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c2_i32_196 : BitVec 32 := 2#32
  let c0_i32_197 : BitVec 32 := 0#32
  let v857 : BitVec 1 := Scalar.cmpi .eq c2_i32_196 c0_i32_197
  let c1_i32_198 : BitVec 32 := 1#32
  let v858 : BitVec 32 := Scalar.select v857 c1_i32_198 c2_i32_196
  let v859 : BitVec 32 := Scalar.remsi v29 v858
  let c0_i32_200 : BitVec 32 := 0#32
  let v861 : BitVec 1 := Scalar.cmpi .slt v859 c0_i32_200
  let c0_i32_201 : BitVec 32 := 0#32
  let v862 : BitVec 1 := Scalar.cmpi .slt v858 c0_i32_201
  let v863 : BitVec 1 := Scalar.xori v861 v862
  let c0_i32_199 : BitVec 32 := 0#32
  let v860 : BitVec 1 := Scalar.cmpi .ne v859 c0_i32_199
  let v864 : BitVec 1 := Scalar.andi v863 v860
  let v865 : BitVec 32 := Scalar.addi v859 v858
  let v866 : BitVec 32 := Scalar.select v864 v865 v859
  let c0_i32_202 : BitVec 32 := 0#32
  let v867 : BitVec 1 := Scalar.cmpi .eq v866 c0_i32_202
  let v868 : BitVec 32 := Scalar.extui v867
  let c0_i32_203 : BitVec 32 := 0#32
  let v869 : BitVec 1 := Scalar.cmpi .ne v868 c0_i32_203
  v869

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c64_i32_194 : BitVec 32 := 64#32
  let v854 : BitVec 32 := Scalar.muli v29 c64_i32_194
  let v855 : BitVec 32 := Scalar.addi v2 v854
  let c128_i32_195 : BitVec 32 := 128#32
  let v856 : BitVec 32 := Scalar.muli v855 c128_i32_195
  ![v856.toNat]
def k0_cond3 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c2_i32_204 : BitVec 32 := 2#32
  let c0_i32_205 : BitVec 32 := 0#32
  let v870 : BitVec 1 := Scalar.cmpi .eq c2_i32_204 c0_i32_205
  let c1_i32_206 : BitVec 32 := 1#32
  let v871 : BitVec 32 := Scalar.select v870 c1_i32_206 c2_i32_204
  let v872 : BitVec 32 := Scalar.remsi v29 v871
  let c0_i32_208 : BitVec 32 := 0#32
  let v874 : BitVec 1 := Scalar.cmpi .slt v872 c0_i32_208
  let c0_i32_209 : BitVec 32 := 0#32
  let v875 : BitVec 1 := Scalar.cmpi .slt v871 c0_i32_209
  let v876 : BitVec 1 := Scalar.xori v874 v875
  let c0_i32_207 : BitVec 32 := 0#32
  let v873 : BitVec 1 := Scalar.cmpi .ne v872 c0_i32_207
  let v877 : BitVec 1 := Scalar.andi v876 v873
  let v878 : BitVec 32 := Scalar.addi v872 v871
  let v879 : BitVec 32 := Scalar.select v877 v878 v872
  let c1_i32_210 : BitVec 32 := 1#32
  let v880 : BitVec 1 := Scalar.cmpi .eq v879 c1_i32_210
  let v881 : BitVec 32 := Scalar.extui v880
  let c0_i32_211 : BitVec 32 := 0#32
  let v882 : BitVec 1 := Scalar.cmpi .ne v881 c0_i32_211
  v882

def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c64_i32_194 : BitVec 32 := 64#32
  let v854 : BitVec 32 := Scalar.muli v29 c64_i32_194
  let v855 : BitVec 32 := Scalar.addi v2 v854
  let c128_i32_195 : BitVec 32 := 128#32
  let v856 : BitVec 32 := Scalar.muli v855 c128_i32_195
  ![v856.toNat]
def k0_cond4 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_212 : BitVec 32 := 1#32
  let v883 : BitVec 32 := Scalar.addi v29 c1_i32_212
  let c2_i32_213 : BitVec 32 := 2#32
  let v884 : BitVec 1 := Scalar.cmpi .slt v883 c2_i32_213
  let v885 : BitVec 32 := Scalar.extui v884
  let c0_i32_214 : BitVec 32 := 0#32
  let v886 : BitVec 1 := Scalar.cmpi .ne v885 c0_i32_214
  v886

def k0_cond5 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c2_i32_218 : BitVec 32 := 2#32
  let c0_i32_219 : BitVec 32 := 0#32
  let v891 : BitVec 1 := Scalar.cmpi .eq c2_i32_218 c0_i32_219
  let c1_i32_220 : BitVec 32 := 1#32
  let v892 : BitVec 32 := Scalar.select v891 c1_i32_220 c2_i32_218
  let v893 : BitVec 32 := Scalar.remsi v887 v892
  let c0_i32_222 : BitVec 32 := 0#32
  let v895 : BitVec 1 := Scalar.cmpi .slt v893 c0_i32_222
  let c0_i32_223 : BitVec 32 := 0#32
  let v896 : BitVec 1 := Scalar.cmpi .slt v892 c0_i32_223
  let v897 : BitVec 1 := Scalar.xori v895 v896
  let c0_i32_221 : BitVec 32 := 0#32
  let v894 : BitVec 1 := Scalar.cmpi .ne v893 c0_i32_221
  let v898 : BitVec 1 := Scalar.andi v897 v894
  let v899 : BitVec 32 := Scalar.addi v893 v892
  let v900 : BitVec 32 := Scalar.select v898 v899 v893
  let c0_i32_224 : BitVec 32 := 0#32
  let v901 : BitVec 1 := Scalar.cmpi .eq v900 c0_i32_224
  let v902 : BitVec 32 := Scalar.extui v901
  let c0_i32_225 : BitVec 32 := 0#32
  let v903 : BitVec 1 := Scalar.cmpi .ne v902 c0_i32_225
  v903

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c64_i32_216 : BitVec 32 := 64#32
  let v888 : BitVec 32 := Scalar.muli v887 c64_i32_216
  let v889 : BitVec 32 := Scalar.addi v2 v888
  let c128_i32_217 : BitVec 32 := 128#32
  let v890 : BitVec 32 := Scalar.muli v889 c128_i32_217
  ![v890.toNat]
def k0_cond6 (k0_t1 : Fin k0_t1_loop.trips) : BitVec 1 :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c2_i32_226 : BitVec 32 := 2#32
  let c0_i32_227 : BitVec 32 := 0#32
  let v904 : BitVec 1 := Scalar.cmpi .eq c2_i32_226 c0_i32_227
  let c1_i32_228 : BitVec 32 := 1#32
  let v905 : BitVec 32 := Scalar.select v904 c1_i32_228 c2_i32_226
  let v906 : BitVec 32 := Scalar.remsi v887 v905
  let c0_i32_230 : BitVec 32 := 0#32
  let v908 : BitVec 1 := Scalar.cmpi .slt v906 c0_i32_230
  let c0_i32_231 : BitVec 32 := 0#32
  let v909 : BitVec 1 := Scalar.cmpi .slt v905 c0_i32_231
  let v910 : BitVec 1 := Scalar.xori v908 v909
  let c0_i32_229 : BitVec 32 := 0#32
  let v907 : BitVec 1 := Scalar.cmpi .ne v906 c0_i32_229
  let v911 : BitVec 1 := Scalar.andi v910 v907
  let v912 : BitVec 32 := Scalar.addi v906 v905
  let v913 : BitVec 32 := Scalar.select v911 v912 v906
  let c1_i32_232 : BitVec 32 := 1#32
  let v914 : BitVec 1 := Scalar.cmpi .eq v913 c1_i32_232
  let v915 : BitVec 32 := Scalar.extui v914
  let c0_i32_233 : BitVec 32 := 0#32
  let v916 : BitVec 1 := Scalar.cmpi .ne v915 c0_i32_233
  v916

def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c1_i32_215 : BitVec 32 := 1#32
  let v887 : BitVec 32 := Scalar.addi v29 c1_i32_215
  let c64_i32_216 : BitVec 32 := 64#32
  let v888 : BitVec 32 := Scalar.muli v887 c64_i32_216
  let v889 : BitVec 32 := Scalar.addi v2 v888
  let c128_i32_217 : BitVec 32 := 128#32
  let v890 : BitVec 32 := Scalar.muli v889 c128_i32_217
  ![v890.toNat]
def k0_off6 (k0_t1 : Fin k0_t1_loop.trips) (c0_i32_32 : BitVec 32) (c0_i32_33 : BitVec 32) : Fin 1 → Nat :=
  let c0_i32_4 : BitVec 32 := 0#32
  let c1_i32 : BitVec 32 := 1#32
  let arg12 : BitVec 32 := Scf.iv c0_i32_4 c1_i32 k0_t1
  let c0_i32_6 : BitVec 32 := 0#32
  let v14 : BitVec 1 := Scalar.cmpi .sgt arg12 c0_i32_6
  let v15 : BitVec 32 := Scalar.extui v14
  let c0_i32_7 : BitVec 32 := 0#32
  let v16 : BitVec 1 := Scalar.cmpi .slt arg12 c0_i32_7
  let v17 : BitVec 32 := Scalar.extui v16
  let v18 : BitVec 32 := Scalar.subi v15 v17
  let c4_i32 : BitVec 32 := 4#32
  let c0_i32_8 : BitVec 32 := 0#32
  let v19 : BitVec 1 := Scalar.cmpi .sgt c4_i32 c0_i32_8
  let v20 : BitVec 32 := Scalar.extui v19
  let c0_i32_9 : BitVec 32 := 0#32
  let v21 : BitVec 1 := Scalar.cmpi .slt c4_i32 c0_i32_9
  let v22 : BitVec 32 := Scalar.extui v21
  let v23 : BitVec 32 := Scalar.subi v20 v22
  let v24 : BitVec 1 := Scalar.cmpi .ne v18 v23
  let v25 : BitVec 32 := Scalar.remsi arg12 c4_i32
  let c0_i32_10 : BitVec 32 := 0#32
  let v26 : BitVec 1 := Scalar.cmpi .ne v25 c0_i32_10
  let v27 : BitVec 1 := Scalar.andi v24 v26
  let v13 : BitVec 32 := Scalar.divsi arg12 c4_i32
  let c1_i32_11 : BitVec 32 := 1#32
  let v28 : BitVec 32 := Scalar.subi v13 c1_i32_11
  let v29 : BitVec 32 := Scalar.select v27 v28 v13
  let c2_i32_20 : BitVec 32 := 2#32
  let c0_i32_21 : BitVec 32 := 0#32
  let v43 : BitVec 1 := Scalar.cmpi .eq c2_i32_20 c0_i32_21
  let c1_i32_22 : BitVec 32 := 1#32
  let v44 : BitVec 32 := Scalar.select v43 c1_i32_22 c2_i32_20
  let v45 : BitVec 32 := Scalar.remsi v29 v44
  let c0_i32_24 : BitVec 32 := 0#32
  let v47 : BitVec 1 := Scalar.cmpi .slt v45 c0_i32_24
  let c0_i32_25 : BitVec 32 := 0#32
  let v48 : BitVec 1 := Scalar.cmpi .slt v44 c0_i32_25
  let v49 : BitVec 1 := Scalar.xori v47 v48
  let c0_i32_23 : BitVec 32 := 0#32
  let v46 : BitVec 1 := Scalar.cmpi .ne v45 c0_i32_23
  let v50 : BitVec 1 := Scalar.andi v49 v46
  let v51 : BitVec 32 := Scalar.addi v45 v44
  let v52 : BitVec 32 := Scalar.select v50 v51 v45
  let c8192_i32 : BitVec 32 := 8192#32
  let v53 : BitVec 32 := Scalar.muli v52 c8192_i32
  let c4_i32_26 : BitVec 32 := 4#32
  let c0_i32_27 : BitVec 32 := 0#32
  let v54 : BitVec 1 := Scalar.cmpi .eq c4_i32_26 c0_i32_27
  let c1_i32_28 : BitVec 32 := 1#32
  let v55 : BitVec 32 := Scalar.select v54 c1_i32_28 c4_i32_26
  let v56 : BitVec 32 := Scalar.remsi arg12 v55
  let c0_i32_30 : BitVec 32 := 0#32
  let v58 : BitVec 1 := Scalar.cmpi .slt v56 c0_i32_30
  let c0_i32_31 : BitVec 32 := 0#32
  let v59 : BitVec 1 := Scalar.cmpi .slt v55 c0_i32_31
  let v60 : BitVec 1 := Scalar.xori v58 v59
  let c0_i32_29 : BitVec 32 := 0#32
  let v57 : BitVec 1 := Scalar.cmpi .ne v56 c0_i32_29
  let v61 : BitVec 1 := Scalar.andi v60 v57
  let v62 : BitVec 32 := Scalar.addi v56 v55
  let v63 : BitVec 32 := Scalar.select v61 v62 v56
  let c2048_i32 : BitVec 32 := 2048#32
  let v64 : BitVec 32 := Scalar.muli v63 c2048_i32
  let v65 : BitVec 32 := Scalar.addi v53 v64
  let v66 : BitVec 32 := Scalar.addi v65 c0_i32_32
  let v67 : BitVec 32 := Scalar.addi v66 c0_i32_33
  let v68 : Index := Scalar.indexCast v67
  ![v68.toNat]

def k0_chk1 (v723 : IVec S16 32) : Prop :=
  (∀ a x, ((![v723] : Fin 1 → IVec S16 32) a x).toNat < S272.size a)
theorem k0_idx1_inb : ∀ (v723 : IVec S16 32) (k0_hw1 : k0_chk1 v723), ∀ a x, ((![v723] : Fin 1 → IVec S16 32) a x).toNat < S272.size a := fun v723 k0_hw1 => k0_hw1

def k0_chk2 (v726 : IVec S16 32) : Prop :=
  (∀ a x, ((![v726] : Fin 1 → IVec S16 32) a x).toNat < S272.size a)
theorem k0_idx2_inb : ∀ (v726 : IVec S16 32) (k0_hw2 : k0_chk2 v726), ∀ a x, ((![v726] : Fin 1 → IVec S16 32) a x).toNat < S272.size a := fun v726 k0_hw2 => k0_hw2

def k0_chk3 (v729 : IVec S16 32) : Prop :=
  (∀ a x, ((![v729] : Fin 1 → IVec S16 32) a x).toNat < S272.size a)
theorem k0_idx3_inb : ∀ (v729 : IVec S16 32) (k0_hw3 : k0_chk3 v729), ∀ a x, ((![v729] : Fin 1 → IVec S16 32) a x).toNat < S272.size a := fun v729 k0_hw3 => k0_hw3

def k0_chk4 (v732 : IVec S16 32) : Prop :=
  (∀ a x, ((![v732] : Fin 1 → IVec S16 32) a x).toNat < S272.size a)
theorem k0_idx4_inb : ∀ (v732 : IVec S16 32) (k0_hw4 : k0_chk4 v732), ∀ a x, ((![v732] : Fin 1 → IVec S16 32) a x).toNat < S272.size a := fun v732 k0_hw4 => k0_hw4

def k0_chk5 (v735 : IVec S16 32) : Prop :=
  (∀ a x, ((![v735] : Fin 1 → IVec S16 32) a x).toNat < S272.size a)
theorem k0_idx5_inb : ∀ (v735 : IVec S16 32) (k0_hw5 : k0_chk5 v735), ∀ a x, ((![v735] : Fin 1 → IVec S16 32) a x).toNat < S272.size a := fun v735 k0_hw5 => k0_hw5

def k0_chk6 (v738 : IVec S16 32) : Prop :=
  (∀ a x, ((![v738] : Fin 1 → IVec S16 32) a x).toNat < S272.size a)
theorem k0_idx6_inb : ∀ (v738 : IVec S16 32) (k0_hw6 : k0_chk6 v738), ∀ a x, ((![v738] : Fin 1 → IVec S16 32) a x).toNat < S272.size a := fun v738 k0_hw6 => k0_hw6

def k0_chk7 (v741 : IVec S16 32) : Prop :=
  (∀ a x, ((![v741] : Fin 1 → IVec S16 32) a x).toNat < S272.size a)
theorem k0_idx7_inb : ∀ (v741 : IVec S16 32) (k0_hw7 : k0_chk7 v741), ∀ a x, ((![v741] : Fin 1 → IVec S16 32) a x).toNat < S272.size a := fun v741 k0_hw7 => k0_hw7

def k0_chk8 (v744 : IVec S16 32) : Prop :=
  (∀ a x, ((![v744] : Fin 1 → IVec S16 32) a x).toNat < S272.size a)
theorem k0_idx8_inb : ∀ (v744 : IVec S16 32) (k0_hw8 : k0_chk8 v744), ∀ a x, ((![v744] : Fin 1 → IVec S16 32) a x).toNat < S272.size a := fun v744 k0_hw8 => k0_hw8

def k0_chk9 (v747 : IVec S16 32) : Prop :=
  (∀ a x, ((![v747] : Fin 1 → IVec S16 32) a x).toNat < S272.size a)
theorem k0_idx9_inb : ∀ (v747 : IVec S16 32) (k0_hw9 : k0_chk9 v747), ∀ a x, ((![v747] : Fin 1 → IVec S16 32) a x).toNat < S272.size a := fun v747 k0_hw9 => k0_hw9

def k0_chk10 (v751 : IVec S16 32) : Prop :=
  (∀ a x, ((![v751] : Fin 1 → IVec S16 32) a x).toNat < S272.size a)
theorem k0_idx10_inb : ∀ (v751 : IVec S16 32) (k0_hw10 : k0_chk10 v751), ∀ a x, ((![v751] : Fin 1 → IVec S16 32) a x).toNat < S272.size a := fun v751 k0_hw10 => k0_hw10

def k0_chk11 (v755 : IVec S16 32) : Prop :=
  (∀ a x, ((![v755] : Fin 1 → IVec S16 32) a x).toNat < S272.size a)
theorem k0_idx11_inb : ∀ (v755 : IVec S16 32) (k0_hw11 : k0_chk11 v755), ∀ a x, ((![v755] : Fin 1 → IVec S16 32) a x).toNat < S272.size a := fun v755 k0_hw11 => k0_hw11

def k0_chk12 (v759 : IVec S16 32) : Prop :=
  (∀ a x, ((![v759] : Fin 1 → IVec S16 32) a x).toNat < S272.size a)
theorem k0_idx12_inb : ∀ (v759 : IVec S16 32) (k0_hw12 : k0_chk12 v759), ∀ a x, ((![v759] : Fin 1 → IVec S16 32) a x).toNat < S272.size a := fun v759 k0_hw12 => k0_hw12

def k0_chk13 (v763 : IVec S16 32) : Prop :=
  (∀ a x, ((![v763] : Fin 1 → IVec S16 32) a x).toNat < S272.size a)
theorem k0_idx13_inb : ∀ (v763 : IVec S16 32) (k0_hw13 : k0_chk13 v763), ∀ a x, ((![v763] : Fin 1 → IVec S16 32) a x).toNat < S272.size a := fun v763 k0_hw13 => k0_hw13

def k0_chk14 (v767 : IVec S16 32) : Prop :=
  (∀ a x, ((![v767] : Fin 1 → IVec S16 32) a x).toNat < S272.size a)
theorem k0_idx14_inb : ∀ (v767 : IVec S16 32) (k0_hw14 : k0_chk14 v767), ∀ a x, ((![v767] : Fin 1 → IVec S16 32) a x).toNat < S272.size a := fun v767 k0_hw14 => k0_hw14

def k0_chk15 (v771 : IVec S16 32) : Prop :=
  (∀ a x, ((![v771] : Fin 1 → IVec S16 32) a x).toNat < S272.size a)
theorem k0_idx15_inb : ∀ (v771 : IVec S16 32) (k0_hw15 : k0_chk15 v771), ∀ a x, ((![v771] : Fin 1 → IVec S16 32) a x).toNat < S272.size a := fun v771 k0_hw15 => k0_hw15

def k0_chk16 (v775 : IVec S16 32) : Prop :=
  (∀ a x, ((![v775] : Fin 1 → IVec S16 32) a x).toNat < S272.size a)
theorem k0_idx16_inb : ∀ (v775 : IVec S16 32) (k0_hw16 : k0_chk16 v775), ∀ a x, ((![v775] : Fin 1 → IVec S16 32) a x).toNat < S272.size a := fun v775 k0_hw16 => k0_hw16

def k0_chk17 (v779 : IVec S16 32) : Prop :=
  (∀ a x, ((![v779] : Fin 1 → IVec S16 32) a x).toNat < S272.size a)
theorem k0_idx17_inb : ∀ (v779 : IVec S16 32) (k0_hw17 : k0_chk17 v779), ∀ a x, ((![v779] : Fin 1 → IVec S16 32) a x).toNat < S272.size a := fun v779 k0_hw17 => k0_hw17

def k0_chk18 (v783 : IVec S16 32) : Prop :=
  (∀ a x, ((![v783] : Fin 1 → IVec S16 32) a x).toNat < S272.size a)
theorem k0_idx18_inb : ∀ (v783 : IVec S16 32) (k0_hw18 : k0_chk18 v783), ∀ a x, ((![v783] : Fin 1 → IVec S16 32) a x).toNat < S272.size a := fun v783 k0_hw18 => k0_hw18

def k0_chk19 (v787 : IVec S16 32) : Prop :=
  (∀ a x, ((![v787] : Fin 1 → IVec S16 32) a x).toNat < S272.size a)
theorem k0_idx19_inb : ∀ (v787 : IVec S16 32) (k0_hw19 : k0_chk19 v787), ∀ a x, ((![v787] : Fin 1 → IVec S16 32) a x).toNat < S272.size a := fun v787 k0_hw19 => k0_hw19

def k0_chk20 (v791 : IVec S16 32) : Prop :=
  (∀ a x, ((![v791] : Fin 1 → IVec S16 32) a x).toNat < S272.size a)
theorem k0_idx20_inb : ∀ (v791 : IVec S16 32) (k0_hw20 : k0_chk20 v791), ∀ a x, ((![v791] : Fin 1 → IVec S16 32) a x).toNat < S272.size a := fun v791 k0_hw20 => k0_hw20

def k0_chk21 (v795 : IVec S16 32) : Prop :=
  (∀ a x, ((![v795] : Fin 1 → IVec S16 32) a x).toNat < S272.size a)
theorem k0_idx21_inb : ∀ (v795 : IVec S16 32) (k0_hw21 : k0_chk21 v795), ∀ a x, ((![v795] : Fin 1 → IVec S16 32) a x).toNat < S272.size a := fun v795 k0_hw21 => k0_hw21

def k0_chk22 (v799 : IVec S16 32) : Prop :=
  (∀ a x, ((![v799] : Fin 1 → IVec S16 32) a x).toNat < S272.size a)
theorem k0_idx22_inb : ∀ (v799 : IVec S16 32) (k0_hw22 : k0_chk22 v799), ∀ a x, ((![v799] : Fin 1 → IVec S16 32) a x).toNat < S272.size a := fun v799 k0_hw22 => k0_hw22

def k0_chk23 (v803 : IVec S16 32) : Prop :=
  (∀ a x, ((![v803] : Fin 1 → IVec S16 32) a x).toNat < S272.size a)
theorem k0_idx23_inb : ∀ (v803 : IVec S16 32) (k0_hw23 : k0_chk23 v803), ∀ a x, ((![v803] : Fin 1 → IVec S16 32) a x).toNat < S272.size a := fun v803 k0_hw23 => k0_hw23

def k0_chk24 (v807 : IVec S16 32) : Prop :=
  (∀ a x, ((![v807] : Fin 1 → IVec S16 32) a x).toNat < S272.size a)
theorem k0_idx24_inb : ∀ (v807 : IVec S16 32) (k0_hw24 : k0_chk24 v807), ∀ a x, ((![v807] : Fin 1 → IVec S16 32) a x).toNat < S272.size a := fun v807 k0_hw24 => k0_hw24

def k0_chk25 (v811 : IVec S16 32) : Prop :=
  (∀ a x, ((![v811] : Fin 1 → IVec S16 32) a x).toNat < S272.size a)
theorem k0_idx25_inb : ∀ (v811 : IVec S16 32) (k0_hw25 : k0_chk25 v811), ∀ a x, ((![v811] : Fin 1 → IVec S16 32) a x).toNat < S272.size a := fun v811 k0_hw25 => k0_hw25

def k0_chk26 (v815 : IVec S16 32) : Prop :=
  (∀ a x, ((![v815] : Fin 1 → IVec S16 32) a x).toNat < S272.size a)
theorem k0_idx26_inb : ∀ (v815 : IVec S16 32) (k0_hw26 : k0_chk26 v815), ∀ a x, ((![v815] : Fin 1 → IVec S16 32) a x).toNat < S272.size a := fun v815 k0_hw26 => k0_hw26

def k0_chk27 (v819 : IVec S16 32) : Prop :=
  (∀ a x, ((![v819] : Fin 1 → IVec S16 32) a x).toNat < S272.size a)
theorem k0_idx27_inb : ∀ (v819 : IVec S16 32) (k0_hw27 : k0_chk27 v819), ∀ a x, ((![v819] : Fin 1 → IVec S16 32) a x).toNat < S272.size a := fun v819 k0_hw27 => k0_hw27

def k0_chk28 (v823 : IVec S16 32) : Prop :=
  (∀ a x, ((![v823] : Fin 1 → IVec S16 32) a x).toNat < S272.size a)
theorem k0_idx28_inb : ∀ (v823 : IVec S16 32) (k0_hw28 : k0_chk28 v823), ∀ a x, ((![v823] : Fin 1 → IVec S16 32) a x).toNat < S272.size a := fun v823 k0_hw28 => k0_hw28

def k0_chk29 (v827 : IVec S16 32) : Prop :=
  (∀ a x, ((![v827] : Fin 1 → IVec S16 32) a x).toNat < S272.size a)
theorem k0_idx29_inb : ∀ (v827 : IVec S16 32) (k0_hw29 : k0_chk29 v827), ∀ a x, ((![v827] : Fin 1 → IVec S16 32) a x).toNat < S272.size a := fun v827 k0_hw29 => k0_hw29

def k0_chk30 (v831 : IVec S16 32) : Prop :=
  (∀ a x, ((![v831] : Fin 1 → IVec S16 32) a x).toNat < S272.size a)
theorem k0_idx30_inb : ∀ (v831 : IVec S16 32) (k0_hw30 : k0_chk30 v831), ∀ a x, ((![v831] : Fin 1 → IVec S16 32) a x).toNat < S272.size a := fun v831 k0_hw30 => k0_hw30

def k0_chk31 (v835 : IVec S16 32) : Prop :=
  (∀ a x, ((![v835] : Fin 1 → IVec S16 32) a x).toNat < S272.size a)
theorem k0_idx31_inb : ∀ (v835 : IVec S16 32) (k0_hw31 : k0_chk31 v835), ∀ a x, ((![v835] : Fin 1 → IVec S16 32) a x).toNat < S272.size a := fun v835 k0_hw31 => k0_hw31

def k0_chk32 (v839 : IVec S16 32) : Prop :=
  (∀ a x, ((![v839] : Fin 1 → IVec S16 32) a x).toNat < S272.size a)
theorem k0_idx32_inb : ∀ (v839 : IVec S16 32) (k0_hw32 : k0_chk32 v839), ∀ a x, ((![v839] : Fin 1 → IVec S16 32) a x).toNat < S272.size a := fun v839 k0_hw32 => k0_hw32
def k0_off7 (k0_t1 : Fin k0_t1_loop.trips) : Fin 1 → Nat :=
  let c0_i32_4 : BitVec 32 := 0#32
  let c1_i32 : BitVec 32 := 1#32
  let arg12 : BitVec 32 := Scf.iv c0_i32_4 c1_i32 k0_t1
  let c16_i32_192 : BitVec 32 := 16#32
  let v848 : BitVec 32 := Scalar.muli arg12 c16_i32_192
  let v849 : Index := Scalar.indexCast v848
  ![v849.toNat]
def k0_off8 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
abbrev grid1 : Pipeline.Grid := ⟨1, ![2], ![false]⟩

def k1_cond2 (i : grid1.Coords) : BitVec 1 :=
  let arg0 : BitVec 32 := BitVec.ofNat 32 (i 0).val
  let c1_i32_12 : BitVec 32 := 1#32
  let v29 : BitVec 1 := Scalar.cmpi .eq arg0 c1_i32_12
  let v30 : BitVec 32 := Scalar.extui v29
  let c0_i32_13 : BitVec 32 := 0#32
  let v31 : BitVec 1 := Scalar.cmpi .ne v30 c0_i32_13
  v31

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .smem S1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6144x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .smem S1 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .smem S2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .smem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== SplitReferenceIdeal.lean ====
abbrev S16384x128 : Shape := ⟨2, ![16384, 128]⟩
abbrev S1 : Shape := ⟨1, ![1]⟩
abbrev S12288x128 : Shape := ⟨2, ![12288, 128]⟩
abbrev S4096x128 : Shape := ⟨2, ![4096, 128]⟩
abbrev S_ : Shape := ⟨0, ![]⟩
abbrev S16384 : Shape := ⟨1, ![16384]⟩
abbrev S16384x1 : Shape := ⟨2, ![16384, 1]⟩
abbrev S16384x2 : Shape := ⟨2, ![16384, 2]⟩

abbrev nBuf : Space → Nat
  | .hbm => 52
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1, .i32⟩
  | .hbm, ⟨2, _⟩ => ⟨S12288x128, .f32⟩
  | .hbm, ⟨3, _⟩ => ⟨S4096x128, .f32⟩
  | .hbm, ⟨4, _⟩ => ⟨S16384x128, .f32⟩
  | .hbm, ⟨5, _⟩ => ⟨S_, .f32⟩
  | .hbm, ⟨6, _⟩ => ⟨S16384, .f32⟩
  | .hbm, ⟨7, _⟩ => ⟨S16384x128, .i32⟩
  | .hbm, ⟨8, _⟩ => ⟨S_, .f32⟩
  | .hbm, ⟨9, _⟩ => ⟨S_, .i32⟩
  | .hbm, ⟨10, _⟩ => ⟨S16384, .f32⟩
  | .hbm, ⟨11, _⟩ => ⟨S16384, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16384, .i32⟩
  | .hbm, ⟨19, _⟩ => ⟨S16384, .f32⟩
  | .hbm, ⟨20, _⟩ => ⟨S16384, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384x1, .i32⟩
  | .hbm, ⟨37, _⟩ => ⟨S16384x2, .i32⟩
  | .hbm, ⟨38, _⟩ => ⟨S16384x128, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_cst_0 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Cases.lean ====
/- What each grid point leaves: the two running sums after it as the kernel's own payloads over the two before it, and
   the result word of the last point. -/
module

public import proofs.«01_k».proof.Proof.Gen.KernelIdeal.Value
public import Idealize.ShloMosaic.Lib.ValueIdx
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem Idealize.ShloMosaic.ValueIdx

variable {F : FTy → Type} [FloatOps F]

/-- Two words as the contents of a two-word array. -/
def pair (a b : F .f32) : Vec F S2 .f32 := fun i => if (i 0).val = 0 then a else b

theorem pair_zero (a b : F .f32) : pair a b (ix1 0) = a := rfl
theorem pair_one (a b : F .f32) : pair a b (ix1 1) = b := rfl

/-- Contents given by a store of word 1 after a store of word 0 are those two words. -/
theorem canon_pair (a b : F .f32) (L : List (View.Piece (Elt F) S2 .f32)) :
    View.canon ((⟨Rect.unit ![1] ![1] inb_S2_S1_1, fun _ => b⟩ : View.Piece (Elt F) S2 .f32)
      :: (⟨Rect.unit ![0] ![1] inb_S2_S1_0, fun _ => a⟩ : View.Piece (Elt F) S2 .f32) :: L) = pair a b := by
  funext y
  obtain ⟨k, rfl⟩ : ∃ k : Fin 2, y = ix1 k := ⟨y 0, eq_ix1 (y : (⟨1, ![2]⟩ : Shape).Idx)⟩
  have h1 : (ix1 (1 : Fin 2) : S2.Idx) = (Rect.unit (s := S2) ![1] ![1] inb_S2_S1_1).emb (ix1 0) := by
    funext a; match a with | ⟨0, _⟩ => exact Fin.ext rfl
  have h0 : (ix1 (0 : Fin 2) : S2.Idx) = (Rect.unit (s := S2) ![0] ![1] inb_S2_S1_0).emb (ix1 0) := by
    funext a; match a with | ⟨0, _⟩ => exact Fin.ext rfl
  have hn : (ix1 (0 : Fin 2) : S2.Idx) ∉ (Rect.unit (s := S2) ![1] ![1] inb_S2_S1_1).set := fun h => by
    have := ((Rect.mem_set_unit ..).1 h 0).1
    exact absurd this (by decide)
  match k with
  | ⟨0, _⟩ =>
    rw [View.canon_cons_of_not_mem _ _ hn]
    exact (congrArg _ h0).trans (View.canon_cons_emb ..)
  | ⟨1, _⟩ => exact (congrArg _ h1).trans (View.canon_cons_emb ..)

variable (c : Dev nD) (i : grid0.Coords) (arg1 : Memref sig .tc .smem S1 .i32) (harg1 : arg1.IsWhole) (arg2 : Memref sig .tc .vmem S2048x128 .f32) (harg2 : arg2.IsWhole) (arg3 : Memref sig .tc .smem S1 .f32) (harg3 : arg3.IsWhole) (arg4 : Memref sig .tc .smem S2 .f32) (harg4 : arg4.IsWhole)
  (x0 : Vec F S1 .i32) (x1 : Vec F S2048x128 .f32) (xs0 : Vec F S2 .f32)

/-- One step of the running sums. -/
def step (x0 : Vec F S1 .i32) (x1 : Vec F S2048x128 .f32) (xs0 : Vec F S2 .f32) : Vec F S2 .f32 :=
  pair (k0_pay3 (x0 (ix1 0)) x1 (xs0 (ix1 0))) (k0_pay4 (x0 (ix1 0)) x1 (xs0 (ix1 1)))

theorem ld_label (x : S1.Idx) : View.readAt (Elt F) arg1.view (Rect.unit (s := S1) ![0] S1.size inb_S1_S1_0).toLoadRect (harg1.unread x0) x = x0 (ix1 0) := by
  rw [View.readAt_eq_ld, harg1.read_unread]
  exact congrArg x0 (by funext a; match a with | ⟨0, _⟩ => exact Subsingleton.elim (α := Fin 1) _ _)

theorem ld_sum0 (x : S1.Idx) : View.readAt (Elt F) arg4.view (Rect.unit (s := S2) ![0] S1.size inb_S2_S1_0).toLoadRect (harg4.unread xs0) x = xs0 (ix1 0) := by
  have hx : (x 0).val = 0 := congrArg Fin.val (Subsingleton.elim (α := Fin 1) (x 0) 0)
  rw [View.readAt_eq_ld, harg4.read_unread]
  exact congrArg xs0 (by funext a; match a with | ⟨0, _⟩ => exact Fin.ext (by simp [ix1, hx]))

theorem ld_sum1 (x : S1.Idx) : View.readAt (Elt F) arg4.view (Rect.unit (s := S2) ![1] S1.size inb_S2_S1_1).toLoadRect (harg4.unread xs0) x = xs0 (ix1 1) := by
  have hx : (x 0).val = 0 := congrArg Fin.val (Subsingleton.elim (α := Fin 1) (x 0) 0)
  rw [View.readAt_eq_ld, harg4.read_unread]
  exact congrArg xs0 (by funext a; match a with | ⟨0, _⟩ => exact Fin.ext (by simp [ix1, hx]))

theorem ld_block : View.readAt (Elt F) arg2.view (Rect.unit (s := S2048x128) ![0, 0] ![2048, 128] inb_S2048x128_S2048x128_0_0).toLoadRect (harg2.unread x1) = x1 := by
  rw [View.readAt_eq_ld, harg2.read_unread]
  exact View.ld_unit_zero (S := S2048x128) (funext fun a => by fin_cases a <;> rfl) _ _

theorem step_B (hc0 : ¬cond0_0 i) (hc1 : ¬cond0_1 i) :
    sout0_B_0 c i arg1 harg1 arg2 harg2 arg3 harg3 arg4 harg4 hc0 hc1 x0 x1 xs0 = step x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [canon_pair, ld_label, ld_block, ld_sum0, ld_sum1]
  rfl

theorem step_A (hc0 : cond0_0 i) (hc1 : ¬cond0_1 i) :
    sout0_A_0 c i arg1 harg1 arg2 harg2 arg3 harg3 arg4 harg4 hc0 hc1 x0 x1 = step x0 x1 (fun _ => FloatOps.ofBits .f32 0#32) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [canon_pair, ld_label, ld_block]
  rfl

theorem out_C (hc0 : ¬cond0_0 i) (hc1 : cond0_1 i) :
    out0_C_2 c i arg1 harg1 arg2 harg2 arg3 harg3 arg4 harg4 hc0 hc1 x0 x1 xs0
      = fun _ => k0_pay5 (x0 (ix1 0)) (step x0 x1 xs0 (ix1 1)) (step x0 x1 xs0 (ix1 0)) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_cons_unit_zero (funext fun a => by fin_cases a; rfl)]
  rw [ld_label, ld_sum0, ld_sum1]
  rw [show View.readAt (Elt F) arg2.view (Rect.unit (s := S2048x128) ![0, 0] S2048x128.size inb_S2048x128_S2048x128_0_0).toLoadRect (harg2.unread x1) = x1 from ld_block arg2 harg2 x1]
  rfl
end Cert.KernelIdeal.Value

end
-- ==== Proof.Rows.lean ====
/- One row of positive reals: its sum, its maximum, the log of its sum after the maximum is scaled, and the sum of
   the squared differences of logs as a polynomial in that log. -/
module

public import Idealize.ShloMosaic.PureOps.Ideal
public import Idealize.ShloMosaic.Lib.IdealHost

@[expose] public section

noncomputable section

namespace Cert.Rows

open Idealize.ShloMosaic

/-- The greatest of 128 reals. -/
def top (v : Fin 128 → ℝ) : ℝ := Finset.univ.sup' Finset.univ_nonempty v

theorem le_top (v : Fin 128 → ℝ) (k : Fin 128) : v k ≤ top v := Finset.le_sup' v (Finset.mem_univ k)

theorem exists_top (v : Fin 128 → ℝ) : ∃ k, v k = top v := by
  obtain ⟨k, _, h⟩ := Finset.exists_mem_eq_sup' Finset.univ_nonempty v
  exact ⟨k, h.symm⟩

/-- The sum of a row once its maximum has been scaled by `f`. -/
def mass (f : ℝ) (v : Fin 128 → ℝ) : ℝ := ∑ k, v k + top v * (f - 1)

/-- Its log. -/
def ell (f : ℝ) (v : Fin 128 → ℝ) : ℝ := Real.log (mass f v)

theorem sum_scaled (f : ℝ) (v : Fin 128 → ℝ) (k : Fin 128) (hk : v k = top v) :
    ∑ j, (if j = k then v k * f else v j) = mass f v := by
  have h : ∀ j, (if j = k then v k * f else v j) = v j + (if j = k then v k * (f - 1) else 0) := fun j => by
    by_cases e : j = k
    · subst e; simp; ring
    · simp [e]
  rw [Finset.sum_congr rfl fun j _ => h j]
  simp only [Finset.sum_add_distrib, Finset.sum_ite_eq', Finset.mem_univ, if_true, mass, hk]

theorem mass_pos (f : ℝ) (hf : 0 < f) (v : Fin 128 → ℝ) (hv : ∀ k, 0 < v k) : 0 < mass f v := by
  obtain ⟨k, hk⟩ := exists_top v
  rw [← sum_scaled f v k hk]
  refine Finset.sum_pos (fun j _ => ?_) Finset.univ_nonempty
  split
  · exact mul_pos (hv k) hf
  · exact hv j

/-- The squared differences of a row's logs, summed. -/
def rowLoss (f : ℝ) (v : Fin 128 → ℝ) : ℝ := 128 * (ell f v * ell f v) - 2 * Real.log f * ell f v + Real.log f * Real.log f

theorem sum_sq (f : ℝ) (hf : 0 < f) (v : Fin 128 → ℝ) (hv : ∀ k, 0 < v k) (k : Fin 128) (hk : v k = top v) :
    ∑ j, (Real.log (v j) - Real.log ((if j = k then v k * f else v j) / mass f v))
        * (Real.log (v j) - Real.log ((if j = k then v k * f else v j) / mass f v)) = rowLoss f v := by
  have hm := mass_pos f hf v hv
  have h : ∀ j, (Real.log (v j) - Real.log ((if j = k then v k * f else v j) / mass f v))
      * (Real.log (v j) - Real.log ((if j = k then v k * f else v j) / mass f v))
      = ell f v * ell f v + (if j = k then (Real.log f * Real.log f - 2 * Real.log f * ell f v) else 0) := fun j => by
    by_cases e : j = k
    · subst e
      simp only [if_true]
      rw [Real.log_div (mul_pos (hv j) hf).ne' hm.ne', Real.log_mul (hv j).ne' hf.ne']
      unfold ell; ring
    · simp only [e, if_false]
      rw [Real.log_div (hv j).ne' hm.ne']
      unfold ell; ring
  simp only [h, Finset.sum_add_distrib, Finset.sum_ite_eq', Finset.mem_univ, if_true, Finset.sum_const,
    Finset.card_univ, Fintype.card_fin, nsmul_eq_mul, rowLoss]
  push_cast
  ring

/-! ## The same in the extended reals -/

theorem coe_sum {ι : Type} (s : Finset ι) (g : ι → ℝ) : ∑ i ∈ s, ((g i : ℝ) : EReal) = ((∑ i ∈ s, g i : ℝ) : EReal) := by
  classical
  refine Finset.induction_on s (by simp) (fun a s ha ih => ?_)
  rw [Finset.sum_insert ha, Finset.sum_insert ha, ih, EReal.coe_add]

theorem fold_max (v : Fin 128 → ℝ) : Finset.univ.fold max (⊥ : EReal) (fun k => ((v k : ℝ) : EReal)) = ((top v : ℝ) : EReal) := by
  change Finset.univ.sup (fun k => ((v k : ℝ) : EReal)) = _
  refine le_antisymm (Finset.sup_le fun k _ => EReal.coe_le_coe_iff.mpr (le_top v k)) ?_
  obtain ⟨k, hk⟩ := exists_top v
  rw [← hk]
  exact Finset.le_sup (f := fun k => ((v k : ℝ) : EReal)) (Finset.mem_univ k)

theorem log_coe_pos {r : ℝ} (h : 0 < r) : Ideal.log ((r : ℝ) : EReal) = ((Real.log r : ℝ) : EReal) := by
  rw [Ideal.log_coe, if_neg (not_le.mpr h)]

theorem div_coe_pos {a b : ℝ} (h : b ≠ 0) : Ideal.div ((a : ℝ) : EReal) ((b : ℝ) : EReal) = ((a / b : ℝ) : EReal) := by
  rw [Ideal.div_coe h, ← EReal.coe_mul, mul_one_div]

theorem ell_coe (f : ℝ) (hf : 0 < f) (v : Fin 128 → ℝ) (hv : ∀ k, 0 < v k) :
    Ideal.log (((∑ k, v k : ℝ) : EReal) + ((top v : ℝ) : EReal) * (((f : ℝ) : EReal) - 1)) = ((ell f v : ℝ) : EReal) := by
  have h1 : ((f : ℝ) : EReal) - 1 = ((f - 1 : ℝ) : EReal) := by rw [EReal.coe_sub, EReal.coe_one]
  rw [h1, ← EReal.coe_mul, ← EReal.coe_add]
  exact log_coe_pos (mass_pos f hf v hv)

/-! ## The factor -/

theorem word_five_fourths : Ideal.ofBits .f32 0x3FA00000#32 = ((5 / 4 : ℝ) : EReal) := by
  simp [Ideal.ofBits, Ideal.ieee]
  rw [← EReal.coe_mul]
  norm_num

theorem word_nine_tenths : Ideal.ofBits .f32 0x3F666666#32 = ((15099494 / 16777216 : ℝ) : EReal) := by
  simp [Ideal.ofBits, Ideal.ieee]
  rw [← EReal.coe_mul]
  norm_num

/-- The factor that a label word chooses. -/
def factor (w : BitVec 32) : ℝ := if w = 1#32 then 5 / 4 else 15099494 / 16777216

theorem factor_pos (w : BitVec 32) : 0 < factor w := by
  unfold factor; split <;> norm_num

theorem factor_word (w : BitVec 32) :
    Scalar.select (IntOp.cmpi .eq w 1#32) (Ideal.ofBits .f32 0x3FA00000#32) (Ideal.ofBits .f32 0x3F666666#32) = ((factor w : ℝ) : EReal) := by
  rw [word_five_fourths, word_nine_tenths]
  by_cases h : w = 1#32
  · subst h; simp [Scalar.select, IntOp.cmpi, factor]
  · have h' : (w == 1#32) = false := by simpa using h
    simp [Scalar.select, IntOp.cmpi, factor, h, h']

end Cert.Rows

end
-- ==== Proof.Sums.lean ====
/- The kernel's result word at the ideal values: the running sums after each point as real sums over the rows read so
   far, and the word that the last point writes. -/
module

public import proofs.«01_k».proof.Proof.Cases
public import proofs.«01_k».proof.Proof.Rows
public import Idealize.ShloMosaic.Lib.Pointwise
public import Idealize.ShloMosaic.PureOps.Ideal.Laws

@[expose] public section

noncomputable section

namespace Cert.KernelIdeal.Value

open Cert.KernelIdeal Cert.KernelIdeal.Gen Idealize.ShloMosaic.TcCoe Idealize.SL.Sem
open Idealize.ShloMosaic hiding ix1 ix2 eq_ix2
open Idealize.ShloMosaic.ValueIdx

/-! ## The payloads -/

theorem word_bot : Ideal.ofBits .f32 0xFF800000#32 = (⊥ : EReal) := by simp [Ideal.ofBits, Ideal.ieee]
theorem word_one : Ideal.ofBits .f32 0x3F800000#32 = (1 : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_128 : Ideal.ofBits .f32 0x43000000#32 = ((128 : ℝ) : EReal) := by
  simp [Ideal.ofBits, Ideal.ieee]; rw [← EReal.coe_mul]; norm_num
theorem word_16384 : Ideal.ofBits .f32 0x46800000#32 = ((16384 : ℝ) : EReal) := by
  simp [Ideal.ofBits, Ideal.ieee]; rw [← EReal.coe_mul]; norm_num

theorem pay1_eq (w : BitVec 32) : k0_pay1 (F := Ideal) w = ((Rows.factor w : ℝ) : EReal) := Rows.factor_word w

section
variable (w : BitVec 32) (B : Vec Ideal S2048x128 .f32) (y : Fin 2048 → Fin 128 → ℝ)
  (hB : ∀ r k, B (ix2 r k) = ((y r k : ℝ) : EReal)) (hy : ∀ r k, 0 < y r k)
include hB hy

theorem pay2_apply (r : Fin 2048) : k0_pay2 w B (ix1 r) = ((Rows.ell (Rows.factor w) (y r) : ℝ) : EReal) := by
  have h : k0_pay2 w B (ix1 r) = Ideal.log ((∑ k : Fin 128, B (ix2 r k))
      + Finset.univ.fold max (Ideal.ofBits .f32 0xFF800000#32) (fun k : Fin 128 => B (ix2 r k)) * (k0_pay1 (F := Ideal) w - Ideal.ofBits .f32 0x3F800000#32)) := by
    unfold k0_pay2
    generalize k0_pay1 (F := Ideal) w = p
    dsimp only
    pointwise
    rfl
  rw [h, word_bot, word_one, pay1_eq]
  simp only [hB]
  rw [Rows.coe_sum, Rows.fold_max]
  exact Rows.ell_coe _ (Rows.factor_pos w) _ (hy r)

theorem pay3_apply (a : ℝ) : k0_pay3 (F := Ideal) w B ((a : ℝ) : EReal) = ((a + ∑ r, Rows.ell (Rows.factor w) (y r) : ℝ) : EReal) := by
  have h : k0_pay3 (F := Ideal) w B ((a : ℝ) : EReal) = ((a : ℝ) : EReal) + ∑ r : Fin 2048, k0_pay2 w B (ix1 r) := by
    unfold k0_pay3
    generalize k0_pay2 w B = E
    dsimp only
    pointwise
    rfl
  rw [h]
  simp only [pay2_apply w B y hB hy]
  rw [Rows.coe_sum, EReal.coe_add]

theorem pay4_apply (a : ℝ) : k0_pay4 (F := Ideal) w B ((a : ℝ) : EReal)
    = ((a + ∑ r, Rows.ell (Rows.factor w) (y r) * Rows.ell (Rows.factor w) (y r) : ℝ) : EReal) := by
  have h : k0_pay4 (F := Ideal) w B ((a : ℝ) : EReal) = ((a : ℝ) : EReal) + ∑ r : Fin 2048, k0_pay2 w B (ix1 r) * k0_pay2 w B (ix1 r) := by
    unfold k0_pay4
    generalize k0_pay2 w B = E
    dsimp only
    pointwise
    rfl
  rw [h]
  simp only [pay2_apply w B y hB hy, ← EReal.coe_mul]
  rw [Rows.coe_sum, EReal.coe_add]

end

theorem pay5_apply (w : BitVec 32) (a b : ℝ) : k0_pay5 (F := Ideal) w ((b : ℝ) : EReal) ((a : ℝ) : EReal)
    = (((128 * b - 2 * Real.log (Rows.factor w) * a + 16384 * Real.log (Rows.factor w) * Real.log (Rows.factor w)) / 2097152 : ℝ) : EReal) := by
  have h : k0_pay5 (F := Ideal) w ((b : ℝ) : EReal) ((a : ℝ) : EReal)
      = Ideal.div (Ideal.ofBits .f32 0x43000000#32 * ((b : ℝ) : EReal) - Ideal.ofBits .f32 0x40000000#32 * Ideal.log (k0_pay1 (F := Ideal) w) * ((a : ℝ) : EReal)
          + Ideal.ofBits .f32 0x46800000#32 * Ideal.log (k0_pay1 (F := Ideal) w) * Ideal.log (k0_pay1 (F := Ideal) w))
        (Ideal.ofBits .f32 0x43000000#32 * Ideal.ofBits .f32 0x46800000#32) := by
    unfold k0_pay5
    generalize k0_pay1 (F := Ideal) w = p
    rfl
  rw [h, pay1_eq, Rows.log_coe_pos (Rows.factor_pos w), word_two, word_128, word_16384]
  simp only [← EReal.coe_mul, ← EReal.coe_sub, ← EReal.coe_add]
  rw [Rows.div_coe_pos (by norm_num)]
  congr 2
  norm_num

/-! ## The blocks -/

variable (m : (ℓ : Loc nD τ sig) → Buf (Elt Ideal) ℓ)

/-- The row read at place `r` of point `n`'s block. -/
def row (n : ℕ) (hn : n < 8) (r : Fin 2048) : Fin 16384 := ⟨2048 * n + r.val, by have := r.isLt; omega⟩

theorem label_apply (c : Dev nD) (t : Fin cfg0.N) : (iblk m c 0 t : Vec Ideal S1 .i32) (ix1 0) = m ((c : Thread nD τ).loc main_arg1) (ix1 0) := by
  unfold iblk
  rw [View.read_apply]
  show V m c main_arg1 _ = m (c.tc.loc main_arg1) _
  unfold V
  congr 1
  funext a
  match a with
  | ⟨0, _⟩ => exact Subsingleton.elim (α := Fin 1) _ _

theorem block_apply (c : Dev nD) (t : Fin cfg0.N) (ht : t.val < 8) (r : Fin 2048) (k : Fin 128) :
    (iblk m c 1 t : Vec Ideal S2048x128 .f32) (ix2 r k) = m ((c : Thread nD τ).loc main_arg0) (ix2 (row t.val ht r) k) := by
  have hi : win0_1.index t 0 = t.val ∧ win0_1.index t 1 = 0 := by
    rcases fin_N0 t with rfl | rfl | rfl | rfl | rfl | rfl | rfl | rfl <;> decide
  unfold iblk
  rw [View.read_apply]
  show V m c main_arg0 _ = m (c.tc.loc main_arg0) _
  unfold V
  congr 1
  funext a
  apply Fin.ext
  match a with
  | ⟨0, _⟩ => show win0_1.index t 0 * 2048 + 1 * r.val = 2048 * t.val + r.val; rw [hi.1]; omega
  | ⟨1, _⟩ => show win0_1.index t 1 * 128 + 1 * k.val = k.val; rw [hi.2]; omega

/-! ## The running sums -/

section
variable (c : Dev nD) (x : Fin 16384 → Fin 128 → ℝ)
  (hX : ∀ r k, m ((c : Thread nD τ).loc main_arg0) (ix2 r k) = ((x r k : ℝ) : EReal)) (hx : ∀ r k, 0 < x r k)
include hX hx

/-- The factor's label word, and the log of a row's scaled sum. -/
abbrev lab : BitVec 32 := m ((c : Thread nD τ).loc main_arg1) (ix1 0)

/-- A quantity summed over the rows of point `n`'s block. -/
def part (g : Fin 16384 → ℝ) (n : ℕ) : ℝ := if hn : n < 8 then ∑ r : Fin 2048, g (row n hn r) else 0

omit hX hx in
theorem sum_parts (g : Fin 16384 → ℝ) : ∑ n ∈ Finset.range 8, part g n = ∑ r, g r := by
  rw [← Fin.sum_univ_eq_sum_range (fun n => part g n) 8]
  have h : ∀ n : Fin 8, part g n.val = ∑ r : Fin 2048, g (row n.val n.isLt r) := fun n => dif_pos n.isLt
  rw [Finset.sum_congr rfl fun n _ => h n, ← Finset.sum_product' (f := fun (n : Fin 8) (r : Fin 2048) => g (row n.val n.isLt r))]
  refine Finset.sum_bij' (fun p _ => row p.1.val p.1.isLt p.2)
    (fun r _ => (⟨r.val / 2048, by have := r.isLt; omega⟩, ⟨r.val % 2048, by omega⟩)) ?_ ?_ ?_ ?_ ?_
  · intro p _; exact Finset.mem_univ _
  · intro r _; exact Finset.mem_product.mpr ⟨Finset.mem_univ _, Finset.mem_univ _⟩
  · rintro ⟨n, r⟩ _
    have := n.isLt; have := r.isLt
    refine Prod.ext (Fin.ext ?_) (Fin.ext ?_) <;> show _ = _ <;> dsimp only [row] <;> omega
  · intro r _
    exact Fin.ext (show 2048 * (r.val / 2048) + r.val % 2048 = r.val by omega)
  · intro p _; rfl

theorem step_apply (t : Fin cfg0.N) (ht : t.val < 8) (a b : ℝ) (acc : Vec Ideal S2 .f32)
    (h0 : acc (ix1 0) = ((a : ℝ) : EReal)) (h1 : acc (ix1 1) = ((b : ℝ) : EReal)) :
    step (iblk m c 0 t) (iblk m c 1 t) acc (ix1 0) = ((a + part (fun r => Rows.ell (Rows.factor (lab m c)) (x r)) t.val : ℝ) : EReal)
    ∧ step (iblk m c 0 t) (iblk m c 1 t) acc (ix1 1)
      = ((b + part (fun r => Rows.ell (Rows.factor (lab m c)) (x r) * Rows.ell (Rows.factor (lab m c)) (x r)) t.val : ℝ) : EReal) := by
  have hB : ∀ r k, (iblk m c 1 t : Vec Ideal S2048x128 .f32) (ix2 r k) = ((x (row t.val ht r) k : ℝ) : EReal) := fun r k =>
    (block_apply m c t ht r k).trans (hX _ _)
  unfold step part
  rw [pair_zero, pair_one, label_apply, h0, h1, dif_pos ht, dif_pos ht]
  exact ⟨pay3_apply _ _ (fun r => x (row t.val ht r)) hB (fun r k => hx _ k) a,
    pay4_apply _ _ (fun r => x (row t.val ht r)) hB (fun r k => hx _ k) b⟩

theorem sums_apply (n : ℕ) (hn : n < cfg0.N) (h7 : n < 7) :
    (outsAt0 m c n hn).2 (ix1 0) = ((∑ k ∈ Finset.range (n + 1), part (fun r => Rows.ell (Rows.factor (lab m c)) (x r)) k : ℝ) : EReal)
    ∧ (outsAt0 m c n hn).2 (ix1 1)
      = ((∑ k ∈ Finset.range (n + 1), part (fun r => Rows.ell (Rows.factor (lab m c)) (x r) * Rows.ell (Rows.factor (lab m c)) (x r)) k : ℝ) : EReal) := by
  induction n with
  | zero =>
    rw [outsAt0_A m c ⟨0, hn⟩ rfl (by show ¬(0 % 8 = 7); decide)]
    dsimp only
    rw [step_A]
    have hz : FloatOps.ofBits (F := Ideal) .f32 0#32 = ((0 : ℝ) : EReal) := by simp [Ideal.ofBits, Ideal.ieee]
    have := step_apply m c x hX hx ⟨0, hn⟩ (by show 0 < 8; decide) 0 0 (fun _ => FloatOps.ofBits (F := Ideal) .f32 0#32) hz hz
    simpa using this
  | succ n ih =>
    obtain ⟨h0, h1⟩ := ih (by omega) (by omega)
    rw [outsAt0_B m c ⟨n + 1, hn⟩ (by show ¬(n + 1) % 8 = 0; omega) (by show ¬(n + 1) % 8 = 7; omega)]
    dsimp only
    rw [step_B, Finset.sum_range_succ _ (n + 1), Finset.sum_range_succ _ (n + 1)]
    exact step_apply m c x hX hx ⟨n + 1, hn⟩ (by show n + 1 < 8; omega) _ _ _ h0 h1

/-- The word that the last point writes. -/
theorem last_apply (h : ¬(t0_7.val % 8 = 0)) (h' : t0_7.val % 8 = 7) (i : S1.Idx) :
    out0_C_2 c (grid0.coords t0_7) (ms0_0 t0_7) (hs0_0 t0_7) (ms0_1 t0_7) (hs0_1 t0_7) (ms0_2 t0_7) (hs0_2 t0_7) scM0_0 (Memref.isWhole_whole _) (fun e => h ((hcond0_0 t0_7).mp e)) ((hcond0_1 t0_7).mpr h') (iblk m c 0 t0_7) (iblk m c 1 t0_7) (outsAt0 m c (t0_7.val - 1) (Nat.lt_of_le_of_lt (Nat.sub_le _ _) t0_7.isLt)).2 i
      = (((∑ r, Rows.rowLoss (Rows.factor (lab m c)) (x r)) / 2097152 : ℝ) : EReal) := by
  obtain ⟨h0, h1⟩ := sums_apply m c x hX hx 6 (Nat.lt_of_le_of_lt (Nat.sub_le t0_7.val 1) t0_7.isLt) (by decide)
  obtain ⟨e0, e1⟩ := step_apply m c x hX hx t0_7 (by decide) _ _ _ h0 h1
  rw [out_C]
  dsimp only
  rw [label_apply]
  have e0' := e0.trans (congrArg Real.toEReal ((Finset.sum_range_succ _ 7).symm.trans (sum_parts _)))
  have e1' := e1.trans (congrArg Real.toEReal ((Finset.sum_range_succ _ 7).symm.trans (sum_parts _)))
  refine (congrArg₂ (k0_pay5 (F := Ideal) _) e1' e0').trans ((pay5_apply _ _ _).trans ?_)
  refine congrArg (fun z : ℝ => ((z / 2097152 : ℝ) : EReal)) ?_
  unfold Rows.rowLoss
  rw [Finset.sum_add_distrib, Finset.sum_sub_distrib, ← Finset.mul_sum, ← Finset.mul_sum, Finset.sum_const, Finset.card_univ, Fintype.card_fin, nsmul_eq_mul]
  push_cast
  ring

end

/-! ## The result array -/

variable (ρ : Dev nD → PrngReg)

/-- From positive reals the kernel's result is the mean of the rows' losses. -/
theorem result_apply (c : Dev nD) (x : Fin 16384 → Fin 128 → ℝ)
    (hX : ∀ r k, m ((c : Thread nD τ).loc main_arg0) (ix2 r k) = ((x r k : ℝ) : EReal)) (hx : ∀ r k, 0 < x r k) :
    (dats m 0 c).arrAt 2 cfg0.N = fun _ => (((∑ r, Rows.rowLoss (Rows.factor (lab m c)) (x r)) / 2097152 : ℝ) : EReal) := by
  refine (dats m 0 c).arrAt_eq_of_cover 2 (fun _ => (((∑ r, Rows.rowLoss (Rows.factor (lab m c)) (x r)) / 2097152 : ℝ) : EReal)) (fun t hf => ?_) fun i => ?_
  · have h7 : t.val = 7 := by
      have := (flush0_2 t).mp hf
      have h8 : cfg0.N = 8 := N_0
      have := t.isLt
      omega
    obtain rfl : t = t0_7 := Fin.ext h7
    rw [flushed2_C m c t0_7 (by decide) (by decide)]
    funext i
    rw [View.read_apply]
    exact last_apply m c x hX hx (by decide) (by decide) _
  · refine ⟨t0_7, (flush0_2 t0_7).mpr (by decide), ?_⟩
    show i ∈ ((View.whole main_v0).slice (win0_2.rect t0_7)).set
    rw [View.set_slice_whole, Rect.mem_set_unit]
    intro a
    have h0 : (i 0 : Nat) < 1 := (i 0).isLt
    match a with
    | ⟨0, _⟩ => show win0_2.index t0_7 0 * win0_2.size 0 ≤ (i 0 : Nat) ∧ (i 0 : Nat) < win0_2.index t0_7 0 * win0_2.size 0 + win0_2.xsize (grid0.coords t0_7) 0
                rw [show win0_2.index t0_7 0 * win0_2.size 0 = 0 from by decide +kernel, show win0_2.xsize (grid0.coords t0_7) 0 = 1 from by decide +kernel]; omega

end Cert.KernelIdeal.Value

end
-- ==== Proof.RefTerm.lean ====
/- What the reference computes, as a composition of named pure terms of the two arguments: the row maxima and
   where they stand, the rescaled maxima put back, the normalised rows, and the mean squared difference of logs. -/
module

public import proofs.«01_k».proof.Proof.Gen.ReferenceIdeal

@[expose] public section

noncomputable section

namespace Cert.ReferenceIdeal.Term

open Cert.ReferenceIdeal Cert.ReferenceIdeal.Gen Idealize.ShloMosaic

variable {F : FTy → Type} [FloatOps F]

/-- The factor the label chooses: 1.25 where it is one, 0.9 elsewhere. -/
def factor (l : IVec S1 32) : FVec F S_ .f32 :=
  select (cmpi .eq (shapeCast _ l shapeCasts_S1_S_) (constantI S_ 32 1#32)) (constant S_ .f32 0x3FA00000#32)
    (constant S_ .f32 0x3F666666#32)

/-- Each row's maximum. -/
def rowMax (X : FVec F S16384x128 .f32) : FVec F S16384 .f32 :=
  Host.reduce FloatOps.maximumf X (constant S_ .f32 0xFF800000#32) reducesTo_S16384x128_S16384_d1 h_S_

/-- The column at which each row's maximum stands. -/
def rowArg (X : FVec F S16384x128 .f32) : IVec S16384 32 := fun j =>
  (Host.argReduce reducer_argmax_f32_i32 X (iotaInDim S16384x128 32 1) (constant S_ .f32 0xFF800000#32)
    (constantI S_ 32 0#32) reducesTo_S16384x128_S16384_d1 h_S_ j).2

theorem rowArg_eq (X : FVec F S16384x128 .f32) : rowArg X = fun j =>
    (Host.argReduce reducer_argmax_f32_i32 X (iotaInDim S16384x128 32 1) (constant S_ .f32 0xFF800000#32)
      (constantI S_ 32 0#32) reducesTo_S16384x128_S16384_d1 h_S_ j).2 := rfl

/-- An index word that is negative counts from the end of an axis of `n` elements. -/
def wrap (n : BitVec 32) (i : IVec S16384 32) : IVec S16384 32 :=
  select (cmpi .slt i (broadcastInDim S16384 ![] bcast_S_S16384 (constantI S_ 32 0#32)))
    (addi i (broadcastInDim S16384 ![] bcast_S_S16384 (constantI S_ 32 n))) i

/-- Where each row's new maximum is written: the pair of the row and the column of its maximum. -/
def places (X : FVec F S16384x128 .f32) : IVec S16384x2 32 :=
  concatenate S16384x2 1
    [⟨S16384x1, broadcastInDim S16384x1 ![0] bcast_S16384_S16384x1_0 (wrap 16384#32 (iotaInDim S16384 32 0))⟩,
     ⟨S16384x1, broadcastInDim S16384x1 ![0] bcast_S16384_S16384x1_0 (wrap 128#32 (rowArg X))⟩]
    concatenates_S16384x1_S16384x1_S16384x2_d1

/-- The maxima times the factor. -/
def scaledMax (X : FVec F S16384x128 .f32) (l : IVec S1 32) : FVec F S16384 .f32 :=
  mulf (rowMax X) (broadcastInDim S16384 ![] bcast_S_S16384 (factor l))

/-- The array with each row's maximum replaced by its scaled value. -/
def swapped (X : FVec F S16384x128 .f32) (l : IVec S1 32) : FVec F S16384x128 .f32 :=
  Host.scatter scatter_S16384x128_S16384x2_S16384_n_01_01_1 (fun _ b => b) X (places X) (scaledMax X l)

/-- Each row divided by its sum. -/
def normed (Y : FVec F S16384x128 .f32) : FVec F S16384x128 .f32 :=
  Host.divf Y (broadcastInDim S16384x128 ![0, 1] bcast_S16384x1_S16384x128_0_1
    (broadcastInDim S16384x1 ![0] bcast_S16384_S16384x1_0
      (Host.reduceAdd Y (constant S_ .f32 0x00000000#32) reducesTo_S16384x128_S16384_d1 h_S_)))

/-- The difference of the logs. -/
def diff (X : FVec F S16384x128 .f32) (l : IVec S1 32) : FVec F S16384x128 .f32 :=
  subf (Host.log X) (Host.log (normed (swapped X l)))

/-- The mean of its squares. -/
def loss (X : FVec F S16384x128 .f32) (l : IVec S1 32) : FVec F S_ .f32 :=
  Host.divf (Host.reduceAdd (mulf (diff X l) (diff X l)) (constant S_ .f32 0x00000000#32) reducesTo_S16384x128_S_d0_1 h_S_)
    (constant S_ .f32 0x4A000000#32)

end Cert.ReferenceIdeal.Term

end
-- ==== Proof.RefRun.lean ====
/- The run of the reference: its host operations in order, and what its result holds at the end. -/
module

public import proofs.«01_k».proof.Proof.RefTerm
public import Idealize.ShloMosaic.Lib.StableHlo.Run

@[expose] public section

noncomputable section

namespace Cert.ReferenceIdeal.Term

open Cert.ReferenceIdeal Cert.ReferenceIdeal.Gen Idealize.ShloMosaic Idealize.ShloMosaic.TcCoe Idealize.SL.Sem Idealize.ShloMosaic.StableHlo

variable {F : FTy → Type} [FloatOps F]

/-- A concatenation of the program, as a function of its two operands. -/
def join1 : (⟨S16384x1, .i32⟩ : BufTy).Contents (Elt F) → (⟨S16384x1, .i32⟩ : BufTy).Contents (Elt F) → (⟨S16384x2, .i32⟩ : BufTy).Contents (Elt F) :=
  (fun a b => concatenate S16384x2 1 [⟨S16384x1, a⟩, ⟨S16384x1, b⟩] concatenates_S16384x1_S16384x1_S16384x2_d1)

/-- The host operations, in order (a called function's in its call's place). -/
abbrev ops : List (HloOp τ sig (Elt F)) :=
  [ nullary main_cst (constant S_ .f32 0xFF800000#32),
    binary main_arg0 main_cst main_v0 ((fun x v => Host.reduce FloatOps.maximumf x v reducesTo_S16384x128_S16384_d1 h_S_) : (⟨S16384x128, .f32⟩ : BufTy).Contents (Elt F) → (⟨S_, .f32⟩ : BufTy).Contents (Elt F) → (⟨S16384, .f32⟩ : BufTy).Contents (Elt F)),
    TRef.nullary (TRef.of (T := ⟨S16384x128, .i32⟩) main_call0_v0) (iotaInDim S16384x128 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x128, .f32⟩) main_arg0) (TRef.of (T := ⟨S16384x128, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x128_S16384_d1 h_S_ j).1),
    TRef.quaternary (TRef.of (T := ⟨S16384x128, .f32⟩) main_arg0) (TRef.of (T := ⟨S16384x128, .i32⟩) main_call0_v0) (TRef.of (T := ⟨S_, .f32⟩) main_call0_cst) (TRef.of (T := ⟨S_, .i32⟩) main_call0_c) (TRef.of (T := ⟨S16384, .i32⟩) main_v1) (fun x y u v j => (Host.argReduce reducer_argmax_f32_i32 x y u v reducesTo_S16384x128_S16384_d1 h_S_ j).2),
    reshape main_arg1 main_v2 (rfl : (.i32 : EltTy) = .i32) shapeCasts_S1_S_,
    nullary main_c (constantI S_ 32 1#32),
    binary main_v2 main_c main_v3 (cmpi .eq : (⟨S_, .i32⟩ : BufTy).Contents (Elt F) → (⟨S_, .i32⟩ : BufTy).Contents (Elt F) → (⟨S_, .i1⟩ : BufTy).Contents (Elt F)),
    nullary main_cst_0 (constant S_ .f32 0x3FA00000#32),
    nullary main_cst_1 (constant S_ .f32 0x3F666666#32),
    TRef.ternary (TRef.of (T := ⟨S_, .i1⟩) main_v3) (TRef.of (T := ⟨S_, .f32⟩) main_cst_0) (TRef.of (T := ⟨S_, .f32⟩) main_cst_1) (TRef.of (T := ⟨S_, .f32⟩) main_v4) select,
    nullary main_v5 (iotaInDim S16384 32 0),
    unary main_v4 main_v6 (broadcastInDim S16384 ![] bcast_S_S16384 : (⟨S_, .f32⟩ : BufTy).Contents (Elt F) → (⟨S16384, .f32⟩ : BufTy).Contents (Elt F)),
    binary main_v0 main_v6 main_v7 (mulf : (⟨S16384, .f32⟩ : BufTy).Contents (Elt F) → (⟨S16384, .f32⟩ : BufTy).Contents (Elt F) → (⟨S16384, .f32⟩ : BufTy).Contents (Elt F)),
    nullary main_c_2 (constantI S_ 32 0#32),
    unary main_c_2 main_v8 (broadcastInDim S16384 ![] bcast_S_S16384 : (⟨S_, .i32⟩ : BufTy).Contents (Elt F) → (⟨S16384, .i32⟩ : BufTy).Contents (Elt F)),
    binary main_v5 main_v8 main_v9 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v10 (broadcastInDim S16384 ![] bcast_S_S16384 : (⟨S_, .i32⟩ : BufTy).Contents (Elt F) → (⟨S16384, .i32⟩ : BufTy).Contents (Elt F)),
    binary main_v5 main_v10 main_v11 (addi : (⟨S16384, .i32⟩ : BufTy).Contents (Elt F) → (⟨S16384, .i32⟩ : BufTy).Contents (Elt F) → (⟨S16384, .i32⟩ : BufTy).Contents (Elt F)),
    ternary main_v9 main_v11 main_v5 main_v12 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v13 (broadcastInDim S16384 ![] bcast_S_S16384 : (⟨S_, .i32⟩ : BufTy).Contents (Elt F) → (⟨S16384, .i32⟩ : BufTy).Contents (Elt F)),
    binary main_v1 main_v13 main_v14 (cmpi .slt : (⟨S16384, .i32⟩ : BufTy).Contents (Elt F) → (⟨S16384, .i32⟩ : BufTy).Contents (Elt F) → (⟨S16384, .i1⟩ : BufTy).Contents (Elt F)),
    nullary main_c_5 (constantI S_ 32 128#32),
    unary main_c_5 main_v15 (broadcastInDim S16384 ![] bcast_S_S16384 : (⟨S_, .i32⟩ : BufTy).Contents (Elt F) → (⟨S16384, .i32⟩ : BufTy).Contents (Elt F)),
    binary main_v1 main_v15 main_v16 (addi : (⟨S16384, .i32⟩ : BufTy).Contents (Elt F) → (⟨S16384, .i32⟩ : BufTy).Contents (Elt F) → (⟨S16384, .i32⟩ : BufTy).Contents (Elt F)),
    ternary main_v14 main_v16 main_v1 main_v17 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v12 main_v18 (broadcastInDim S16384x1 ![0] bcast_S16384_S16384x1_0 : (⟨S16384, .i32⟩ : BufTy).Contents (Elt F) → (⟨S16384x1, .i32⟩ : BufTy).Contents (Elt F)),
    unary main_v17 main_v19 (broadcastInDim S16384x1 ![0] bcast_S16384_S16384x1_0 : (⟨S16384, .i32⟩ : BufTy).Contents (Elt F) → (⟨S16384x1, .i32⟩ : BufTy).Contents (Elt F)),
    binary main_v18 main_v19 main_v20 (join1 (F := F)),
    ternary main_arg0 main_v20 main_v7 main_v21 ((fun x i u => Host.scatter scatter_S16384x128_S16384x2_S16384_n_01_01_1 (fun _ b => b) x i u) : (⟨S16384x128, .f32⟩ : BufTy).Contents (Elt F) → (⟨S16384x2, .i32⟩ : BufTy).Contents (Elt F) → (⟨S16384, .f32⟩ : BufTy).Contents (Elt F) → (⟨S16384x128, .f32⟩ : BufTy).Contents (Elt F)),
    nullary main_cst_6 (constant S_ .f32 0x00000000#32),
    binary main_v21 main_cst_6 main_v22 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v22 main_v23 (broadcastInDim S16384x1 ![0] bcast_S16384_S16384x1_0 : (⟨S16384, .f32⟩ : BufTy).Contents (Elt F) → (⟨S16384x1, .f32⟩ : BufTy).Contents (Elt F)),
    unary main_v23 main_v24 (broadcastInDim S16384x128 ![0, 1] bcast_S16384x1_S16384x128_0_1 : (⟨S16384x1, .f32⟩ : BufTy).Contents (Elt F) → (⟨S16384x128, .f32⟩ : BufTy).Contents (Elt F)),
    binary main_v21 main_v24 main_v25 (Host.divf : (⟨S16384x128, .f32⟩ : BufTy).Contents (Elt F) → (⟨S16384x128, .f32⟩ : BufTy).Contents (Elt F) → (⟨S16384x128, .f32⟩ : BufTy).Contents (Elt F)),
    unary main_arg0 main_v26 (Host.log : (⟨S16384x128, .f32⟩ : BufTy).Contents (Elt F) → (⟨S16384x128, .f32⟩ : BufTy).Contents (Elt F)),
    unary main_v25 main_v27 (Host.log : (⟨S16384x128, .f32⟩ : BufTy).Contents (Elt F) → (⟨S16384x128, .f32⟩ : BufTy).Contents (Elt F)),
    binary main_v26 main_v27 main_v28 (subf : (⟨S16384x128, .f32⟩ : BufTy).Contents (Elt F) → (⟨S16384x128, .f32⟩ : BufTy).Contents (Elt F) → (⟨S16384x128, .f32⟩ : BufTy).Contents (Elt F)),
    binary main_v28 main_v28 main_v29 (mulf : (⟨S16384x128, .f32⟩ : BufTy).Contents (Elt F) → (⟨S16384x128, .f32⟩ : BufTy).Contents (Elt F) → (⟨S16384x128, .f32⟩ : BufTy).Contents (Elt F)),
    nullary main_cst_7 (constant S_ .f32 0x00000000#32),
    binary main_v29 main_cst_7 main_v30 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_8 (constant S_ .f32 0x4A000000#32),
    binary main_v30 main_cst_8 main_v31 (Host.divf : (⟨S_, .f32⟩ : BufTy).Contents (Elt F) → (⟨S_, .f32⟩ : BufTy).Contents (Elt F) → (⟨S_, .f32⟩ : BufTy).Contents (Elt F)),
    reshape main_v31 main_v32 (rfl : (.f32 : EltTy) = .f32) shapeCasts_S_S1 ]

set_option maxRecDepth 8192 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., reshape_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., binary_bufs_sub .., reshape_bufs_sub ..⟩

/-- The reference's result, as a term of its arguments. -/
def result (X : FVec F S16384x128 .f32) (l : IVec S1 32) : FVec F S1 .f32 := shapeCast _ (loss X l) shapeCasts_S_S1

set_option maxRecDepth 8192 in
set_option maxHeartbeats 2000000 in
/-- Every weakly fair execution of the reference terminates, its result holding the loss of its arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (by
        simp only [ops, TRef.nullary, TRef.ternary, TRef.quaternary, TRef.toBuf, TRef.ofBuf, cast_eq]
        after_results_simp <;> rfl),
      (h c main_arg0).trans (by
        simp only [ops, TRef.nullary, TRef.ternary, TRef.quaternary, TRef.toBuf, TRef.ofBuf, cast_eq]
        after_results_simp <;> rfl),
      (h c main_arg1).trans (by
        simp only [ops, TRef.nullary, TRef.ternary, TRef.quaternary, TRef.toBuf, TRef.ofBuf, cast_eq]
        after_results_simp <;> rfl)⟩)
    (run_seq scopedRefs_eq scopedSems_eq defs main (fun _ => ops) main_eq (fun _ => ops_sub) m ρ)

end Cert.ReferenceIdeal.Term

end
-- ==== Proof.RefValue.lean ====
/- The reference's loss at the ideal values: on an array of positive reals it is the mean, over the rows, of the
   polynomial `Rows.rowLoss` in the log of each row's scaled sum. -/
module

public import proofs.«01_k».proof.Proof.RefTerm
public import proofs.«01_k».proof.Proof.Rows
public import Idealize.ShloMosaic.Lib.Pointwise
public import Idealize.ShloMosaic.Lib.Routing.OpsPair
public import Idealize.ShloMosaic.Lib.Routing.OpsSet
public import Idealize.ShloMosaic.PureOps.Ideal.Laws

@[expose] public section

noncomputable section

namespace Cert.ReferenceIdeal.Term

open Cert.ReferenceIdeal Cert.ReferenceIdeal.Gen
open Idealize.ShloMosaic hiding ix1 ix2 eq_ix2
open Idealize.ShloMosaic.ValueIdx

/-! ## The column of a row's maximum -/

/-- A fold that keeps the greater value with its index word ends, over pairs above the initial value, on a member
    of the list that no member exceeds. -/
theorem fold_argmax (l : List (EReal × BitVec 32)) (acc : EReal × BitVec 32) :
    (l.foldl (reducer_argmax_f32_i32 (F := Ideal)) acc = acc ∨ l.foldl (reducer_argmax_f32_i32 (F := Ideal)) acc ∈ l)
    ∧ acc.1 ≤ (l.foldl (reducer_argmax_f32_i32 (F := Ideal)) acc).1
    ∧ ∀ p ∈ l, p.1 ≤ (l.foldl (reducer_argmax_f32_i32 (F := Ideal)) acc).1 := by
  induction l generalizing acc with
  | nil => exact ⟨.inl rfl, le_refl _, fun p hp => nomatch hp⟩
  | cons q l ih =>
    have hstep : (reducer_argmax_f32_i32 (F := Ideal) acc q = acc ∨ reducer_argmax_f32_i32 (F := Ideal) acc q = q)
        ∧ acc.1 ≤ (reducer_argmax_f32_i32 (F := Ideal) acc q).1 ∧ q.1 ≤ (reducer_argmax_f32_i32 (F := Ideal) acc q).1 := by
      obtain ⟨a, i⟩ := acc
      obtain ⟨b, j⟩ := q
      rcases lt_trichotomy a b with h | h | h
      · have e : reducer_argmax_f32_i32 (F := Ideal) (a, i) (b, j) = (b, j) := by
          simp [reducer_argmax_f32_i32, Ideal.cmpf_def, Ideal.cmp, IntOp.ori, IntOp.andi, Scalar.select, h.le, h.ne, not_lt.mpr h.le]
        rw [e]; exact ⟨.inr rfl, h.le, le_refl _⟩
      · subst h
        by_cases hs : i.slt j
        · have e : reducer_argmax_f32_i32 (F := Ideal) (a, i) (a, j) = (a, i) := by
            simp [reducer_argmax_f32_i32, Ideal.cmpf_def, Ideal.cmp, IntOp.ori, IntOp.andi, IntOp.cmpi, Scalar.select, hs]
          rw [e]; exact ⟨.inl rfl, le_refl _, le_refl _⟩
        · have e : reducer_argmax_f32_i32 (F := Ideal) (a, i) (a, j) = (a, j) := by
            simp [reducer_argmax_f32_i32, Ideal.cmpf_def, Ideal.cmp, IntOp.ori, IntOp.andi, IntOp.cmpi, Scalar.select, hs]
          rw [e]; exact ⟨.inr rfl, le_refl _, le_refl _⟩
      · have e : reducer_argmax_f32_i32 (F := Ideal) (a, i) (b, j) = (a, i) := by
          simp [reducer_argmax_f32_i32, Ideal.cmpf_def, Ideal.cmp, IntOp.ori, IntOp.andi, Scalar.select, h, h.ne']
        rw [e]; exact ⟨.inl rfl, le_refl _, h.le⟩
    rw [List.foldl_cons]
    obtain ⟨h1, h2, h3⟩ := ih (reducer_argmax_f32_i32 (F := Ideal) acc q)
    refine ⟨?_, hstep.2.1.trans h2, fun p hp => ?_⟩
    · rcases h1 with h1 | h1
      · rw [h1]
        exact hstep.1.imp id (fun e => by rw [e]; exact List.mem_cons_self)
      · exact .inr (List.mem_cons_of_mem _ h1)
    · rcases List.mem_cons.1 hp with e | e
      · subst e; exact hstep.2.2.trans h2
      · exact h3 p e

/-- The host's arg-max with an index operand, from a least initial value: over a fibre whose values are all above it
    the result is a member's pair, and no member exceeds it. -/
theorem argReduce_spec {s t u : Shape} {axes : List (Fin s.rank)} (h : s.ReducesTo axes t) (hu : 0 < u.numel)
    (x : FVec Ideal s .f32) (y : s.Idx → BitVec 32) (ix : u.Idx → Ideal .f32) (iy : u.Idx → BitVec 32)
    (hix : ∀ a, ix a = (⊥ : EReal)) (j : t.Idx) (hx : ∀ i, (⊥ : EReal) < x i) (i0 : s.Idx) (hi0 : h.drop i0 = j) :
    ∃ i : s.Idx, h.drop i = j ∧ (∀ i', h.drop i' = j → x i' ≤ x i)
      ∧ (Host.argReduce (reducer_argmax_f32_i32 (F := Ideal)) x y ix iy h hu j).2 = y i := by
  have e := congrFun (Ideal.argReduce_eq_reduce2 (reducer_argmax_f32_i32 (F := Ideal)) x y ix iy h hu) j
  rw [e, Host.reduce2_eq_foldl_fiber]
  have hmem : ∀ p : EReal × BitVec 32, p ∈ Host.argReduceFiber x y h j ↔ ∃ i, h.drop i = j ∧ (x i, y i) = p := fun p => by
    unfold Host.argReduceFiber
    rw [List.mem_map]
    constructor
    · rintro ⟨n, hn, rfl⟩
      exact ⟨_, of_decide_eq_true (List.mem_filter.1 hn).2, rfl⟩
    · rintro ⟨i, hi, rfl⟩
      exact ⟨s.rowMajor i, List.mem_filter.2 ⟨List.mem_finRange _, decide_eq_true (by rw [Equiv.symm_apply_apply]; exact hi)⟩,
        by rw [Equiv.symm_apply_apply]⟩
  obtain ⟨h1, _, h3⟩ := fold_argmax (Host.argReduceFiber x y h j) (ix (Shape.Idx.first hu), iy (Shape.Idx.first hu))
  have hin := h1.resolve_left fun e' => by
    have hb := h3 _ ((hmem _).2 ⟨i0, hi0, rfl⟩)
    rw [e'] at hb
    simp only [hix] at hb
    exact absurd hb (not_le.mpr (hx i0))
  obtain ⟨i, hi, hp⟩ := (hmem _).1 hin
  refine ⟨i, hi, fun i' hi' => ?_, ?_⟩
  · have := h3 _ ((hmem _).2 ⟨i', hi', rfl⟩)
    rw [← hp] at this
    exact this
  · rw [← hp]

/-- Dropping the column of an index leaves its row. -/
theorem drop_col (i : S16384x128.Idx) : reducesTo_S16384x128_S16384_d1.drop i = ix1 (i 0) := by
  funext a; match a with | ⟨0, _⟩ => exact Fin.ext rfl

variable (x : Fin 16384 → Fin 128 → ℝ) (X : FVec Ideal S16384x128 .f32) (hX : ∀ r k, X (ix2 r k) = ((x r k : ℝ) : EReal))

include hX

/-- The index word of a row's maximum is that of a column holding it. -/
theorem rowArg_spec (r : Fin 16384) : ∃ k : Fin 128, x r k = Rows.top (x r) ∧ rowArg X (ix1 r) = BitVec.ofNat 32 k.val := by
  have hX' : ∀ i : S16384x128.Idx, X i = ((x (i 0) (i 1) : ℝ) : EReal) := fun i =>
    (congrArg X (eq_ix2 (i : (⟨2, ![16384, 128]⟩ : Shape).Idx))).trans (hX _ _)
  obtain ⟨i, hi, hle, he⟩ := argReduce_spec reducesTo_S16384x128_S16384_d1 h_S_ X (iotaInDim S16384x128 32 1)
    (constant (F := Ideal) S_ .f32 0xFF800000#32) (constantI S_ 32 0#32)
    (fun _ => show Ideal.ofBits .f32 0xFF800000#32 = _ by simp [Ideal.ofBits, Ideal.ieee])
    (ix1 r) (fun i => by rw [hX']; exact EReal.bot_lt_coe _) (ix2 r 0) (drop_col _)
  have h0 : i 0 = r := by
    rw [drop_col] at hi
    exact congrFun hi 0
  obtain ⟨k0, hk0⟩ := Rows.exists_top (x r)
  have hb := hle (ix2 r k0) (drop_col _)
  rw [hX, hX', h0, EReal.coe_le_coe_iff, hk0] at hb
  refine ⟨i 1, le_antisymm (Rows.le_top _ _) hb, ?_⟩
  rw [congrFun (rowArg_eq X) (ix1 r), he]
  simp only [iotaInDim]

omit hX in
/-- An index word below its axis's extent is left as it is. -/
theorem wrap_apply (n : BitVec 32) (i : IVec S16384 32) (r : Fin 16384) (h : (i (ix1 r)).toNat < 2 ^ 31) :
    wrap n i (ix1 r) = i (ix1 r) := Routing.wrap_of_lt (i (ix1 r)) _ h

omit hX in
theorem places_row (r : Fin 16384) : places X (ix2 r 0) = BitVec.ofNat 32 r.val := by
  have h : places X (ix2 r 0) = wrap 16384#32 (iotaInDim S16384 32 0) (ix1 r) := by
    unfold places
    pointwise
    rfl
  rw [h, wrap_apply]
  · rfl
  · have := r.isLt
    show (BitVec.ofNat 32 r.val).toNat < _
    rw [BitVec.toNat_ofNat]; omega

omit hX in
theorem places_col (r : Fin 16384) (k : Fin 128) (hk : rowArg X (ix1 r) = BitVec.ofNat 32 k.val) :
    places X (ix2 r 1) = BitVec.ofNat 32 k.val := by
  have h : places X (ix2 r 1) = wrap 128#32 (rowArg X) (ix1 r) := by
    unfold places
    pointwise
    rfl
  rw [h, wrap_apply, hk]
  rw [hk]
  have := k.isLt
  rw [BitVec.toNat_ofNat]; omega

omit hX in
/-- Update `a` lands at the pair of its two index words, read signed. -/
theorem lands (idx : IVec S16384x2 32) (a r : Fin 16384) (c : Fin 128) :
    scatter_S16384x128_S16384x2_S16384_n_01_01_1.resultIdx? (ix1 a) idx = some (ix2 r c)
      ↔ (idx (ix2 a 0)).toInt = r.val ∧ (idx (ix2 a 1)).toInt = c.val := by
  set d := scatter_S16384x128_S16384x2_S16384_n_01_01_1 with hd
  have hw : ∀ q : Fin 2, d.window (ix1 a) q = 0 := fun q => by
    unfold ScatterDims.window
    rw [dif_neg (by fin_cases q <;> decide)]
  have hs : ∀ q : Fin 2, d.start (ix1 a) idx q = (idx (ix2 a q)).toInt := fun q => by
    unfold ScatterDims.start
    rw [dif_pos (by fin_cases q <;> decide)]
    congr 2
    funext b
    apply Fin.ext
    fin_cases q <;> fin_cases b <;> rfl
  rw [Routing.resultIdx?_ix2 d (ix1 a) idx r c, hs, hs, hw, hw]
  omega

omit hX in
theorem word_bot : Ideal.ofBits .f32 0xFF800000#32 = (⊥ : EReal) := by simp [Ideal.ofBits, Ideal.ieee]

theorem rowMax_apply (r : Fin 16384) : rowMax X (ix1 r) = ((Rows.top (x r) : ℝ) : EReal) := by
  have h : rowMax X (ix1 r) = Finset.univ.fold max (Ideal.ofBits .f32 0xFF800000#32) (fun k : Fin 128 => X (ix2 r k)) := by
    unfold rowMax
    pointwise
    rfl
  rw [h, word_bot]
  simp only [hX]
  exact Rows.fold_max (x r)

omit hX in
theorem scaledMax_apply (l : IVec S1 32) (r : Fin 16384) :
    scaledMax X l (ix1 r) = (rowMax X (ix1 r) * factor (F := Ideal) l (fun a => a.elim0) : EReal) := by
  unfold scaledMax
  rw [mulf_apply]
  generalize rowMax X = M
  generalize factor (F := Ideal) l = φ
  pointwise
  exact congrArg (fun i => M (ix1 r) * φ i) (funext fun a => a.elim0)

/-- The array with its maxima scaled: each row scaled at one column that holds its maximum. -/
theorem swapped_spec (f : ℝ) (l : IVec S1 32) (hf : factor (F := Ideal) l (fun a => a.elim0) = ((f : ℝ) : EReal)) (r : Fin 16384) :
    ∃ k : Fin 128, x r k = Rows.top (x r) ∧ ∀ j, swapped X l (ix2 r j) = (((if j = k then x r k * f else x r j) : ℝ) : EReal) := by
  obtain ⟨k, hk, hw⟩ := rowArg_spec x X hX r
  refine ⟨k, hk, fun j => ?_⟩
  have hint : ∀ n : ℕ, n < 2 ^ 31 → (BitVec.ofNat 32 n).toInt = (n : ℤ) := fun n hn => by
    rw [BitVec.toInt_eq_toNat_of_lt (by rw [BitVec.toNat_ofNat]; omega), BitVec.toNat_ofNat]; omega
  have hrow : ∀ a : Fin 16384, (places X (ix2 a 0)).toInt = (a.val : ℤ) := fun a => by
    rw [places_row, hint _ (by have := a.isLt; omega)]
  have hcol : (places X (ix2 r 1)).toInt = (k.val : ℤ) := by
    rw [places_col X r k hw, hint _ (by have := k.isLt; omega)]
  have hup : scaledMax X l (ix1 r) = ((x r k * f : ℝ) : EReal) := by
    rw [scaledMax_apply, rowMax_apply x X hX, hf, hk, EReal.coe_mul]
  have hl : ∀ u : S16384.Idx, scatter_S16384x128_S16384x2_S16384_n_01_01_1.resultIdx? u (places X) = some (ix2 r j)
      ↔ u = ix1 r ∧ j = k := fun u => by
    obtain ⟨a, rfl⟩ : ∃ a : Fin 16384, u = ix1 a := ⟨u 0, ValueIdx.eq_ix1 (u : (⟨1, ![16384]⟩ : Shape).Idx)⟩
    rw [lands, hrow]
    constructor
    · rintro ⟨h1, h2⟩
      have e : a = r := Fin.ext (by omega)
      subst e
      rw [hcol] at h2
      exact ⟨rfl, Fin.ext (by omega)⟩
    · rintro ⟨h1, h2⟩
      have e : a = r := congrFun h1 0
      subst e; subst h2
      exact ⟨rfl, hcol⟩
  unfold swapped
  by_cases e : j = k
  · rw [if_pos e, Routing.scatter_set_hit _ X (places X) (scaledMax X l) (ix2 r j) ((x r k * f : ℝ) : EReal) (fun u hu => by rw [((hl u).1 hu).1]; exact hup) (ix1 r) ((hl _).2 ⟨rfl, e⟩)]
  · rw [if_neg e, Routing.scatter_set_miss _ X (places X) (scaledMax X l) (ix2 r j) (fun u hu => e ((hl u).1 hu).2), hX]

omit hX in
theorem normed_apply (Y : FVec Ideal S16384x128 .f32) (r : Fin 16384) (j : Fin 128) :
    normed Y (ix2 r j) = Ideal.div (Y (ix2 r j)) (∑ k : Fin 128, Y (ix2 r k)) := by
  unfold normed
  pointwise
  rfl

omit hX in
theorem diff_apply (l : IVec S1 32) (r : Fin 16384) (j : Fin 128) :
    diff X l (ix2 r j) = Ideal.log (X (ix2 r j)) - Ideal.log (normed (swapped X l) (ix2 r j)) := by
  unfold diff
  generalize normed (swapped X l) = Z
  pointwise

omit hX in
theorem loss_apply (l : IVec S1 32) :
    loss X l (fun a => a.elim0)
      = Ideal.div (∑ r : Fin 16384, ∑ j : Fin 128, diff X l (ix2 r j) * diff X l (ix2 r j)) (Ideal.ofBits .f32 0x4A000000#32) := by
  unfold loss
  generalize diff X l = D
  pointwise
  rfl

omit hX in
theorem factor_apply (l : IVec S1 32) : factor (F := Ideal) l (fun a => a.elim0) = ((Rows.factor (l (ix1 0)) : ℝ) : EReal) := by
  rw [← Rows.factor_word]
  unfold factor
  pointwise
  rfl

/-- The loss is the mean of the rows' losses. -/
theorem loss_eq (hx : ∀ r k, 0 < x r k) (l : IVec S1 32) :
    loss X l (fun a => a.elim0) = (((∑ r, Rows.rowLoss (Rows.factor (l (ix1 0))) (x r)) / 2097152 : ℝ) : EReal) := by
  have hf := factor_apply l
  have h0 := Rows.factor_pos (l (ix1 0))
  generalize Rows.factor (l (ix1 0)) = f at hf h0 ⊢
  have hrow : ∀ r, ∑ j : Fin 128, diff X l (ix2 r j) * diff X l (ix2 r j) = ((Rows.rowLoss f (x r) : ℝ) : EReal) := fun r => by
    obtain ⟨k, hk, hs⟩ := swapped_spec x X hX f l hf r
    have hm := Rows.mass_pos f h0 (x r) (hx r)
    have hd : ∀ j, diff X l (ix2 r j) = ((Real.log (x r j) - Real.log ((if j = k then x r k * f else x r j) / Rows.mass f (x r)) : ℝ) : EReal) := fun j => by
      have hp : 0 < (if j = k then x r k * f else x r j) := by
        split
        · exact mul_pos (hx r k) h0
        · exact hx r j
      rw [diff_apply, normed_apply, hX]
      simp only [hs]
      rw [Rows.coe_sum, Rows.sum_scaled f (x r) k hk, Rows.div_coe_pos hm.ne', Rows.log_coe_pos (hx r j),
        Rows.log_coe_pos (div_pos hp hm), EReal.coe_sub]
    simp only [hd, ← EReal.coe_mul]
    rw [Rows.coe_sum, Rows.sum_sq f h0 (x r) (hx r) k hk]
  rw [loss_apply]
  simp only [hrow]
  have hw : Ideal.ofBits .f32 0x4A000000#32 = ((2097152 : ℝ) : EReal) := by
    simp [Ideal.ofBits, Ideal.ieee]
    rw [← EReal.coe_mul]
    norm_num
  rw [Rows.coe_sum, hw, Rows.div_coe_pos (by norm_num)]

end Cert.ReferenceIdeal.Term

end
-- ==== Proof.Positive.lean ====
/- The precondition read back: an array for which it holds is an array of positive reals. -/
module

public import proofs.«01_k».proof.Proof.Gen.Pre_positive
public import Idealize.ShloMosaic.Lib.ReduceAll
public import Idealize.ShloMosaic.Lib.ValueIdx
public import Idealize.ShloMosaic.PureOps.Ideal
public import Idealize.ShloMosaic.Lib.IdealHost
public import Idealize.ShloMosaic.Lib.Pointwise

@[expose] public section

noncomputable section

namespace Cert.Pre_positive

open Cert.Pre_positive.Facts
open Idealize.ShloMosaic hiding ix1 ix2 eq_ix2
open Idealize.ShloMosaic.ValueIdx

instance : Subsingleton S_.Idx := ⟨fun a b => funext fun k => k.elim0⟩

theorem word_top : Ideal.ofBits .f32 0x7F800000#32 = (⊤ : EReal) := by simp [Ideal.ofBits, Ideal.ieee]
theorem word_zero : Ideal.ofBits .f32 0x00000000#32 = (0 : EReal) := by simp [Ideal.ofBits, Ideal.ieee]

theorem bit_one {p : Prop} [Decidable p] (h : BitVec.ofBool (decide p) = 1#1) : p := by
  by_cases e : p
  · exact e
  · rw [decide_eq_false e] at h; exact absurd h (by decide)

variable [Facts]

theorem reals (X : FVec Ideal S16384x128 .f32) (l : IVec S1 32) (h : fn X l (fun a => a.elim0) = 1#1) :
    ∃ x : Fin 16384 → Fin 128 → ℝ, (∀ r k, X (ix2 r k) = ((x r k : ℝ) : EReal)) ∧ ∀ r k, 0 < x r k := by
  have key : ∀ r k, (0 : EReal) < X (ix2 r k) ∧ X (ix2 r k) < ⊤ := fun r k => by
    have e := Host.reduce_andi_all _ _ _ _ _ h (ix2 r k)
    obtain ⟨e1, e2⟩ := IntOp.andi_eq_one.1 e
    have e1' : (Ideal.ofBits .f32 0x00000000#32 : EReal) < X (ix2 r k) := bit_one (p := _) e1
    have e2' : X (ix2 r k) < (Ideal.ofBits .f32 0x7F800000#32 : EReal) := bit_one (p := _) e2
    rw [word_zero] at e1'
    rw [word_top] at e2'
    exact ⟨e1', e2'⟩
  have hc : ∀ r k, X (ix2 r k) = (((X (ix2 r k) : EReal).toReal : ℝ) : EReal) := fun r k =>
    (EReal.coe_toReal (key r k).2.ne (ne_of_gt (lt_trans EReal.bot_lt_zero (key r k).1))).symm
  refine ⟨fun r k => (X (ix2 r k) : EReal).toReal, hc, fun r k => ?_⟩
  have := (key r k).1
  rw [hc r k] at this
  exact EReal.coe_pos.1 this

end Cert.Pre_positive

end
-- ==== Proof.Ideal.Trip.lean ====
/- One trip of the kernel's loop over a tile's 128 rows, restated. A trip takes sixteen rows: for
   each it loads the row's eight vectors, stores their sum and their maximum in the two scratch
   buffers (a row every 17 words), and then gathers the sixteen columns of each scratch buffer and
   combines them. The program below says this with one definition for a row and one for a gather;
   `body_eq` proves that it is the kernel's. -/
module

public import proofs.«01_k».proof.Proof.Gen.RowStatsIdeal
public import proofs.«01_k».proof.Proof.Gen.RowStatsIdeal.Skeleton

@[expose] public section

noncomputable section

namespace Cert.RowStatsIdeal.Tile

open Cert.RowStatsIdeal Cert.RowStatsIdeal.Gen
open Idealize.ShloMosaic Idealize.SL.Sem

variable {F : FTy → Type} [FloatOps F]

/-- The programs of the vector subcore that the grid puts at `i`. -/
abbrev Code (F : FTy → Type) (i : grid0.Coords) (α : Type) :=
  Prog (TpuEff nD τ sig (Elt F) Λ₀ (.scVector ((i 0).castLE hcore0) ((i 1).castLE hsub0))) α

abbrev xM : Memref sig .scVector .hbm S2097152 .f32 := Memref.whole main_v0_scv
abbrev sumM : Memref sig .scVector .hbm S4096 .f32 := Memref.whole main_v1_0_scv
abbrev maxM : Memref sig .scVector .hbm S4096 .f32 := Memref.whole main_v1_1_scv
abbrev bufM : Memref sig .scVector .vmem S16384 .f32 := Memref.whole cc0_scratch0
abbrev sscrM : Memref sig .scVector .vmem S272 .f32 := Memref.whole cc0_scratch1
abbrev mscrM : Memref sig .scVector .vmem S272 .f32 := Memref.whole cc0_scratch2
abbrev sumsM : Memref sig .scVector .vmem S128 .f32 := Memref.whole cc0_scratch3
abbrev maxsM : Memref sig .scVector .vmem S128 .f32 := Memref.whole cc0_scratch4

/-! ## What is computed -/

/-- The sum of a row's eight vectors, in the kernel's order. -/
def add8 (v : Fin 8 → Vec F S16 .f32) : FVec F S16 .f32 :=
  addf (addf (addf (v 0) (v 1)) (addf (v 2) (v 3))) (addf (addf (v 4) (v 5)) (addf (v 6) (v 7)))

/-- The maximum of a row's eight vectors, in the kernel's order. -/
def max8 (v : Fin 8 → Vec F S16 .f32) : FVec F S16 .f32 :=
  maximumf (maximumf (maximumf (v 0) (v 1)) (maximumf (v 2) (v 3))) (maximumf (maximumf (v 4) (v 5)) (maximumf (v 6) (v 7)))

/-- The sum of sixteen columns, in the kernel's order: four running sums, then those. -/
def add16 (c : Fin 16 → Vec F S16 .f32) : FVec F S16 .f32 :=
  addf (addf (addf (addf (addf (c 0) (c 4)) (c 8)) (c 12)) (addf (addf (addf (c 1) (c 5)) (c 9)) (c 13)))
    (addf (addf (addf (addf (c 2) (c 6)) (c 10)) (c 14)) (addf (addf (addf (c 3) (c 7)) (c 11)) (c 15)))

/-- The maximum of sixteen columns, in the kernel's order. -/
def max16 (c : Fin 16 → Vec F S16 .f32) : FVec F S16 .f32 :=
  maximumf (maximumf (maximumf (maximumf (maximumf (c 0) (c 4)) (c 8)) (c 12)) (maximumf (maximumf (maximumf (c 1) (c 5)) (c 9)) (c 13)))
    (maximumf (maximumf (maximumf (maximumf (c 2) (c 6)) (c 10)) (c 14)) (maximumf (maximumf (maximumf (c 3) (c 7)) (c 11)) (c 15)))

/-! ## The trip -/

theorem row_inb (r : Fin 16) : ∀ a, (![17 * r.val] : Fin 1 → Nat) a + S16.size a ≤ S272.size a := by
  revert r; decide

/-- The load of vector `j` of row `r` of trip `t`. -/
def loadPiece (i : grid0.Coords) (t : Fin k0_t1_loop.trips) (r : Fin 16) (j : Fin 8) : Code F i (Vec F S16 .f32) :=
  Prog.lift (.load bufM (Rect.unit (s := S16384) (k0_off6 t (BitVec.ofNat 32 (128 * r.val)) (BitVec.ofNat 32 (16 * j.val))) S16.size (k0_off6_inb t r j)).toLoadRect (View.loadsAt_vmem h_S16))

/-- One vector stored as row `r` of a scratch buffer, after the load the kernel makes of the same
    words (and does not use). -/
def storeRow (i : grid0.Coords) (m : Memref sig .scVector .vmem S272 .f32) (r : Fin 16) (v : FVec F S16 .f32) : Code F i PUnit := do
  let _ : Vec F S16 .f32 ← Prog.lift (.load m (Rect.unit (s := S272) ![17 * r.val] S16.size (row_inb r)).toLoadRect (View.loadsAt_vmem h_S16))
  Prog.lift (.store m (Rect.unit (s := S272) ![17 * r.val] S16.size (row_inb r)) v Finset.univ (View.stores_vmem_bits_univ h_S16 rfl) (.inl rfl))

/-- Row `r` of trip `t`. -/
def row (i : grid0.Coords) (t : Fin k0_t1_loop.trips) (r : Fin 16) : Code F i PUnit := do
  let v0 ← loadPiece i t r 0
  let v1 ← loadPiece i t r 1
  let v2 ← loadPiece i t r 2
  let v3 ← loadPiece i t r 3
  let v4 ← loadPiece i t r 4
  let v5 ← loadPiece i t r 5
  let v6 ← loadPiece i t r 6
  let v7 ← loadPiece i t r 7
  storeRow i sscrM r (add8 ![v0, v1, v2, v3, v4, v5, v6, v7])
  storeRow i mscrM r (max8 ![v0, v1, v2, v3, v4, v5, v6, v7])

/-- The words a gather of column `k` reads: word `17 r + k` for lane `r`. -/
def column (k : Fin 16) : IVec S16 32 := addi k0_pay1 (broadcast S16 (BitVec.ofNat 32 k.val))

/-- The gather of column `k` of a scratch buffer. -/
def gather (i : grid0.Coords) (m : Memref sig .scVector .vmem S272 .f32) (k : Fin 16) : Code F i (Vec F S16 .f32) := do
  have h : k0_chk1 (column k) := (← Prog.lift (TpuEff.assume (k0_chk1 (column k)) (k0_chk1.dec (column k)))).down
  SparseCore.vectorLoadIdx m ![column k] (k0_idx1_inb (column k) h) (View.loads_vmem h_S272)

/-- One group's results stored at word 16 t of a result buffer. -/
def storeOut (i : grid0.Coords) (m : Memref sig .scVector .vmem S128 .f32) (t : Fin k0_t1_loop.trips) (v : FVec F S16 .f32) : Code F i PUnit := do
  let _ : Vec F S16 .f32 ← Prog.lift (.load m (Rect.unit (s := S128) (k0_off7 t) S16.size (k0_off7_inb t)).toLoadRect (View.loadsAt_vmem h_S16))
  Prog.lift (.store m (Rect.unit (s := S128) (k0_off7 t) S16.size (k0_off7_inb t)) v Finset.univ (View.stores_vmem_bits_univ h_S16 rfl) (.inl rfl))

/-- The sixteen rows. -/
def rows (i : grid0.Coords) (t : Fin k0_t1_loop.trips) : Code F i PUnit := do
  row i t 0; row i t 1; row i t 2; row i t 3; row i t 4; row i t 5; row i t 6; row i t 7
  row i t 8; row i t 9; row i t 10; row i t 11; row i t 12; row i t 13; row i t 14; row i t 15

/-- The columns and what is made of them. -/
def columns (i : grid0.Coords) (t : Fin k0_t1_loop.trips) : Code F i PUnit := do
  let s0 ← gather i sscrM 0
  let s1 ← gather i sscrM 1
  let s2 ← gather i sscrM 2
  let s3 ← gather i sscrM 3
  let m0 ← gather i mscrM 0
  let m1 ← gather i mscrM 1
  let m2 ← gather i mscrM 2
  let m3 ← gather i mscrM 3
  let s4 ← gather i sscrM 4
  let m4 ← gather i mscrM 4
  let s5 ← gather i sscrM 5
  let m5 ← gather i mscrM 5
  let s6 ← gather i sscrM 6
  let m6 ← gather i mscrM 6
  let s7 ← gather i sscrM 7
  let m7 ← gather i mscrM 7
  let s8 ← gather i sscrM 8
  let m8 ← gather i mscrM 8
  let s9 ← gather i sscrM 9
  let m9 ← gather i mscrM 9
  let s10 ← gather i sscrM 10
  let m10 ← gather i mscrM 10
  let s11 ← gather i sscrM 11
  let m11 ← gather i mscrM 11
  let s12 ← gather i sscrM 12
  let m12 ← gather i mscrM 12
  let s13 ← gather i sscrM 13
  let m13 ← gather i mscrM 13
  let s14 ← gather i sscrM 14
  let m14 ← gather i mscrM 14
  let s15 ← gather i sscrM 15
  let m15 ← gather i mscrM 15
  storeOut i sumsM t (add16 ![s0, s1, s2, s3, s4, s5, s6, s7, s8, s9, s10, s11, s12, s13, s14, s15])
  storeOut i maxsM t (max16 ![m0, m1, m2, m3, m4, m5, m6, m7, m8, m9, m10, m11, m12, m13, m14, m15])

/-- A trip's waits and next copies, which come first. -/
def chunks (i : grid0.Coords) (w : BitVec 32) (t : Fin k0_t1_loop.trips) :
    Code F i (Σ' (_ : BitVec 32) (_ : BitVec 32) (_ : BitVec 32) (_ : BitVec 1), BitVec 1) :=
  k0_part1_skel i xM (Memref.isWhole_whole _) sumM (Memref.isWhole_whole _) maxM (Memref.isWhole_whole _) bufM (Memref.isWhole_whole _)
    sscrM (Memref.isWhole_whole _) mscrM (Memref.isWhole_whole _) sumsM (Memref.isWhole_whole _) maxsM (Memref.isWhole_whole _)
    cc0_scratch5 cc0_scratch6 cc0_scoped0 cc0_scoped1 w 0#32 1#32 t

/-- A trip. -/
def trip (i : grid0.Coords) (w : BitVec 32) (t : Fin k0_t1_loop.trips) (_ : PUnit) : Code F i PUnit :=
  chunks i w t >>= fun _ => rows i t >>= fun _ => columns i t

set_option maxRecDepth 65536 in
set_option maxHeartbeats 4000000 in
/-- The kernel's trip is `trip`. -/
theorem body_eq (i : grid0.Coords) (w : BitVec 32) :
    k0_t1_body (F := F) i xM (Memref.isWhole_whole _) sumM (Memref.isWhole_whole _) maxM (Memref.isWhole_whole _) bufM (Memref.isWhole_whole _)
      sscrM (Memref.isWhole_whole _) mscrM (Memref.isWhole_whole _) sumsM (Memref.isWhole_whole _) maxsM (Memref.isWhole_whole _)
      cc0_scratch5 cc0_scratch6 cc0_scoped0 cc0_scoped1 w = trip i w := rfl

end Cert.RowStatsIdeal.Tile
-- ==== Proof.Ideal.Steps.lean ====
/- What the steps of a trip do: the loads of a row, its two stores, the gathers and the stores of
   the group's results, each as a rule over the buffers the vector subcore holds. -/
module

public import proofs.«01_k».proof.Proof.Ideal.Trip
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Pointwise

@[expose] public section

noncomputable section

namespace Cert.RowStatsIdeal.Tile

open Cert.RowStatsIdeal Cert.RowStatsIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none
abbrev UH : Type := URounds (GSem nD τ sig) ℕ
abbrev UU : Type := UH × Counters

local notation "𝕄" => MT nD τ sig (HIx 1) (Elt F) ℕ UU ℕ

/-! ## Writes through a rectangle of a whole buffer -/

section Write

variable {κ : Kind} {Val : EltTy → Type} (b : Ref sig κ) (off size : Fin b.ty.shape.rank → ℕ)
  (inb : ∀ a, off a + size a ≤ b.ty.shape.size a)

theorem write_in (f : b.ty.Contents Val) (w : (Rect.unit off size inb).shape.Idx → Val b.ty.elt) (x : b.ty.shape.Idx)
    (y : (Rect.unit off size inb).shape.Idx) (h : ∀ a, (x a).val = off a + (y a).val) :
    ((View.whole b).slice (Rect.unit off size inb)).write Val f w Finset.univ x = w y := by
  have e : x = ((View.whole b).slice (Rect.unit off size inb)).emb y := by
    funext a; apply Fin.ext
    rw [h a]
    show _ = off a + 1 * (y a).val
    rw [Nat.one_mul]
  rw [e, View.write_emb_of_mem _ _ (Finset.mem_univ y)]
  exact cast_eq _ _

theorem write_out (f : b.ty.Contents Val) (w : (Rect.unit off size inb).shape.Idx → Val b.ty.elt) (x : b.ty.shape.Idx)
    (h : ∃ a, (x a).val < off a ∨ off a + size a ≤ (x a).val) :
    ((View.whole b).slice (Rect.unit off size inb)).write Val f w Finset.univ x = f x := by
  refine View.write_of_not_mem _ _ _ ?_
  rw [View.setOn_univ, View.set_slice_whole, Rect.mem_set_unit]
  intro hall
  obtain ⟨a, ha⟩ := h
  have := hall a
  omega

theorem read_at (f : b.ty.Contents Val) (y : (Rect.unit off size inb).shape.Idx) (x : b.ty.shape.Idx)
    (h : ∀ a, (x a).val = off a + (y a).val) :
    ((View.whole b).slice (Rect.unit off size inb)).read Val f y = f x := by
  have e : x = ((View.whole b).slice (Rect.unit off size inb)).emb y := by
    funext a; apply Fin.ext
    rw [h a]
    show _ = off a + 1 * (y a).val
    rw [Nat.one_mul]
  rw [e, View.read_apply]
  exact cast_eq _ _

end Write

/-! ## The values -/

/-- Word `n` of a tile's words. -/
def word (T : S16384.Idx → Elt F .f32) (n : ℕ) : Elt F .f32 := T (ix1 ⟨n % 16384, Nat.mod_lt _ (by decide)⟩)

/-- Vector `j` of row `r` of group `g`: a group is sixteen rows, a row eight vectors. -/
def piece (T : S16384.Idx → Elt F .f32) (g r j : ℕ) : Vec F S16 .f32 := fun l => word T (2048 * g + 128 * r + 16 * j + (l 0).val)

/-- The lane sums of row `r` of group `g`. -/
def laneSum (T : S16384.Idx → Elt F .f32) (g r : ℕ) : Vec F S16 .f32 := add8 fun j => piece T g r j.val
/-- The lane maxima of row `r` of group `g`. -/
def laneMax (T : S16384.Idx → Elt F .f32) (g r : ℕ) : Vec F S16 .f32 := max8 fun j => piece T g r j.val

/-- Column `k` of sixteen rows: lane `r` is row `r`'s lane `k`. -/
def col (R : ℕ → Vec F S16 .f32) (k : Fin 16) : Vec F S16 .f32 := fun r => R (r 0).val (ix1 k)

/-- The row sums of group `g`, a lane each. -/
def groupSum (T : S16384.Idx → Elt F .f32) (g : ℕ) : Vec F S16 .f32 := add16 (col (laneSum T g))
/-- The row maxima of group `g`, a lane each. -/
def groupMax (T : S16384.Idx → Elt F .f32) (g : ℕ) : Vec F S16 .f32 := max16 (col (laneMax T g))

/-- A scratch buffer holds the first `n` rows of `R`, a row every 17 words. -/
def Filled (n : ℕ) (R : ℕ → Vec F S16 .f32) (f : S272.Idx → Elt F .f32) : Prop :=
  ∀ (x : S272.Idx) (h : (x 0).val % 17 < 16), (x 0).val / 17 < n → f x = R ((x 0).val / 17) (ix1 ⟨(x 0).val % 17, h⟩)

/-- A result buffer holds the first `n` groups of `G`. -/
def Grouped (n : ℕ) (G : ℕ → Vec F S16 .f32) (f : S128.Idx → Elt F .f32) : Prop :=
  ∀ x : S128.Idx, (x 0).val / 16 < n → f x = G ((x 0).val / 16) (ix1 ⟨(x 0).val % 16, Nat.mod_lt _ (by decide)⟩)

theorem off6_eq : ∀ (t : Fin k0_t1_loop.trips) (r : Fin 16) (j : Fin 8),
    k0_off6 t (BitVec.ofNat 32 (128 * r.val)) (BitVec.ofNat 32 (16 * j.val)) = ![2048 * t.val + 128 * r.val + 16 * j.val] := by
  decide +kernel

/-- The half of the tile's buffer that copy `c` lands in. -/
def slot (c : ℕ) : Finset S16384.Idx := Finset.univ.filter fun x => (x 0).val / 8192 = c

theorem piece_in_slot (t : Fin k0_t1_loop.trips) (r : Fin 16) (j : Fin 8) :
    ((View.whole (cc0_scratch0 : Ref sig .scVector)).slice (Rect.unit (s := S16384) (k0_off6 t (BitVec.ofNat 32 (128 * r.val)) (BitVec.ofNat 32 (16 * j.val))) S16.size (k0_off6_inb t r j))).set
      ⊆ slot (t.val / 4) := by
  intro x hx
  rw [View.set_slice_whole, Rect.mem_set_unit] at hx
  have h := hx 0
  rw [off6_eq] at h
  have h1 : 2048 * t.val + 128 * r.val + 16 * j.val ≤ (x 0).val := h.1
  have h2 : (x 0).val < 2048 * t.val + 128 * r.val + 16 * j.val + 16 := h.2
  have := r.isLt; have := j.isLt
  simp only [slot, Finset.mem_filter, Finset.mem_univ, true_and]
  have : (x 0).val < 16384 := (x 0).isLt
  omega

theorem piece_read (t : Fin k0_t1_loop.trips) (r : Fin 16) (j : Fin 8) (T : S16384.Idx → Elt F .f32) :
    ((View.whole (cc0_scratch0 : Ref sig .scVector)).slice (Rect.unit (s := S16384) (k0_off6 t (BitVec.ofNat 32 (128 * r.val)) (BitVec.ofNat 32 (16 * j.val))) S16.size (k0_off6_inb t r j))).read (Elt F) T
      = piece T t.val r.val j.val := by
  funext l
  have ht : t.val < 8 := t.isLt
  have := r.isLt; have := j.isLt
  have hl : (l 0).val < 16 := (l 0).isLt
  have e : 2048 * t.val + 128 * r.val + 16 * j.val = k0_off6 t (BitVec.ofNat 32 (128 * r.val)) (BitVec.ofNat 32 (16 * j.val)) 0 :=
    (congrFun (off6_eq t r j) 0).symm
  exact read_at cc0_scratch0 _ _ _ T l (ix1 ⟨(2048 * t.val + 128 * r.val + 16 * j.val + (l 0).val) % 16384, Nat.mod_lt _ (by decide)⟩) fun
    | (0 : Fin 1) => (Nat.mod_eq_of_lt (show _ < 16384 by omega)).trans (congrArg (· + (l 0).val) e)

theorem filled_zero (R : ℕ → Vec F S16 .f32) (f : S272.Idx → Elt F .f32) : Filled 0 R f := fun _ _ h => absurd h (Nat.not_lt_zero _)

/-- Row `r` put after the first `r` rows makes the first `r + 1`. -/
theorem filled_succ {r : ℕ} {R : ℕ → Vec F S16 .f32} {f f' : S272.Idx → Elt F .f32}
    (hin : ∀ (x : S272.Idx) (y : S16.Idx), (x 0).val = 17 * r + (y 0).val → f' x = R r y)
    (hout : ∀ x : S272.Idx, (x 0).val < 17 * r ∨ 17 * r + 16 ≤ (x 0).val → f' x = f x)
    (hf : Filled r R f) : Filled (r + 1) R f' := by
  intro x h hx
  by_cases hr : (x 0).val / 17 = r
  · rw [hr]
    exact hin x (ix1 ⟨_, h⟩) (show (x 0).val = 17 * r + (x 0).val % 17 by omega)
  · rw [hout x (by omega)]
    exact hf x h (by omega)

/-- Group `g` put after the first `g` groups makes the first `g + 1`. -/
theorem grouped_succ {g : ℕ} {G : ℕ → Vec F S16 .f32} {f f' : S128.Idx → Elt F .f32}
    (hin : ∀ (x : S128.Idx) (y : S16.Idx), (x 0).val = 16 * g + (y 0).val → f' x = G g y)
    (hout : ∀ x : S128.Idx, (x 0).val < 16 * g ∨ 16 * g + 16 ≤ (x 0).val → f' x = f x)
    (hf : Grouped g G f) : Grouped (g + 1) G f' := by
  intro x hx
  by_cases hg : (x 0).val / 16 = g
  · rw [hg]
    exact hin x (ix1 ⟨_, Nat.mod_lt _ (by decide)⟩) (show (x 0).val = 16 * g + (x 0).val % 16 by omega)
  · rw [hout x (by omega)]
    exact hf x (by omega)

/-- A column's indices: word `17 r + k` for lane `r`. -/
theorem column_toNat (k : Fin 16) (r : S16.Idx) : (column k r).toNat = 17 * (r 0).val + k.val := by
  have h : ∀ (a k : Fin 16), (IntOp.addi (IntOp.muli (BitVec.ofNat 32 (0 * 16 + a.val)) 17#32) (BitVec.ofNat 32 k.val)).toNat = 17 * a.val + k.val := by
    decide +kernel
  exact h (r 0) k

theorem column_ok (k : Fin 16) : k0_chk1 (column k) := by
  intro a x
  obtain rfl : a = 0 := Subsingleton.elim _ _
  show (column k x).toNat < 272
  rw [column_toNat]
  have := k.isLt
  have : (x 0).val < 16 := (x 0).isLt
  omega

/-- The gather of column `k` of sixteen rows is their column `k`. -/
theorem gather_col (k : Fin 16) (R : ℕ → Vec F S16 .f32) (f : S272.Idx → Elt F .f32) (hf : Filled 16 R f)
    (h : ∀ a x, ((![column k] : Fin 1 → IVec S16 32) a x).toNat < S272.size a) :
    loadIdx (F := F) (s := S272) (e := .f32) f ![column k] h = col R k := by
  funext r
  have hk := k.isLt
  have hr : (r 0).val < 16 := (r 0).isLt
  have hx : ((idxAt (s := S272) ![column k] h r) 0).val = 17 * (r 0).val + k.val := column_toNat k r
  show f (idxAt (s := S272) ![column k] h r) = R (r 0).val (ix1 k)
  rw [hf (idxAt (s := S272) ![column k] h r) (by omega) (by omega)]
  have h1 : ((idxAt (s := S272) ![column k] h r) 0).val / 17 = (r 0).val := by omega
  have h2 : ((idxAt (s := S272) ![column k] h r) 0).val % 17 = k.val := by omega
  rw [h1]
  exact congrArg (fun z => R (r 0).val (ix1 z)) (Fin.ext h2)

/-! ## The rules -/

/-- The vector subcore that the grid puts at `i`, on device `d`. -/
abbrev th (d : Dev nD) (i : grid0.Coords) : Thread nD τ := V d ((i 0).castLE hcore0) ((i 1).castLE hsub0)

/-- A program of that subcore runs to `Q`. -/
abbrev runs (d : Dev nD) (i : grid0.Coords) {α : Type} (p : Code F i α) (Q : α → sProp 𝕄) : sProp 𝕄 :=
  wp frame (wpE (defs₀ (F := F)) 𝒱₀ (th d i) none) Set.univ p Q

section Rules

variable (d : Dev nD) (i : grid0.Coords)

/-- The tile's words on the half `c` of the buffer. -/
abbrev bufPts (c : ℕ) (T : S16384.Idx → Elt F .f32) : sProp 𝕄 := (th d i).loc cc0_scratch0 ↦[slot c]{fullShare} T
/-- The sums' scratch buffer with its first `n` rows those of `R`. -/
def sscrPts (n : ℕ) (R : ℕ → Vec F S16 .f32) : sProp 𝕄 := iprop(∃ f, ⌜Filled n R f⌝ ∗ (th d i).loc cc0_scratch1 ↦{fullShare} f)
/-- The maxima's scratch buffer with its first `n` rows those of `R`. -/
def mscrPts (n : ℕ) (R : ℕ → Vec F S16 .f32) : sProp 𝕄 := iprop(∃ f, ⌜Filled n R f⌝ ∗ (th d i).loc cc0_scratch2 ↦{fullShare} f)
/-- The sums' result buffer with its first `n` groups those of `G`. -/
def sumsPts (n : ℕ) (G : ℕ → Vec F S16 .f32) : sProp 𝕄 := iprop(∃ f, ⌜Grouped n G f⌝ ∗ (th d i).loc cc0_scratch3 ↦{fullShare} f)
/-- The maxima's result buffer with its first `n` groups those of `G`. -/
def maxsPts (n : ℕ) (G : ℕ → Vec F S16 .f32) : sProp 𝕄 := iprop(∃ f, ⌜Grouped n G f⌝ ∗ (th d i).loc cc0_scratch4 ↦{fullShare} f)

theorem wp_loadPiece {α : Type} {Q : α → sProp 𝕄} (t : Fin k0_t1_loop.trips) (r : Fin 16) (j : Fin 8) (T : S16384.Idx → Elt F .f32) {k : Vec F S16 .f32 → Code F i α} :
    bufPts d i (t.val / 4) T
      ⊢ iprop((bufPts d i (t.val / 4) T -∗ runs d i (k (piece T t.val r.val j.val)) Q) -∗ runs d i (loadPiece i t r j >>= k) Q) := by
  rw [← piece_read t r j T]
  exact wp_load_rect 𝒱₀ (th d i) none Set.univ (m := bufM)
    (r := Rect.unit (s := S16384) (k0_off6 t (BitVec.ofNat 32 (128 * r.val)) (BitVec.ofNat 32 (16 * j.val))) S16.size (k0_off6_inb t r j))
    (hl := View.loadsAt_vmem h_S16) (k := k) (S := slot (t.val / 4)) (q := fullShare) (f := T) (piece_in_slot t r j)

theorem wp_storeSum {α : Type} {Q : α → sProp 𝕄} (r : Fin 16) (R : ℕ → Vec F S16 .f32) {k : PUnit → Code F i α} :
    sscrPts d i r.val R
      ⊢ iprop((sscrPts d i (r.val + 1) R -∗ runs d i (k ⟨⟩) Q) -∗ runs d i (storeRow i sscrM r (R r.val) >>= k) Q) := by
  unfold sscrPts
  iintro ⟨%f, %hf, H⟩ Hk
  iapply (wp_load_rect 𝒱₀ (th d i) none Set.univ (m := sscrM) (r := Rect.unit (s := S272) ![17 * r.val] S16.size (row_inb r)) (S := Finset.univ)
    (Finset.subset_univ _)) $$ H
  iintro H
  iapply (wp_store 𝒱₀ (th d i) none Set.univ (m := sscrM) (r := Rect.unit (s := S272) ![17 * r.val] S16.size (row_inb r)) (Mk := Finset.univ)
    (S := Finset.univ) (Finset.subset_univ _)) $$ H
  iintro H
  iapply Hk
  iexists _; isplitr
  rotate_left
  · iexact H
  ipureintro
  exact filled_succ (fun x y h => write_in cc0_scratch1 _ _ (row_inb r) f (R r.val) x y fun | (0 : Fin 1) => h)
    (fun x h => write_out cc0_scratch1 _ _ (row_inb r) f (R r.val) x ⟨(0 : Fin 1), h⟩) hf

theorem wp_storeMax {α : Type} {Q : α → sProp 𝕄} (r : Fin 16) (R : ℕ → Vec F S16 .f32) {k : PUnit → Code F i α} :
    mscrPts d i r.val R
      ⊢ iprop((mscrPts d i (r.val + 1) R -∗ runs d i (k ⟨⟩) Q) -∗ runs d i (storeRow i mscrM r (R r.val) >>= k) Q) := by
  unfold mscrPts
  iintro ⟨%f, %hf, H⟩ Hk
  iapply (wp_load_rect 𝒱₀ (th d i) none Set.univ (m := mscrM) (r := Rect.unit (s := S272) ![17 * r.val] S16.size (row_inb r)) (S := Finset.univ)
    (Finset.subset_univ _)) $$ H
  iintro H
  iapply (wp_store 𝒱₀ (th d i) none Set.univ (m := mscrM) (r := Rect.unit (s := S272) ![17 * r.val] S16.size (row_inb r)) (Mk := Finset.univ)
    (S := Finset.univ) (Finset.subset_univ _)) $$ H
  iintro H
  iapply Hk
  iexists _; isplitr
  rotate_left
  · iexact H
  ipureintro
  exact filled_succ (fun x y h => write_in cc0_scratch2 _ _ (row_inb r) f (R r.val) x y fun | (0 : Fin 1) => h)
    (fun x h => write_out cc0_scratch2 _ _ (row_inb r) f (R r.val) x ⟨(0 : Fin 1), h⟩) hf

theorem wp_gatherSum {α : Type} {Q : α → sProp 𝕄} (c : Fin 16) (R : ℕ → Vec F S16 .f32) {k : Vec F S16 .f32 → Code F i α} :
    sscrPts d i 16 R
      ⊢ iprop((sscrPts d i 16 R -∗ runs d i (k (col R c)) Q) -∗ runs d i (gather i sscrM c >>= k) Q) := by
  unfold sscrPts
  iintro ⟨%f, %hf, H⟩ Hk
  unfold gather runs
  simp only [Prog.lift, Prog.bind_op, Prog.bind_ret, bind_assoc]
  rw [wp_assume_of _ _ _ _ (column_ok c)]
  iapply (SparseCore.wp_vectorLoadIdx 𝒱₀ (th d i) none Set.univ (base := sscrM) (S := Finset.univ) (q := fullShare) (Finset.subset_univ _)) $$ H
  iintro H
  rw [show ((sscrM).access (.whole S272)).read (Elt F) f = f from Memref.read_access_whole _ _ _, gather_col c R f hf]
  iapply Hk
  iexists f; isplitr
  · ipureintro; exact hf
  · iexact H

theorem wp_gatherMax {α : Type} {Q : α → sProp 𝕄} (c : Fin 16) (R : ℕ → Vec F S16 .f32) {k : Vec F S16 .f32 → Code F i α} :
    mscrPts d i 16 R
      ⊢ iprop((mscrPts d i 16 R -∗ runs d i (k (col R c)) Q) -∗ runs d i (gather i mscrM c >>= k) Q) := by
  unfold mscrPts
  iintro ⟨%f, %hf, H⟩ Hk
  unfold gather runs
  simp only [Prog.lift, Prog.bind_op, Prog.bind_ret, bind_assoc]
  rw [wp_assume_of _ _ _ _ (column_ok c)]
  iapply (SparseCore.wp_vectorLoadIdx 𝒱₀ (th d i) none Set.univ (base := mscrM) (S := Finset.univ) (q := fullShare) (Finset.subset_univ _)) $$ H
  iintro H
  rw [show ((mscrM).access (.whole S272)).read (Elt F) f = f from Memref.read_access_whole _ _ _, gather_col c R f hf]
  iapply Hk
  iexists f; isplitr
  · ipureintro; exact hf
  · iexact H

theorem wp_storeSums {α : Type} {Q : α → sProp 𝕄} (t : Fin k0_t1_loop.trips) (G : ℕ → Vec F S16 .f32) {k : PUnit → Code F i α} :
    sumsPts d i t.val G
      ⊢ iprop((sumsPts d i (t.val + 1) G -∗ runs d i (k ⟨⟩) Q) -∗ runs d i (storeOut i sumsM t (G t.val) >>= k) Q) := by
  unfold sumsPts
  iintro ⟨%f, %hf, H⟩ Hk
  iapply (wp_load_rect 𝒱₀ (th d i) none Set.univ (m := sumsM) (r := Rect.unit (s := S128) (k0_off7 t) S16.size (k0_off7_inb t)) (S := Finset.univ)
    (Finset.subset_univ _)) $$ H
  iintro H
  iapply (wp_store 𝒱₀ (th d i) none Set.univ (m := sumsM) (r := Rect.unit (s := S128) (k0_off7 t) S16.size (k0_off7_inb t)) (Mk := Finset.univ)
    (S := Finset.univ) (Finset.subset_univ _)) $$ H
  iintro H
  iapply Hk
  iexists _; isplitr
  rotate_left
  · iexact H
  ipureintro
  have e : k0_off7 t 0 = 16 * t.val := congrFun (k0_off7_eq t) 0
  exact grouped_succ (fun x y h => write_in cc0_scratch3 _ _ (k0_off7_inb t) f (G t.val) x y fun | (0 : Fin 1) => h.trans (congrArg (· + (y 0).val) e.symm))
    (fun x h => write_out cc0_scratch3 _ _ (k0_off7_inb t) f (G t.val) x ⟨(0 : Fin 1), by rw [e]; exact h⟩) hf

theorem wp_storeMaxs {α : Type} {Q : α → sProp 𝕄} (t : Fin k0_t1_loop.trips) (G : ℕ → Vec F S16 .f32) {k : PUnit → Code F i α} :
    maxsPts d i t.val G
      ⊢ iprop((maxsPts d i (t.val + 1) G -∗ runs d i (k ⟨⟩) Q) -∗ runs d i (storeOut i maxsM t (G t.val) >>= k) Q) := by
  unfold maxsPts
  iintro ⟨%f, %hf, H⟩ Hk
  iapply (wp_load_rect 𝒱₀ (th d i) none Set.univ (m := maxsM) (r := Rect.unit (s := S128) (k0_off7 t) S16.size (k0_off7_inb t)) (S := Finset.univ)
    (Finset.subset_univ _)) $$ H
  iintro H
  iapply (wp_store 𝒱₀ (th d i) none Set.univ (m := maxsM) (r := Rect.unit (s := S128) (k0_off7 t) S16.size (k0_off7_inb t)) (Mk := Finset.univ)
    (S := Finset.univ) (Finset.subset_univ _)) $$ H
  iintro H
  iapply Hk
  iexists _; isplitr
  rotate_left
  · iexact H
  ipureintro
  have e : k0_off7 t 0 = 16 * t.val := congrFun (k0_off7_eq t) 0
  exact grouped_succ (fun x y h => write_in cc0_scratch4 _ _ (k0_off7_inb t) f (G t.val) x y fun | (0 : Fin 1) => h.trans (congrArg (· + (y 0).val) e.symm))
    (fun x h => write_out cc0_scratch4 _ _ (k0_off7_inb t) f (G t.val) x ⟨(0 : Fin 1), by rw [e]; exact h⟩) hf

/-- A row of a trip: its sums and maxima join the rows before it. -/
theorem wp_row {α : Type} {Q : α → sProp 𝕄} (t : Fin k0_t1_loop.trips) (r : Fin 16) (T : S16384.Idx → Elt F .f32) {k : PUnit → Code F i α}
    (n n' : ℕ) (hn : n = r.val) (hn' : n' = r.val + 1) :
    iprop(bufPts d i (t.val / 4) T ∗ sscrPts d i n (laneSum T t.val) ∗ mscrPts d i n (laneMax T t.val))
      ⊢ iprop((iprop(bufPts d i (t.val / 4) T ∗ sscrPts d i n' (laneSum T t.val) ∗ mscrPts d i n' (laneMax T t.val))
          -∗ runs d i (k ⟨⟩) Q) -∗ runs d i (row i t r >>= k) Q) := by
  subst hn hn'
  unfold row
  simp only [bind_assoc]
  iintro ⟨Hb, Hs, Hm⟩ Hk
  iapply (wp_loadPiece d i t r 0 T) $$ Hb; iintro Hb
  iapply (wp_loadPiece d i t r 1 T) $$ Hb; iintro Hb
  iapply (wp_loadPiece d i t r 2 T) $$ Hb; iintro Hb
  iapply (wp_loadPiece d i t r 3 T) $$ Hb; iintro Hb
  iapply (wp_loadPiece d i t r 4 T) $$ Hb; iintro Hb
  iapply (wp_loadPiece d i t r 5 T) $$ Hb; iintro Hb
  iapply (wp_loadPiece d i t r 6 T) $$ Hb; iintro Hb
  iapply (wp_loadPiece d i t r 7 T) $$ Hb; iintro Hb
  iapply (wp_storeSum d i r (laneSum T t.val)) $$ Hs; iintro Hs
  iapply (wp_storeMax d i r (laneMax T t.val)) $$ Hm; iintro Hm
  iapply Hk
  isplitl [Hb]; · iexact Hb
  isplitl [Hs]; · iexact Hs
  iexact Hm

/-- The sixteen rows of a trip. -/
theorem wp_rows {α : Type} {Q : α → sProp 𝕄} (t : Fin k0_t1_loop.trips) (T : S16384.Idx → Elt F .f32) {k : PUnit → Code F i α} :
    iprop(bufPts d i (t.val / 4) T ∗ sscrPts d i 0 (laneSum T t.val) ∗ mscrPts d i 0 (laneMax T t.val))
      ⊢ iprop((iprop(bufPts d i (t.val / 4) T ∗ sscrPts d i 16 (laneSum T t.val) ∗ mscrPts d i 16 (laneMax T t.val))
          -∗ runs d i (k ⟨⟩) Q) -∗ runs d i (rows i t >>= k) Q) := by
  unfold rows
  simp only [bind_assoc]
  iintro H Hk
  iapply (wp_row d i t 0 T 0 1 rfl rfl) $$ H; iintro H
  iapply (wp_row d i t 1 T 1 2 rfl rfl) $$ H; iintro H
  iapply (wp_row d i t 2 T 2 3 rfl rfl) $$ H; iintro H
  iapply (wp_row d i t 3 T 3 4 rfl rfl) $$ H; iintro H
  iapply (wp_row d i t 4 T 4 5 rfl rfl) $$ H; iintro H
  iapply (wp_row d i t 5 T 5 6 rfl rfl) $$ H; iintro H
  iapply (wp_row d i t 6 T 6 7 rfl rfl) $$ H; iintro H
  iapply (wp_row d i t 7 T 7 8 rfl rfl) $$ H; iintro H
  iapply (wp_row d i t 8 T 8 9 rfl rfl) $$ H; iintro H
  iapply (wp_row d i t 9 T 9 10 rfl rfl) $$ H; iintro H
  iapply (wp_row d i t 10 T 10 11 rfl rfl) $$ H; iintro H
  iapply (wp_row d i t 11 T 11 12 rfl rfl) $$ H; iintro H
  iapply (wp_row d i t 12 T 12 13 rfl rfl) $$ H; iintro H
  iapply (wp_row d i t 13 T 13 14 rfl rfl) $$ H; iintro H
  iapply (wp_row d i t 14 T 14 15 rfl rfl) $$ H; iintro H
  iapply (wp_row d i t 15 T 15 16 rfl rfl) $$ H; iintro H
  iapply Hk
  iexact H

/-- The columns of a trip: the group's sums and maxima join the groups before it. -/
theorem wp_columns (t : Fin k0_t1_loop.trips) (T : S16384.Idx → Elt F .f32) :
    iprop(sscrPts d i 16 (laneSum T t.val) ∗ mscrPts d i 16 (laneMax T t.val) ∗ sumsPts d i t.val (groupSum T) ∗ maxsPts d i t.val (groupMax T))
      ⊢ runs d i (columns i t) fun _ => iprop(sscrPts d i 16 (laneSum T t.val) ∗ mscrPts d i 16 (laneMax T t.val)
          ∗ sumsPts d i (t.val + 1) (groupSum T) ∗ maxsPts d i (t.val + 1) (groupMax T)) := by
  unfold columns
  iintro ⟨Hs, Hm, Ho, Hp⟩
  iapply (wp_gatherSum d i 0 (laneSum T t.val)) $$ Hs; iintro Hs
  iapply (wp_gatherSum d i 1 (laneSum T t.val)) $$ Hs; iintro Hs
  iapply (wp_gatherSum d i 2 (laneSum T t.val)) $$ Hs; iintro Hs
  iapply (wp_gatherSum d i 3 (laneSum T t.val)) $$ Hs; iintro Hs
  iapply (wp_gatherMax d i 0 (laneMax T t.val)) $$ Hm; iintro Hm
  iapply (wp_gatherMax d i 1 (laneMax T t.val)) $$ Hm; iintro Hm
  iapply (wp_gatherMax d i 2 (laneMax T t.val)) $$ Hm; iintro Hm
  iapply (wp_gatherMax d i 3 (laneMax T t.val)) $$ Hm; iintro Hm
  iapply (wp_gatherSum d i 4 (laneSum T t.val)) $$ Hs; iintro Hs
  iapply (wp_gatherMax d i 4 (laneMax T t.val)) $$ Hm; iintro Hm
  iapply (wp_gatherSum d i 5 (laneSum T t.val)) $$ Hs; iintro Hs
  iapply (wp_gatherMax d i 5 (laneMax T t.val)) $$ Hm; iintro Hm
  iapply (wp_gatherSum d i 6 (laneSum T t.val)) $$ Hs; iintro Hs
  iapply (wp_gatherMax d i 6 (laneMax T t.val)) $$ Hm; iintro Hm
  iapply (wp_gatherSum d i 7 (laneSum T t.val)) $$ Hs; iintro Hs
  iapply (wp_gatherMax d i 7 (laneMax T t.val)) $$ Hm; iintro Hm
  iapply (wp_gatherSum d i 8 (laneSum T t.val)) $$ Hs; iintro Hs
  iapply (wp_gatherMax d i 8 (laneMax T t.val)) $$ Hm; iintro Hm
  iapply (wp_gatherSum d i 9 (laneSum T t.val)) $$ Hs; iintro Hs
  iapply (wp_gatherMax d i 9 (laneMax T t.val)) $$ Hm; iintro Hm
  iapply (wp_gatherSum d i 10 (laneSum T t.val)) $$ Hs; iintro Hs
  iapply (wp_gatherMax d i 10 (laneMax T t.val)) $$ Hm; iintro Hm
  iapply (wp_gatherSum d i 11 (laneSum T t.val)) $$ Hs; iintro Hs
  iapply (wp_gatherMax d i 11 (laneMax T t.val)) $$ Hm; iintro Hm
  iapply (wp_gatherSum d i 12 (laneSum T t.val)) $$ Hs; iintro Hs
  iapply (wp_gatherMax d i 12 (laneMax T t.val)) $$ Hm; iintro Hm
  iapply (wp_gatherSum d i 13 (laneSum T t.val)) $$ Hs; iintro Hs
  iapply (wp_gatherMax d i 13 (laneMax T t.val)) $$ Hm; iintro Hm
  iapply (wp_gatherSum d i 14 (laneSum T t.val)) $$ Hs; iintro Hs
  iapply (wp_gatherMax d i 14 (laneMax T t.val)) $$ Hm; iintro Hm
  iapply (wp_gatherSum d i 15 (laneSum T t.val)) $$ Hs; iintro Hs
  iapply (wp_gatherMax d i 15 (laneMax T t.val)) $$ Hm; iintro Hm
  iapply (wp_storeSums d i t (groupSum T)) $$ Ho; iintro Ho
  rw [← bind_pure (storeOut i maxsM t _)]
  iapply (wp_storeMaxs d i t (groupMax T)) $$ Hp; iintro Hp
  unfold runs; rw [Prog.pure_eq_ret, wp_ret]; imodintro
  isplitl [Hs]; · iexact Hs
  isplitl [Hm]; · iexact Hm
  isplitl [Ho]; · iexact Ho
  iexact Hp

end Rules

end Cert.RowStatsIdeal.Tile
-- ==== Proof.Ideal.Chunks.lean ====
/- The copies of a tile's words into its buffer. A tile's 128 rows come in two halves of 64 rows; the
   first copy is begun before the loop, the second by trip 0, and trips 0 and 4 wait for the half
   whose rows they are the first to read. `state` says what is held before each trip. -/
module

public import proofs.«01_k».proof.Proof.Ideal.Steps

@[expose] public section

noncomputable section

namespace Cert.RowStatsIdeal.Tile

open Cert.RowStatsIdeal Cert.RowStatsIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first word of the flat array that belongs to the tile at `i`. -/
def base (i : grid0.Coords) : ℕ := 32768 * (i 1).val + 16384 * (i 0).val

/-- The words of the tile at `i`: 16384 of the flat array's, from `base i` on. -/
def tileOf (X : S2097152.Idx → Elt F .f32) (i : grid0.Coords) : S16384.Idx → Elt F .f32 :=
  fun y => X (ix1 ⟨(base i + (y 0).val) % 2097152, Nat.mod_lt _ (by decide)⟩)

theorem base_lt (i : grid0.Coords) : base i + 16384 ≤ 524288 := by
  have h1 : (i 1).val < 16 := (i 1).isLt
  have h0 : (i 0).val < 2 := (i 0).isLt
  unfold base; omega

theorem off1_zero (i : grid0.Coords) : k0_off1 i 0 = base i + 0 := congrFun (k0_off1_eq i) 0

theorem off5_zero : ∀ i : grid0.Coords, k0_off5 i (⟨0, by decide⟩ : Fin k0_t1_loop.trips) 0 = 32768 * (i 1).val + 16384 * (i 0).val + 8192 := by
  decide +kernel

/-- The counters of the copies in flight. -/
abbrev EC : UEmb Counters 𝕄 := countersEmb

/-- What a half's copy counts on its semaphore. -/
abbrev units : ℕ := (bufM.slice (Rect.unit (s := S16384) ![0] S8192.size inb_S16384_S8192_0) (fun _ => rfl)).view.dmaCredit

variable (d : Dev nD) (i : grid0.Coords)

/-- The half `c` of the buffer is on its way, and will hold the tile's words. -/
abbrev flying (s : DmaSem sig) (c : ℕ) (X : S2097152.Idx → Elt F .f32) : sProp 𝕄 :=
  Transfers.Flight EC (th d i) (.dma s) none units (bufPts d i c (tileOf X i))

/-- The waits recorded are those of `W` and others at no index. -/
abbrev owed (O : CellTallies nD τ sig (HIx 1)) (W : Waits sig (HIx 1)) : sProp 𝕄 :=
  iprop(∃ W', ⌜∀ p ∈ W', p ∈ W ∨ p.2 = none⌝ ∗ owes (th d i) O W')

theorem slot_set (c so : ℕ) (hso : so = 8192 * c) (hs : ∀ a, (![so] : Fin 1 → ℕ) a + S8192.size a ≤ S16384.size a) :
    ((View.whole (cc0_scratch0 : Ref sig .scVector)).slice (Rect.unit (s := S16384) ![so] S8192.size hs)).set ⊆ slot c := by
  intro x hx
  rw [View.set_slice_whole, Rect.mem_set_unit] at hx
  have h1 : so ≤ (x 0).val := (hx 0).1
  have h2 : (x 0).val < so + 8192 := (hx 0).2
  simp only [slot, Finset.mem_filter, Finset.mem_univ, true_and]
  omega

/-- A copy lands the tile's words in its half. -/
theorem slot_landed (c so : ℕ) (hso : so = 8192 * c) (hs : ∀ a, (![so] : Fin 1 → ℕ) a + S8192.size a ≤ S16384.size a)
    (off : Fin 1 → ℕ) (ho : ∀ a, off a + S8192.size a ≤ S2097152.size a) (e : off 0 = base i + so)
    (X : S2097152.Idx → Elt F .f32) (f : S16384.Idx → Elt F .f32) (x : S16384.Idx) (hx : x ∈ slot c) :
    ((View.whole (cc0_scratch0 : Ref sig .scVector)).slice (Rect.unit (s := S16384) ![so] S8192.size hs)).write (Elt F) f
        (((View.whole (main_v0_scv : Ref sig .scVector)).slice (Rect.unit (s := S2097152) off S8192.size ho)).read (Elt F) X) Finset.univ x
      = tileOf X i x := by
  simp only [slot, Finset.mem_filter, Finset.mem_univ, true_and] at hx
  have hc : so ≤ (x 0).val ∧ (x 0).val < so + 8192 := by omega
  have hb := base_lt i
  have hl : (x 0).val < 16384 := (x 0).isLt
  refine (write_in cc0_scratch0 _ _ hs f _ x (ix1 ⟨(x 0).val - so, by omega⟩) fun
    | (0 : Fin 1) => (Nat.add_sub_cancel' hc.1).symm).trans ?_
  refine read_at main_v0_scv _ _ ho X _ _ fun
    | (0 : Fin 1) => ?_
  rw [e]
  show (base i + (x 0).val) % 2097152 = base i + so + ((x 0).val - so)
  omega

theorem wp_issue {α : Type} {Q : α → sProp 𝕄} (c so : ℕ) (hso : so = 8192 * c) (hs : ∀ a, (![so] : Fin 1 → ℕ) a + S8192.size a ≤ S16384.size a)
    (off : Fin 1 → ℕ) (ho : ∀ a, off a + S8192.size a ≤ S2097152.size a) (e : off 0 = base i + so)
    (s : DmaSem sig) (q : PosShare TreeShare) (X : S2097152.Idx → Elt F .f32) (f : S16384.Idx → Elt F .f32)
    {h1 h2 h3} {k : PUnit → Code F i α} :
    iprop(((th d i).loc main_v0_scv ↦{q} X) ∗ bufPts d i c f ∗ semVal (th d i, .dma s) 0)
      ⊢ iprop((flying d i s c X -∗ runs d i (k ⟨⟩) Q)
        -∗ runs d i (.op (.enqueueDma (xM.slice (Rect.unit (s := S2097152) off S8192.size ho) (fun _ => rfl))
            (.here (bufM.slice (Rect.unit (s := S16384) ![so] S8192.size hs) (fun _ => rfl))) (.dma s) h1 h2 h3) k) Q) := by
  iintro ⟨Hx, Hb, Hs⟩ Hk
  ihave Hx' := (pointsTo_split_subset (Finset.subset_univ
    ((View.whole (main_v0_scv : Ref sig .scVector)).slice (Rect.unit (s := S2097152) off S8192.size ho)).set)).1 $$ Hx
  icases Hx' with ⟨Hx, -⟩
  iapply (Transfers.wp_dmaLocal EC 𝒱₀ (th d i) none none units
    (show (bufM.slice (Rect.unit (s := S16384) ![so] S8192.size hs) (fun _ => rfl)).view.amount (.dma s) = units from rfl) (View.dmaCredit_pos _ (by decide +kernel)) (slot_set c so hso hs)) $$ [Hx Hb Hs]
  · isplitl [Hx]; · iexact Hx
    isplitl [Hb]; · iexact Hb
    iexact Hs
  iintro Hf
  iapply Hk
  iapply (Transfers.Flight_mono EC ?_) $$ Hf
  iintro ⟨Hb, -⟩
  iapply (Entails.of_eq (pointsTo_congr ?_)) $$ Hb
  intro x hx
  exact slot_landed i c so hso hs off ho e X f x hx

theorem wp_land {α : Type} {Q : α → sProp 𝕄} {sp sp' : Space} {a b : Shape} {p r : EltTy} {src : Memref sig .scVector sp a p} {dst : Memref sig .scVector sp' b r}
    (s : DmaSem sig) (N : ℕ) (hN : dst.view.dmaCredit = N) (D : sProp 𝕄)
    (O : CellTallies nD τ sig (HIx 1)) (W : Waits sig (HIx 1)) {h1 h2} {k : PUnit → Code F i α} :
    iprop(Transfers.Flight EC (th d i) (.dma s) none N D ∗ Transfers.MayWaits (th d i) (none : HIx 1) O ∗ owed d i O W)
      ⊢ iprop((iprop(D ∗ semVal (th d i, .dma s) 0 ∗ owed d i O W) -∗ runs d i (k ⟨⟩) Q)
        -∗ runs d i (.op (.waitDma2 s src dst h1 h2) k) Q) := by
  iintro ⟨Hf, Hm, %W', %hW, HO⟩ Hk
  iapply (Transfers.wp_waitLocalO EC 𝒱₀ (th d i) none none hN) $$ [Hf Hm HO]
  · isplitl [Hf]; · iexact Hf
    isplitl [HO]; · iexact HO
    iapply (Transfers.MayWaits.elim (SemLoc.dma s)) $$ Hm
  iintro ⟨HD, Hs, HO⟩
  iapply Hk
  isplitl [HD]; · iexact HD
  isplitl [Hs]; · iexact Hs
  iexists (insert (SemLoc.dma s, none) W'); isplitr
  · ipureintro; intro p hp
    rcases Finset.mem_insert.mp hp with hp | hp
    · exact .inr (hp ▸ rfl)
    · exact hW p hp
  · iexact HO

/-- What is held of the buffer and its copies before trip `n`. -/
def state (q : PosShare TreeShare) (X : S2097152.Idx → Elt F .f32) (n : ℕ) : sProp 𝕄 :=
  if n = 0 then iprop(flying d i cc0_scratch5.sem 0 X ∗ (∃ f, bufPts d i 1 f) ∗ semVal (th d i, .dma cc0_scratch6.sem) 0 ∗ ((th d i).loc main_v0_scv ↦{q} X))
  else if n ≤ 4 then iprop(bufPts d i 0 (tileOf X i) ∗ flying d i cc0_scratch6.sem 1 X ∗ semVal (th d i, .dma cc0_scratch5.sem) 0)
  else iprop(bufPts d i 1 (tileOf X i) ∗ bufPts d i 0 (tileOf X i) ∗ semVal (th d i, .dma cc0_scratch5.sem) 0 ∗ semVal (th d i, .dma cc0_scratch6.sem) 0)

/-- After a trip's copies the half it reads is there. -/
theorem state_half (q : PosShare TreeShare) (X : S2097152.Idx → Elt F .f32) (t : Fin k0_t1_loop.trips) :
    state d i q X (t.val + 1) ⊢ iprop(bufPts d i (t.val / 4) (tileOf X i) ∗ (bufPts d i (t.val / 4) (tileOf X i) -∗ state d i q X (t.val + 1))) := by
  have ht : t.val < 8 := t.isLt
  unfold state
  rw [if_neg (Nat.succ_ne_zero _)]
  by_cases h : t.val + 1 ≤ 4
  · rw [if_pos h, show t.val / 4 = 0 by omega]
    iintro ⟨Hb, Hr⟩
    isplitl [Hb]; · iexact Hb
    iintro Hb; isplitl [Hb]; · iexact Hb
    iexact Hr
  · rw [if_neg h, show t.val / 4 = 1 by omega]
    iintro ⟨Hb, Hr⟩
    isplitl [Hb]; · iexact Hb
    iintro Hb; isplitl [Hb]; · iexact Hb
    iexact Hr

theorem first : k0_cond1 (⟨0, by decide⟩ : Fin k0_t1_loop.trips) = 1#1 ∧ k0_cond2 (⟨0, by decide⟩ : Fin k0_t1_loop.trips) = 1#1
    ∧ ¬ k0_cond3 (⟨0, by decide⟩ : Fin k0_t1_loop.trips) = 1#1 ∧ k0_cond4 (⟨0, by decide⟩ : Fin k0_t1_loop.trips) = 1#1
    ∧ ¬ k0_cond5 (⟨0, by decide⟩ : Fin k0_t1_loop.trips) = 1#1 ∧ k0_cond6 (⟨0, by decide⟩ : Fin k0_t1_loop.trips) = 1#1 := by
  decide +kernel

theorem fourth : k0_cond1 (⟨4, by decide⟩ : Fin k0_t1_loop.trips) = 1#1 ∧ ¬ k0_cond2 (⟨4, by decide⟩ : Fin k0_t1_loop.trips) = 1#1
    ∧ k0_cond3 (⟨4, by decide⟩ : Fin k0_t1_loop.trips) = 1#1 ∧ ¬ k0_cond4 (⟨4, by decide⟩ : Fin k0_t1_loop.trips) = 1#1 := by
  decide +kernel

theorem others : ∀ t : Fin k0_t1_loop.trips, t.val ≠ 0 → t.val ≠ 4 → ¬ k0_cond1 t = 1#1 := by
  decide +kernel

/-- A trip's waits and copies take the state before it to the state before the next. -/
theorem wp_chunks {α : Type} {Q : α → sProp 𝕄} (w : BitVec 32) (t : Fin k0_t1_loop.trips) (q : PosShare TreeShare) (X : S2097152.Idx → Elt F .f32)
    (O : CellTallies nD τ sig (HIx 1)) (W : Waits sig (HIx 1)) (p : Code F i α) :
    iprop(state d i q X t.val ∗ Transfers.MayWaits (th d i) (none : HIx 1) O ∗ owed d i O W)
      ⊢ iprop((iprop(state d i q X (t.val + 1) ∗ owed d i O W) -∗ runs d i p Q) -∗ runs d i (chunks i w t >>= fun _ => p) Q) := by
  have ht : t.val < 8 := t.isLt
  unfold state
  rw [if_neg (Nat.succ_ne_zero _)]
  unfold chunks k0_part1_skel
  by_cases h0 : t.val = 0
  · obtain rfl : t = ⟨0, by decide⟩ := Fin.ext h0
    obtain ⟨c1, c2, c3, c4, c5, c6⟩ := first
    rw [if_pos rfl, if_pos (by decide)]
    simp only [dif_pos c1, dif_pos c2, dif_neg c3, dif_pos c4, dif_neg c5, dif_pos c6, Prog.lift, Prog.bind_op, Prog.bind_ret, Prog.pure_eq_ret]
    iintro ⟨⟨Hf, ⟨%f, Hb⟩, Hs, Hx⟩, Hm, HO⟩ Hk
    iapply (wp_land d i cc0_scratch5.sem units rfl (bufPts d i 0 (tileOf X i)) O W) $$ [Hf Hm HO]
    · isplitl [Hf]; · iexact Hf
      isplitl [Hm] <;> iassumption
    iintro ⟨Hb0, Hs0, HO⟩
    iapply (wp_issue d i 1 8192 rfl inb_S16384_S8192_8192 _ _ (off5_zero i) cc0_scratch6.sem q X f) $$ [Hx Hb Hs]
    · isplitl [Hx]; · iexact Hx
      isplitl [Hb] <;> iassumption
    iintro Hf
    iapply Hk
    isplitr [HO]
    · isplitl [Hb0]; · iexact Hb0
      isplitl [Hf] <;> iassumption
    · iexact HO
  · rw [if_neg h0]
    by_cases h4 : t.val = 4
    · obtain rfl : t = ⟨4, by decide⟩ := Fin.ext h4
      obtain ⟨c1, c2, c3, c4⟩ := fourth
      rw [if_pos (by decide), if_neg (by decide)]
      simp only [dif_pos c1, dif_neg c2, dif_pos c3, dif_neg c4, Prog.lift, Prog.bind_op, Prog.bind_ret, Prog.pure_eq_ret]
      iintro ⟨⟨Hb0, Hf, Hs0⟩, Hm, HO⟩ Hk
      iapply (wp_land d i cc0_scratch6.sem units (show (bufM.slice (Rect.unit (s := S16384) ![8192] S8192.size inb_S16384_S8192_8192) (fun _ => rfl)).view.dmaCredit = units from rfl) (bufPts d i 1 (tileOf X i)) O W) $$ [Hf Hm HO]
      · isplitl [Hf]; · iexact Hf
        isplitl [Hm] <;> iassumption
      iintro ⟨Hb1, Hs1, HO⟩
      iapply Hk
      isplitr [HO]
      · isplitl [Hb1]; · iexact Hb1
        isplitl [Hb0]; · iexact Hb0
        isplitl [Hs0] <;> iassumption
      · iexact HO
    · have c1 := others t h0 h4
      simp only [dif_neg c1, Prog.bind_ret, Prog.pure_eq_ret]
      simp only [show t.val + 1 ≤ 4 ↔ t.val ≤ 4 by omega]
      iintro ⟨Hst, -, HO⟩ Hk
      iapply Hk
      isplitl [Hst]; · iexact Hst
      iexact HO

end Cert.RowStatsIdeal.Tile
-- ==== Proof.Ideal.Body.lean ====
/- A tile of the kernel, from its words of the flat array to its rows of the two results: the first
   copy, the loop of eight trips and the two copies out. -/
module

public import proofs.«01_k».proof.Proof.Ideal.Chunks

@[expose] public section

noncomputable section

namespace Cert.RowStatsIdeal.Tile

open Cert.RowStatsIdeal Cert.RowStatsIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)

/-! ## The results -/

/-- The number of the tile at `i`: the SparseCores take turns. -/
def wid (i : grid0.Coords) : ℕ := 2 * (i 1).val + (i 0).val

/-- The words of tile `n`. -/
def tileAt (X : S2097152.Idx → Elt F .f32) (n : ℕ) : S16384.Idx → Elt F .f32 :=
  fun y => X (ix1 ⟨(16384 * n + (y 0).val) % 2097152, Nat.mod_lt _ (by decide)⟩)

theorem tileOf_eq (X : S2097152.Idx → Elt F .f32) (i : grid0.Coords) : tileOf X i = tileAt X (wid i) := by
  have e : base i = 16384 * wid i := by unfold base wid; omega
  unfold tileOf tileAt; simp only [e]

/-- What the kernel computes from a group of sixteen rows, put at every row of the result. -/
def spread (G : (S16384.Idx → Elt F .f32) → ℕ → Vec F S16 .f32) (X : S2097152.Idx → Elt F .f32) : S4096.Idx → Elt F .f32 :=
  fun x => G (tileAt X ((x 0).val / 128)) ((x 0).val % 128 / 16) (ix1 ⟨(x 0).val % 128 % 16, Nat.mod_lt _ (by decide)⟩)

/-- The kernel's row sums and row maxima of a flat array. -/
def rowSums (X : S2097152.Idx → Elt F .f32) : S4096.Idx → Elt F .f32 := spread groupSum X
def rowMaxs (X : S2097152.Idx → Elt F .f32) : S4096.Idx → Elt F .f32 := spread groupMax X

/-- The rows of the tile at `i`. -/
def rowsOf (i : grid0.Coords) : Finset S4096.Idx := Finset.univ.filter fun x => (x 0).val / 128 = wid i

theorem off8_zero (i : grid0.Coords) : k0_off8 i 0 = 128 * wid i := by
  refine (congrFun (k0_off8_eq i) 0).trans ?_
  show 256 * (i 1).val + 128 * (i 0).val = _
  unfold wid; omega

section Out

variable (i : grid0.Coords)

/-- The copy out of a result buffer that holds its eight groups puts the tile's rows in place. -/
theorem rows_landed (G : (S16384.Idx → Elt F .f32) → ℕ → Vec F S16 .f32) (X : S2097152.Idx → Elt F .f32)
    (g : S128.Idx → Elt F .f32) (hg : Grouped 8 (G (tileOf X i)) g) (x : S4096.Idx) (hx : x ∈ rowsOf i)
    (v : S4096.Idx → Elt F .f32)
    (hv : ∀ y : S128.Idx, (x 0).val = k0_off8 i 0 + (y 0).val → v x = g y) :
    v x = spread G X x := by
  simp only [rowsOf, Finset.mem_filter, Finset.mem_univ, true_and] at hx
  have hl : (x 0).val % 128 < 128 := Nat.mod_lt _ (by decide)
  rw [hv (ix1 ⟨(x 0).val % 128, hl⟩) (by rw [off8_zero, ← hx]; exact (Nat.div_add_mod _ _).symm)]
  rw [hg _ (show (x 0).val % 128 / 16 < 8 by omega), tileOf_eq, ← hx]
  rfl

theorem rows_set : ∀ x : S4096.Idx, x ∈ (Rect.unit (s := S4096) (k0_off8 i) S128.size (k0_off8_inb i)).set → x ∈ rowsOf i := by
  intro x hx
  rw [Rect.mem_set_unit] at hx
  have h := hx 0
  rw [off8_zero] at h
  have h1 : 128 * wid i ≤ (x 0).val := h.1
  have h2 : (x 0).val < 128 * wid i + 128 := h.2
  simp only [rowsOf, Finset.mem_filter, Finset.mem_univ, true_and]
  omega

end Out

variable (d : Dev nD) (i : grid0.Coords)

/-! ## The loop -/

/-- What is held before trip `n`. -/
def inv (q : PosShare TreeShare) (X : S2097152.Idx → Elt F .f32) (O : CellTallies nD τ sig (HIx 1)) (W : Waits sig (HIx 1)) (n : ℕ) (_ : PUnit) : sProp 𝕄 :=
  iprop(Transfers.MayWaits (th d i) (none : HIx 1) O ∗ state d i q X n
    ∗ (∃ f, (th d i).loc cc0_scratch1 ↦{fullShare} f) ∗ (∃ f, (th d i).loc cc0_scratch2 ↦{fullShare} f)
    ∗ sumsPts d i n (groupSum (tileOf X i)) ∗ maxsPts d i n (groupMax (tileOf X i)) ∗ owed d i O W)

theorem wp_trip (q : PosShare TreeShare) (X : S2097152.Idx → Elt F .f32) (O : CellTallies nD τ sig (HIx 1)) (W : Waits sig (HIx 1))
    (w : BitVec 32) (t : Fin k0_t1_loop.trips) :
    inv d i q X O W t.val ⟨⟩ ⊢ runs d i (trip i w t ⟨⟩) (inv d i q X O W (t.val + 1)) := by
  unfold trip inv
  iintro ⟨#Hm, Hst, ⟨%f, Hs⟩, ⟨%g, Hx⟩, Ho, Hp, HO⟩
  iapply (wp_chunks d i w t q X O W) $$ [Hst HO]
  · isplitl [Hst]; · iexact Hst
    isplitr; · iexact Hm
    iexact HO
  iintro ⟨Hst, HO⟩
  ihave Hst' := (state_half d i q X t) $$ Hst
  icases Hst' with ⟨Hb, Hback⟩
  iapply (wp_rows d i t (tileOf X i)) $$ [Hb Hs Hx]
  · isplitl [Hb]; · iexact Hb
    unfold sscrPts mscrPts
    isplitl [Hs]
    · iexists f; isplitr
      · ipureintro; exact filled_zero _ _
      · iexact Hs
    · iexists g; isplitr
      · ipureintro; exact filled_zero _ _
      · iexact Hx
  iintro ⟨Hb, Hs, Hx⟩
  iapply ((wp_columns d i t (tileOf X i)).trans (wp_wand _ _ _)) $$ [Hs Hx Ho Hp]
  · isplitl [Hs]; · iexact Hs
    isplitl [Hx]; · iexact Hx
    isplitl [Ho] <;> iassumption
  iintro %_ ⟨Hs, Hx, Ho, Hp⟩
  isplitr; · iexact Hm
  isplitl [Hb Hback]; · iapply Hback; iexact Hb
  unfold sscrPts mscrPts
  icases Hs with ⟨%f', -, Hs⟩
  icases Hx with ⟨%g', -, Hx⟩
  isplitl [Hs]; · iexists f'; iexact Hs
  isplitl [Hx]; · iexists g'; iexact Hx
  isplitl [Ho]; · iexact Ho
  isplitl [Hp]; · iexact Hp
  iexact HO

/-! ## The subcore's own buffers and semaphores -/

/-- The buffers the kernel uses, among the subcore's own. -/
abbrev bufs : Finset (Ref sig .scVector) := {cc0_scratch0, cc0_scratch1, cc0_scratch2, cc0_scratch3, cc0_scratch4}
/-- The semaphores the kernel uses. -/
abbrev sems : Finset (SemLoc sig) := {.dma cc0_scratch5.sem, .dma cc0_scratch6.sem, .dma cc0_scoped0.sem, .dma cc0_scoped1.sem}

abbrev asDev : Ref sig .scVector ↪ DevRef τ sig := ⟨(th d i).2.devRef, Proc.devRef_injective _⟩
abbrev asCell : SemLoc sig ↪ GSem nD τ sig := ⟨fun s => (th d i, s), fun _ _ e => (Prod.mk.inj e).2⟩

omit [FloatOps F] in
theorem ownBufs_th : (ownBufs (th d i) : sProp 𝕄)
    = iprop(((∃ f, (th d i).loc cc0_scratch0 ↦{fullShare} f) ∗ (∃ f, (th d i).loc cc0_scratch1 ↦{fullShare} f) ∗ (∃ f, (th d i).loc cc0_scratch2 ↦{fullShare} f)
        ∗ (∃ f, (th d i).loc cc0_scratch3 ↦{fullShare} f) ∗ (∃ f, (th d i).loc cc0_scratch4 ↦{fullShare} f))
      ∗ bigSep (ownRefs (th d i).2 \ bufs.map (asDev d i)) fun b => iprop(∃ f, ((d, b) : Loc nD τ sig) ↦{fullShare} f)) := by
  have hs : bufs.map (asDev d i) ⊆ ownRefs (th d i).2 := by
    intro b hb
    obtain ⟨r, hr, rfl⟩ := Finset.mem_map.mp hb
    simp only [bufs, Finset.mem_insert, Finset.mem_singleton] at hr
    rcases hr with rfl | rfl | rfl | rfl | rfl <;> exact SparseCore.Cfg.mem_ownRefs_of_owner rfl
  unfold SparseCore.Cfg.ownBufs
  refine (bigSep_sdiff_split hs).trans (congrArg (fun p => iprop(p ∗ _)) ?_)
  rw [bigSep_map, SparseCore.bigSep_insert' (by decide), SparseCore.bigSep_insert' (by decide), SparseCore.bigSep_insert' (by decide),
    SparseCore.bigSep_insert' (by decide), bigSep_singleton]
  rfl

omit [FloatOps F] in
theorem ownSems0_th : (ownSems0 (th d i) : sProp 𝕄)
    = iprop((semVal (th d i, .dma cc0_scratch5.sem) 0 ∗ semVal (th d i, .dma cc0_scratch6.sem) 0 ∗ semVal (th d i, .dma cc0_scoped0.sem) 0 ∗ semVal (th d i, .dma cc0_scoped1.sem) 0)
      ∗ bigSep (ownCells (th d i) \ sems.map (asCell d i)) fun g => semVal g 0) := by
  have hs : sems.map (asCell d i) ⊆ ownCells (th d i) := by
    intro g hg
    obtain ⟨s, hs, rfl⟩ := Finset.mem_map.mp hg
    refine mem_ownCells.mpr ⟨rfl, ?_⟩
    exact (by decide : ∀ s ∈ sems, s.isScoped .scVector = true) s hs
  unfold SparseCore.Cfg.ownSems0
  refine (bigSep_sdiff_split hs).trans (congrArg (fun p => iprop(p ∗ _)) ?_)
  rw [bigSep_map, SparseCore.bigSep_insert' (by decide), SparseCore.bigSep_insert' (by decide), SparseCore.bigSep_insert' (by decide), bigSep_singleton]
  rfl

theorem slots : slot 0 ∪ slot 1 = Finset.univ := by
  ext x
  have : (x 0).val < 16384 := (x 0).isLt
  simp only [slot, Finset.mem_union, Finset.mem_filter, Finset.mem_univ, true_and, iff_true]
  omega

theorem slots_disjoint : Disjoint (slot 0) (slot 1) := by
  refine Finset.disjoint_left.mpr fun x h0 h1 => ?_
  simp only [slot, Finset.mem_filter, Finset.mem_univ, true_and] at h0 h1
  omega

/-- After the loop the buffer is whole again and its semaphores are at zero. -/
theorem state_end (q : PosShare TreeShare) (X : S2097152.Idx → Elt F .f32) :
    state d i q X k0_t1_loop.trips ⊢ iprop(((th d i).loc cc0_scratch0 ↦[slot 0 ∪ slot 1]{fullShare} tileOf X i)
      ∗ semVal (th d i, .dma cc0_scratch5.sem) 0 ∗ semVal (th d i, .dma cc0_scratch6.sem) 0) := by
  unfold state
  rw [if_neg (by decide), if_neg (by decide)]
  iintro ⟨Hb1, Hb0, Hc0, Hc1⟩
  isplitl [Hb0 Hb1]
  · iapply (pointsTo_union slots_disjoint).2
    isplitl [Hb0] <;> iassumption
  isplitl [Hc0] <;> iassumption

/-! ## The copies out -/

/-- What a copy of a result buffer counts on its semaphore. -/
abbrev outUnits : ℕ := sig.dmaCredit .scVector (Kind.scVector.table .hbm) (main_v1_0_scv : Ref sig .scVector).idx S128 .f32

theorem outUnits_pos : 0 < outUnits := sig.dmaCredit_pos _ _ _ _ _ (by decide +kernel)

omit [FloatOps F] in
theorem whole_pts (c : Thread nD τ) (b : Ref sig c.2.kind) (f : Buf (Elt F) (c.loc b)) :
    (c.loc b ↦{fullShare} f : sProp 𝕄) = ((Memref.whole b).view.loc c ↦[(Memref.whole b).view.set]{fullShare} f) := by
  simp only [Memref.view_whole, View.set_whole]

theorem sum_set : ((View.whole (main_v1_0_scv : Ref sig .scVector)).slice (Rect.unit (s := S4096) (k0_off8 i) S128.size (k0_off8_inb i))).set ⊆ rowsOf i := by
  intro x hx; rw [View.set_slice_whole] at hx; exact rows_set i x hx
theorem max_set : ((View.whole (main_v1_1_scv : Ref sig .scVector)).slice (Rect.unit (s := S4096) (k0_off8 i) S128.size (k0_off8_inb i))).set ⊆ rowsOf i := by
  intro x hx; rw [View.set_slice_whole] at hx; exact rows_set i x hx

theorem sum_landed (X : S2097152.Idx → Elt F .f32) (o : S4096.Idx → Elt F .f32) (g : S128.Idx → Elt F .f32)
    (hg : Grouped 8 (groupSum (tileOf X i)) g) (x : S4096.Idx) (hx : x ∈ rowsOf i) :
    ((View.whole (main_v1_0_scv : Ref sig .scVector)).slice (Rect.unit (s := S4096) (k0_off8 i) S128.size (k0_off8_inb i))).write (Elt F) o
      ((View.whole (cc0_scratch3 : Ref sig .scVector)).read (Elt F) g) Finset.univ x = rowSums X x :=
  rows_landed i groupSum X g hg x hx _ fun y e =>
    (write_in main_v1_0_scv _ _ (k0_off8_inb i) o _ x y fun | (0 : Fin 1) => e).trans (by rw [View.read_whole])
theorem max_landed (X : S2097152.Idx → Elt F .f32) (o : S4096.Idx → Elt F .f32) (g : S128.Idx → Elt F .f32)
    (hg : Grouped 8 (groupMax (tileOf X i)) g) (x : S4096.Idx) (hx : x ∈ rowsOf i) :
    ((View.whole (main_v1_1_scv : Ref sig .scVector)).slice (Rect.unit (s := S4096) (k0_off8 i) S128.size (k0_off8_inb i))).write (Elt F) o
      ((View.whole (cc0_scratch4 : Ref sig .scVector)).read (Elt F) g) Finset.univ x = rowMaxs X x :=
  rows_landed i groupMax X g hg x hx _ fun y e =>
    (write_in main_v1_1_scv _ _ (k0_off8_inb i) o _ x y fun | (0 : Fin 1) => e).trans (by rw [View.read_whole])

/-! ## The tile -/

/-- What a tile is handed: a share of the flat array, and its rows of both results. -/
abbrev given (q : PosShare TreeShare) (X : S2097152.Idx → Elt F .f32) : sProp 𝕄 :=
  iprop(((th d i).loc main_v0_scv ↦{q} X) ∗ (∃ f, (th d i).loc main_v1_0_scv ↦[rowsOf i]{fullShare} f) ∗ (∃ f, (th d i).loc main_v1_1_scv ↦[rowsOf i]{fullShare} f))

/-- What it hands back: its rows, computed. -/
abbrev computed (X : S2097152.Idx → Elt F .f32) : sProp 𝕄 :=
  iprop(((th d i).loc main_v1_0_scv ↦[rowsOf i]{fullShare} rowSums X) ∗ ((th d i).loc main_v1_1_scv ↦[rowsOf i]{fullShare} rowMaxs X))

theorem tile_body (hF : (K (F := F)).Facts) (q : PosShare TreeShare) (X : S2097152.Idx → Elt F .f32)
    (O : CellTallies nD τ sig (HIx 1)) (W : Waits sig (HIx 1)) (hO : ∀ g, O g none = 0) :
    iprop(levAts (K (F := F)).L (K (F := F)).lev ∗ emp ∗ given d i q X
        ∗ scopedBufs (th d i) ∗ scopedSems0 (th d i) ∗ owes (th d i) O W)
      ⊢ runs d i (cc0__sc_rowstats i xM (Memref.isWhole_whole _) sumM (Memref.isWhole_whole _) maxM (Memref.isWhole_whole _) bufM (Memref.isWhole_whole _)
            sscrM (Memref.isWhole_whole _) mscrM (Memref.isWhole_whole _) sumsM (Memref.isWhole_whole _) maxsM (Memref.isWhole_whole _)
            cc0_scratch5 cc0_scratch6 cc0_scoped0 cc0_scoped1)
          fun _ => iprop(computed d i X ∗ scopedBufs (th d i) ∗ scopedSems0 (th d i) ∗ owed d i O W) := by
  simp only [cc0__sc_rowstats_eq_skeleton]; unfold cc0__sc_rowstats_skel
  simp only [body_eq, Prog.lift, Prog.bind_op, Prog.bind_ret, Prog.pure_eq_ret]
  rw [(K (F := F)).scopedBufs_V hF d _ _, SparseCore.Cfg.scopedSems0_V (Val := Elt F) d _ _, ownSems0_th, ownBufs_th]
  iintro ⟨#Hlv, -, ⟨Hx, ⟨%o0, Ho⟩, ⟨%p0, Hp⟩⟩, ⟨⟨⟨%b0, Hb⟩, Hs, Ht, ⟨%s0, Hsums⟩, ⟨%t0, Hmaxs⟩⟩, Hbufs⟩, ⟨⟨Hc0, Hc1, Hr0, Hr1⟩, Hsems⟩, HO⟩
  ihave #Hm := ((K (F := F)).mayWaits_none (thr := th d i) hO) $$ Hlv
  ihave Hx' := (Transfers.pointsTo_toks_split q 1) $$ Hx
  icases Hx' with ⟨Hx0, Hx1⟩
  ihave Hx1' := (Entails.of_eq (bigSep_univ_of_subsingleton (0 : Fin 1))) $$ Hx1
  rw [← slots]
  ihave Hb' := (pointsTo_union slots_disjoint).1 $$ Hb
  icases Hb' with ⟨Hb0, Hb1⟩
  iapply (wp_issue d i 0 0 rfl inb_S16384_S8192_0 _ _ (off1_zero i) cc0_scratch5.sem _ X b0) $$ [Hx0 Hb0 Hc0]
  · isplitl [Hx0]; · iexact Hx0
    isplitl [Hb0] <;> iassumption
  iintro Hf
  unfold runs
  sl_for (inv d i (Transfers.shareTok q 1 0) X O W) $$ [Hx1' Hb1 Hc1 Hf Hs Ht Hsums Hmaxs HO]
  case region =>
    intro k _
    exact wp_trip d i (Transfers.shareTok q 1 0) X O W _ k
  · unfold inv
    isplitr; · iexact Hm
    isplitl [Hx1' Hb1 Hc1 Hf]
    · unfold state; rw [if_pos rfl]
      isplitl [Hf]; · iexact Hf
      isplitl [Hb1]; · iexists b0; iexact Hb1
      isplitl [Hc1] <;> iassumption
    isplitl [Hs]; · iexact Hs
    isplitl [Ht]; · iexact Ht
    unfold sumsPts maxsPts
    isplitl [Hsums]
    · iexists s0; isplitr
      · ipureintro; exact fun _ h => absurd h (Nat.not_lt_zero _)
      · iexact Hsums
    isplitl [Hmaxs]
    · iexists t0; isplitr
      · ipureintro; exact fun _ h => absurd h (Nat.not_lt_zero _)
      · iexact Hmaxs
    iexists W; isplitr
    · ipureintro; exact fun p hp => .inl hp
    · iexact HO
  iintro %_ HI
  unfold inv
  icases HI with ⟨-, Hst, Hs, Ht, Hsums, Hmaxs, HO⟩
  unfold sumsPts maxsPts
  icases Hsums with ⟨%g, %hg, Hsums⟩
  icases Hmaxs with ⟨%h, %hh, Hmaxs⟩
  -- the row sums out
  iapply (Transfers.wp_dmaLocal EC 𝒱₀ (th d i) none none outUnits
    (show (sumM.slice (Rect.unit (s := S4096) (k0_off8 i) S128.size (k0_off8_inb i)) (fun _ => rfl)).view.amount (.dma cc0_scoped0.sem) = outUnits from rfl)
    outUnits_pos (sum_set i)) $$ [Hsums Ho Hr0]
  · isplitl [Hsums]; · iapply (Entails.of_eq (whole_pts (th d i) cc0_scratch3 g)) $$ Hsums
    isplitl [Ho]; · iexact Ho
    iexact Hr0
  iintro Hf
  iapply (wp_land d i cc0_scoped0.sem outUnits
    (show (sumM.slice (Rect.unit (s := S4096) (k0_off8 i) S128.size (k0_off8_inb i)) (fun _ => rfl)).view.dmaCredit = outUnits from rfl) _ O W) $$ [Hf HO]
  · isplitl [Hf]; · iexact Hf
    isplitr; · iexact Hm
    iexact HO
  iintro ⟨⟨Ho, Hsums⟩, Hr0, HO⟩
  -- the row maxima out
  iapply (Transfers.wp_dmaLocal EC 𝒱₀ (th d i) none none outUnits
    (show (maxM.slice (Rect.unit (s := S4096) (k0_off8 i) S128.size (k0_off8_inb i)) (fun _ => rfl)).view.amount (.dma cc0_scoped1.sem) = outUnits from rfl)
    outUnits_pos (max_set i)) $$ [Hmaxs Hp Hr1]
  · isplitl [Hmaxs]; · iapply (Entails.of_eq (whole_pts (th d i) cc0_scratch4 h)) $$ Hmaxs
    isplitl [Hp]; · iexact Hp
    iexact Hr1
  iintro Hf
  iapply (wp_land d i cc0_scoped1.sem outUnits
    (show (maxM.slice (Rect.unit (s := S4096) (k0_off8 i) S128.size (k0_off8_inb i)) (fun _ => rfl)).view.dmaCredit = outUnits from rfl) _ O W) $$ [Hf HO]
  · isplitl [Hf]; · iexact Hf
    isplitr; · iexact Hm
    iexact HO
  iintro ⟨⟨Hp, Hmaxs⟩, Hr1, HO⟩
  unfold runs
  rw [wp_ret]; imodintro
  isplitl [Ho Hp]
  · isplitl [Ho]
    · iapply (Entails.of_eq (pointsTo_congr ?_)) $$ Ho
      intro x hx
      exact sum_landed i X o0 g hg x hx
    · iapply (Entails.of_eq (pointsTo_congr ?_)) $$ Hp
      intro x hx
      exact max_landed i X p0 h hh x hx
  ihave Hst' := (state_end d i (Transfers.shareTok q 1 0) X) $$ Hst
  icases Hst' with ⟨Hb, Hc0, Hc1⟩
  isplitl [Hb Hs Ht Hsums Hmaxs Hbufs]
  · isplitr [Hbufs]
    · isplitl [Hb]; · iexists (tileOf X i); iexact Hb
      isplitl [Hs]; · iexact Hs
      isplitl [Ht]; · iexact Ht
      isplitl [Hsums]; · iexists g; iapply (Entails.of_eq (whole_pts (th d i) cc0_scratch3 g).symm) $$ Hsums
      iexists h; iapply (Entails.of_eq (whole_pts (th d i) cc0_scratch4 h).symm) $$ Hmaxs
    · iexact Hbufs
  isplitr [HO]
  · isplitr [Hsems]
    · isplitl [Hc0]; · iexact Hc0
      isplitl [Hc1]; · iexact Hc1
      isplitl [Hr0] <;> iassumption
    · iexact Hsems
  iexact HO

end Cert.RowStatsIdeal.Tile
-- ==== Proof.Ideal.Launch.lean ====
/- The launch: the flat array is made from the argument, its read shares and the two results are dealt
   out to the thirty-two tiles, and the results come back whole. -/
module

public import proofs.«01_k».proof.Proof.Ideal.Body

@[expose] public section

noncomputable section

namespace Cert.RowStatsIdeal.Tile

open Cert.RowStatsIdeal Cert.RowStatsIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic

variable {F : FTy → Type} [FloatOps F]

local notation "𝕄" => MT nD τ sig (HIx 1) (Elt F) ℕ UU ℕ

/-! ## The tiles, numbered -/

/-- The tile on subcore `s` of SparseCore `c`. -/
def tile (c s : ℕ) : grid0.Coords
  | 0 => ⟨c % 2, Nat.mod_lt _ (by decide)⟩
  | 1 => ⟨s % 16, Nat.mod_lt _ (by decide)⟩
  | ⟨_ + 2, h⟩ => absurd h (Nat.not_lt.2 (Nat.le_add_left _ _))

def coords (c : Fin (grid0.bound 0)) (s : Fin (grid0.bound 1)) : grid0.Coords
  | 0 => c
  | 1 => s
  | ⟨_ + 2, h⟩ => absurd h (Nat.not_lt.2 (Nat.le_add_left _ _))

theorem tile_eq (c : Fin (grid0.bound 0)) (s : Fin (grid0.bound 1)) : tile c.val s.val = coords c s := by
  funext a
  match a with
  | 0 => exact Fin.ext (Nat.mod_eq_of_lt c.isLt)
  | 1 => exact Fin.ext (Nat.mod_eq_of_lt s.isLt)

theorem wid_tile (c : Fin 2) (s : Fin 16) : wid (tile c.val s.val) = 2 * s.val + c.val := by
  show 2 * (s.val % 16) + c.val % 2 = _
  rw [Nat.mod_eq_of_lt s.isLt, Nat.mod_eq_of_lt c.isLt]

/-- No row has two tiles, -/
theorem rows_disjoint (p p' : Fin 2 × Fin 16) (h : p ≠ p') :
    Disjoint (rowsOf (tile p.1.val p.2.val)) (rowsOf (tile p'.1.val p'.2.val)) := by
  rw [Finset.disjoint_left]
  intro x hx hx'
  simp only [rowsOf, Finset.mem_filter, Finset.mem_univ, true_and, wid_tile] at hx hx'
  refine h (Prod.ext (Fin.ext ?_) (Fin.ext ?_)) <;> omega

/-- and every row has one. -/
theorem rows_cover : (Finset.univ : Finset (Fin 2 × Fin 16)).biUnion (fun p => rowsOf (tile p.1.val p.2.val)) = Finset.univ := by
  refine Finset.eq_univ_of_forall fun x => Finset.mem_biUnion.mpr ?_
  have hx : (x 0).val < 4096 := (x 0).isLt
  have hc : (x 0).val / 128 % 2 < 2 := Nat.mod_lt _ (by decide)
  have hs : (x 0).val / 128 / 2 < 16 := by omega
  refine ⟨(⟨(x 0).val / 128 % 2, hc⟩, ⟨(x 0).val / 128 / 2, hs⟩), Finset.mem_univ _, ?_⟩
  rw [rowsOf, Finset.mem_filter, wid_tile ⟨_, hc⟩ ⟨_, hs⟩]
  exact ⟨Finset.mem_univ _, (Nat.div_add_mod _ 2).symm⟩

/-- The share of the flat array that the tile reads with. -/
def readShare (c s : ℕ) : PosShare TreeShare :=
  Transfers.shareTok (Transfers.shareTok fullShare 2 ⟨c % 2, Nat.mod_lt _ (by decide)⟩) 16 ⟨s % 16, Nat.mod_lt _ (by decide)⟩

theorem readShare_eq (c : Fin 2) (s : Fin 16) :
    readShare c.val s.val = Transfers.shareTok (Transfers.shareTok fullShare 2 c) 16 s := by
  unfold readShare
  rw [show (⟨c.val % 2, Nat.mod_lt _ (by decide)⟩ : Fin 2) = c from Fin.ext (Nat.mod_eq_of_lt c.isLt),
    show (⟨s.val % 16, Nat.mod_lt _ (by decide)⟩ : Fin 16) = s from Fin.ext (Nat.mod_eq_of_lt s.isLt)]

/-! ## The arrays -/

abbrev argLoc (d : Dev nD) : Loc nD τ sig := (SparseCore.T d).loc main_arg0
abbrev flatLoc (d : Dev nD) : Loc nD τ sig := (SparseCore.T d).loc main_v0
abbrev sumLoc (d : Dev nD) : Loc nD τ sig := (SparseCore.T d).loc main_v1_0
abbrev maxLoc (d : Dev nD) : Loc nD τ sig := (SparseCore.T d).loc main_v1_1

abbrev arg' : DevRef τ sig := Proc.devRef .tc (main_arg0 : Ref sig .tc)
abbrev flat' : DevRef τ sig := Proc.devRef .tc (main_v0 : Ref sig .tc)
abbrev sum' : DevRef τ sig := Proc.devRef .tc (main_v1_0 : Ref sig .tc)
abbrev max' : DevRef τ sig := Proc.devRef .tc (main_v1_1 : Ref sig .tc)

/-- The step that makes the flat array. -/
abbrev flatten : HloOp τ sig (Elt F) :=
  StableHlo.reshape main_arg0 main_v0 (rfl : (.f32 : EltTy) = .f32) shapeCasts_S16384x128_S2097152

abbrev arrays : Finset (DevRef τ sig) := {arg', flat', sum', max'}

variable (m : (ℓ : Loc nD τ sig) → Buf (Elt F) ℓ) (ρ : Dev nD → PrngReg) (d : Dev nD)

def V0 : Valuation τ sig (Elt F) := fun b => m (d, b)

/-- The flat array that the kernel is given. -/
def flat : S2097152.Idx → Elt F .f32 := (flatten (F := F)).result (V0 m d) flat'

theorem held_arrays (W : Valuation τ sig (Elt F)) :
    (held (T d) arrays W : sProp 𝕄) = iprop((argLoc d ↦{fullShare} W arg') ∗ (flatLoc d ↦{fullShare} W flat')
      ∗ (sumLoc d ↦{fullShare} W sum') ∗ (maxLoc d ↦{fullShare} W max')) := by
  unfold held arrays
  rw [SparseCore.bigSep_insert' (by decide), SparseCore.bigSep_insert' (by decide), SparseCore.bigSep_insert' (by decide), bigSep_singleton]

theorem unscoped_eq (W : (b : Ref sig .tc) → Buf (Elt F) ((d.tc : Thread nD τ).loc b)) :
    (unscopedBufs d W : sProp 𝕄) = iprop((argLoc d ↦{fullShare} W main_arg0) ∗ (flatLoc d ↦{fullShare} W main_v0)
      ∗ (sumLoc d ↦{fullShare} W main_v1_0) ∗ (maxLoc d ↦{fullShare} W main_v1_1)) := by
  unfold unscopedBufs
  rw [show (Finset.univ.filter fun b : Ref sig .tc => ¬ b.isScoped) = {main_arg0, main_v0, main_v1_0, main_v1_1} by decide,
    SparseCore.bigSep_insert' (by decide), SparseCore.bigSep_insert' (by decide), SparseCore.bigSep_insert' (by decide), bigSep_singleton]

theorem unscoped_held : (unscopedBufs d (fun b => m ((SparseCore.T d).loc b)) : sProp 𝕄) = held (T d) arrays (V0 m d) := by
  rw [unscoped_eq, held_arrays]; rfl

theorem flatten_within : (flatten (F := F)).bufs ⊆ arrays := show ({arg', flat'} : Finset (DevRef τ sig)) ⊆ arrays by decide

/-- After that step the argument is as it was. -/
theorem flatten_arg : (flatten (F := F)).result (V0 m d) arg' = m (argLoc d) :=
  (flatten (F := F)).result_of_not_mem (V0 m d) (b := arg') (show arg' ∉ ({flat'} : Finset (DevRef τ sig)) by decide)

/-! ## What the tiles are handed, and what they hand back -/

def taken (c s : ℕ) : sProp 𝕄 := given d (tile c s) (readShare c s) (flat m d)

def handed (c s : ℕ) : sProp 𝕄 := computed d (tile c s) (flat m d)

instance taken_storable (c s : ℕ) : BI.Storable (upEmb : UEmb _ 𝕄) (taken m d c s) := by
  unfold taken given; infer_instance

instance handed_storable (c s : ℕ) : BI.Storable (upEmb : UEmb _ 𝕄) (handed m d c s) := by
  unfold handed computed; infer_instance

/-- A result dealt out by rows. -/
theorem rows_dealt {ℓ : Loc nD τ sig} (R : Fin 2 × Fin 16 → Finset (Idx ℓ)) (hd : ∀ p p', p ≠ p' → Disjoint (R p) (R p'))
    (hc : Finset.univ.biUnion R = Finset.univ) (f : Buf (Elt F) ℓ) :
    (ℓ ↦{fullShare} f : sProp 𝕄) = bigSep Finset.univ fun c : Fin 2 => bigSep Finset.univ fun s : Fin 16 => ℓ ↦[R (c, s)]{fullShare} f := by
  refine Eq.trans ?_ (SparseCore.bigSep_product Finset.univ Finset.univ (fun p : Fin 2 × Fin 16 => (ℓ ↦[R p]{fullShare} f : sProp 𝕄)))
  rw [Finset.univ_product_univ, ← pointsTo_biUnion _ _ fun p _ p' _ h => hd p p' h, hc]

theorem sum_rows (f : Buf (Elt F) (sumLoc d)) :
    (sumLoc d ↦{fullShare} f : sProp 𝕄)
      = bigSep Finset.univ fun c : Fin 2 => bigSep Finset.univ fun s : Fin 16 => sumLoc d ↦[rowsOf (tile c.val s.val)]{fullShare} f :=
  rows_dealt (ℓ := sumLoc d) (fun p => rowsOf (tile p.1.val p.2.val)) rows_disjoint rows_cover f

theorem max_rows (f : Buf (Elt F) (maxLoc d)) :
    (maxLoc d ↦{fullShare} f : sProp 𝕄)
      = bigSep Finset.univ fun c : Fin 2 => bigSep Finset.univ fun s : Fin 16 => maxLoc d ↦[rowsOf (tile c.val s.val)]{fullShare} f :=
  rows_dealt (ℓ := maxLoc d) (fun p => rowsOf (tile p.1.val p.2.val)) rows_disjoint rows_cover f

theorem flat_shares (f : Buf (Elt F) (flatLoc d)) :
    (flatLoc d ↦{fullShare} f : sProp 𝕄)
      ⊢ bigSep Finset.univ fun c : Fin 2 => bigSep Finset.univ fun s : Fin 16 => flatLoc d ↦{readShare c.val s.val} f := by
  refine (Transfers.pointsTo_toks_split fullShare 2).trans (sep_elim_right.trans (bigSep_mono fun c _ => ?_))
  refine (Transfers.pointsTo_toks_split _ 16).trans (sep_elim_right.trans (bigSep_mono fun s _ => ?_))
  rw [readShare_eq]; exact .refl _

theorem deal_one (c s : ℕ) (f : Buf (Elt F) (sumLoc d)) (g : Buf (Elt F) (maxLoc d)) :
    iprop((flatLoc d ↦{readShare c s} flat m d) ∗ (sumLoc d ↦[rowsOf (tile c s)]{fullShare} f) ∗ (maxLoc d ↦[rowsOf (tile c s)]{fullShare} g))
      ⊢ (taken m d c s : sProp 𝕄) := by
  unfold taken given
  iintro ⟨H, H0, H1⟩
  isplitl [H]; · iexact H
  isplitl [H0]
  · iexists f; iexact H0
  iexists g; iexact H1

theorem threes (Φ Ψ Θ : Fin 2 → Fin 16 → sProp 𝕄) :
    iprop((bigSep Finset.univ fun c => bigSep Finset.univ fun s => Φ c s) ∗ (bigSep Finset.univ fun c => bigSep Finset.univ fun s => Ψ c s)
        ∗ bigSep Finset.univ fun c => bigSep Finset.univ fun s => Θ c s)
      = bigSep Finset.univ fun c => bigSep Finset.univ fun s => iprop(Φ c s ∗ Ψ c s ∗ Θ c s) := by
  simp only [bigSep_sep']

/-- The three arrays, dealt out. -/
theorem deal (f : Buf (Elt F) (sumLoc d)) (g : Buf (Elt F) (maxLoc d)) :
    iprop((flatLoc d ↦{fullShare} flat m d) ∗ (sumLoc d ↦{fullShare} f) ∗ (maxLoc d ↦{fullShare} g))
      ⊢ (bigSep Finset.univ fun c : Fin 2 => bigSep Finset.univ fun s : Fin 16 => taken m d c.val s.val : sProp 𝕄) := by
  rw [sum_rows, max_rows]
  refine (sep_mono (flat_shares d _) (.refl _)).trans ((Entails.of_eq (threes _ _ _)).trans ?_)
  exact bigSep_mono fun (c : Fin 2) _ => bigSep_mono fun (s : Fin 16) _ => deal_one m d c.val s.val f g

/-- The results, collected. -/
theorem collect :
    (bigSep Finset.univ fun c : Fin 2 => bigSep Finset.univ fun s : Fin 16 => handed m d c.val s.val : sProp 𝕄)
      = iprop((sumLoc d ↦{fullShare} rowSums (flat m d)) ∗ (maxLoc d ↦{fullShare} rowMaxs (flat m d))) := by
  rw [sum_rows, max_rows]
  simp only [← bigSep_sep']
  rfl

/-- The call's hand-overs. -/
def P : (K (F := F)).Pay (nD := nD) (Val := Elt F) (Name := ℕ) (U := UU) where
  st := fun _ d c => bigSep Finset.univ fun s : Fin 16 => taken m d c.val s.val
  dn := fun _ d c => bigSep Finset.univ fun s : Fin 16 => handed m d c.val s.val
  go := fun _ d c s => taken m d c.val s.val
  td := fun _ d c s => handed m d c.val s.val
  x := fun _ _ => iprop(emp)

instance P_storable : (P (F := F) m).IsStorable where
  st _ d c := by unfold P; infer_instance
  dn _ d c := by unfold P; infer_instance
  go _ d c s := by unfold P; infer_instance
  td _ d c s := by unfold P; infer_instance

/-! ## The tiles' part of the launch -/

abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

theorem defs₀_vector (c : Fin τ.nSC) (s : Fin τ.nSub) :
    defs₀ (F := F) (.scVector c s) 0 ()
      = SparseCore.onTile hcore0 hsub0 (fun c s => cc0__sc_rowstats
          (coords c s) xM (Memref.isWhole_whole _) sumM (Memref.isWhole_whole _) maxM (Memref.isWhole_whole _) bufM (Memref.isWhole_whole _)
          sscrM (Memref.isWhole_whole _) mscrM (Memref.isWhole_whole _) sumsM (Memref.isWhole_whole _) maxsM (Memref.isWhole_whole _)
          cc0_scratch5 cc0_scratch6 cc0_scoped0 cc0_scoped1) ⟨⟩ c s := rfl

theorem done_waits (i : grid0.Coords) (O : CellTallies nD τ sig (HIx 1)) (W : Waits sig (HIx 1)) (X : S2097152.Idx → Elt F .f32) :
    iprop(computed d i X ∗ scopedBufs (th d i) ∗ scopedSems0 (th d i) ∗ owed d i O W)
      ⊢ (iprop(computed d i X ∗ scopedBufs (th d i) ∗ scopedSems0 (th d i)
          ∗ ∃ W', ⌜∀ p ∈ W', p ∈ W ∨ p.2 = none ∨ p.2 = some 0⌝ ∗ owes (th d i) O W') : sProp 𝕄) := by
  unfold owed
  iintro ⟨Hc, Hb, Hs, %W', %h, HO⟩
  isplitl [Hc]; · iexact Hc
  isplitl [Hb]; · iexact Hb
  isplitl [Hs]; · iexact Hs
  iexists W'; isplitr
  · ipureintro; exact fun p hp => (h p hp).imp_right .inl
  iexact HO

/-- What every tile runs. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  have e1 : (P m).go 0 d c i = given d (coords ⟨_, hc.1⟩ ⟨_, hc.2⟩) (readShare c.val i.val) (flat m d) := by
    rw [← tile_eq]; rfl
  have e2 : (P m).td 0 d c i = computed d (coords ⟨_, hc.1⟩ ⟨_, hc.2⟩) (flat m d) := by
    rw [← tile_eq]; rfl
  rw [e1, e2, defs₀_vector]; simp only [SparseCore.onTile, hc, and_self, ↓reduceDIte]
  exact (tile_body d (coords ⟨_, hc.1⟩ ⟨_, hc.2⟩) facts (readShare c.val i.val) (flat m d) O W hO).trans
    (wp_mono frame _ _ fun _ => done_waits d _ O W _)

theorem vecSplit : (K (F := F)).VecSplit' (P m) 0 := by
  intro d c
  show (bigSep Finset.univ fun s : Fin 16 => taken m d c.val s.val) ⊢ |={Set.univ}=> iprop(
    (bigSep Finset.univ fun s : Fin 16 => taken m d c.val s.val)
      ∗ ((bigSep Finset.univ fun s : Fin 16 => handed m d c.val s.val) -∗ bigSep Finset.univ fun s : Fin 16 => handed m d c.val s.val))
  iintro H
  imodintro
  isplitl [H]; · iexact H
  iintro H; iexact H

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The program -/

/-- What the program leaves. -/
def fin : sProp 𝕄 :=
  iprop((argLoc d ↦{fullShare} m (argLoc d)) ∗ (sumLoc d ↦{fullShare} rowSums (flat m d)) ∗ (maxLoc d ↦{fullShare} rowMaxs (flat m d)))

theorem hmain (κ : GSem nD τ sig → ℕ) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ fin m d ∗ (K (F := F)).tcEnd d) := by
  unfold SparseCore.Cfg.tcRes SparseCore.Cfg.tcEnd fin
  rw [unscoped_held]
  simp only [main, wp_bind, wp_pure]
  iintro ⟨#Hctx, Hst, ⟨Hb, Hheld, Hts, -⟩, -⟩
  iapply (wp_hlo_within 𝒱 (SparseCore.T d) none Set.univ (op := flatten) (S := arrays) flatten_within (V := V0 m d)) $$ [Hb Hheld]
  · isplitl [Hb] <;> iassumption
  iintro ⟨Hb, Hheld⟩
  rw [wp_ret]; imodintro
  ihave Hh := (Entails.of_eq (held_arrays (F := F) d _)) $$ Hheld
  icases Hh with ⟨Ha, Hf, Hs, Hx⟩
  iapply ((K (F := F)).wp_run (D (F := F)) 𝒱 (EH := EH) (P := P m) κ d 0) $$ [Hst Hf Hs Hx Hb Ha Hts]
  isplitr; · iexact Hctx
  isplitl [Hst]; · iexact Hst
  isplitl [Hf Hs Hx]
  · iapply (deal m d _ _)
    isplitl [Hf]; · iexact Hf
    isplitl [Hs]; · iexact Hs
    iexact Hx
  iintro ⟨Hst, Hdn⟩
  ihave Hdn' := (Entails.of_eq (show (bigSep Finset.univ fun c : Fin ((K (F := F)).nCore 0) => (P m).dn 0 d c) = _ from collect m d)) $$ Hdn
  icases Hdn' with ⟨Hs, Hx⟩
  ihave Ha' := (Entails.of_eq (congrArg (fun f => (argLoc d ↦{fullShare} f : sProp 𝕄)) (flatten_arg m d))) $$ Ha
  imodintro
  isplitl [Hst]; · iexact Hst
  isplitl [Ha' Hs Hx]
  · isplitl [Ha']; · iexact Ha'
    isplitl [Hs] <;> iassumption
  isplitl [Hb] <;> iassumption

/-- The same of the memory. -/
def left (s : Phys nD τ sig (Elt F)) : Prop :=
  s.mem.mem (argLoc d) = m (argLoc d) ∧ s.mem.mem (sumLoc d) = rowSums (flat m d) ∧ s.mem.mem (maxLoc d) = rowMaxs (flat m d)

theorem hfin (s : Phys nD τ sig (Elt F)) : iprop(fin m d ∗ SI s) ⊢ (⌜left m d s⌝ : sProp 𝕄) := by
  unfold fin
  iintro ⟨⟨Ha, Hs, Hx⟩, HSI⟩
  ihave H := (persistent_entails_right (SI_pointsTo_agree (st := s) (ℓ := argLoc d) (I := Finset.univ) (q := fullShare) (f := m (argLoc d)))) $$ [HSI Ha]
  · isplitl [HSI] <;> iassumption
  icases H with ⟨%h1, HSI, -⟩
  ihave H := (persistent_entails_right (SI_pointsTo_agree (st := s) (ℓ := sumLoc d) (I := Finset.univ) (q := fullShare) (f := rowSums (flat m d)))) $$ [HSI Hs]
  · isplitl [HSI] <;> iassumption
  icases H with ⟨%h2, HSI, -⟩
  ihave H := (SI_pointsTo_agree (st := s) (ℓ := maxLoc d) (I := Finset.univ) (q := fullShare) (f := rowMaxs (flat m d))) $$ [HSI Hx]
  · isplitl [HSI] <;> iassumption
  icases H with %h3
  ipureintro
  exact ⟨funext fun i => h1 i (Finset.mem_univ i), funext fun i => h2 i (Finset.mem_univ i), funext fun i => h3 i (Finset.mem_univ i)⟩

def ends : PUnit × MemSt nD τ sig (Elt F) → Prop := fun r =>
  (∀ c : Dev nD, r.2.mem (argLoc c) = m (argLoc c) ∧ r.2.mem (sumLoc c) = rowSums (flat m c) ∧ r.2.mem (maxLoc c) = rowMaxs (flat m c))
    ∧ r.2.sem = fun _ => 0

/-- Every run of the program ends with the argument as it was, the two results computed and every counter at zero. -/
theorem run_main [∀ e, Nonempty (Elt F e)] :
    θ_run (Cert.RowStatsIdeal.defs (F := F)) (Cert.RowStatsIdeal.threads (F := F)) ⟨m, fun _ => 0, ρ⟩ (ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fin m) (u₀ (F := F)) (sep_elim_left.trans (hu₀ m)) (fun κ d => hmain m ρ d κ) (left m)
    (fun d s => hfin m d s) (ends m) (fun _ h hz => ⟨h, hz⟩)

end Cert.RowStatsIdeal.Tile

end
-- ==== Proof.Ideal.Value.lean ====
/- The kernel's results at the ideal values: each of the first 4096 rows' sum and maximum. The kernel adds
   the row's eight vectors first and their sixteen lanes after, in an order of its own; the sum and the
   maximum of extended reals do not depend on it. -/
module

public import proofs.«01_k».proof.Proof.Ideal.Launch
public import Idealize.ShloMosaic.Lib.Pipeline.Value
public import Idealize.ShloMosaic.PureOps.Ideal.Laws

@[expose] public section

noncomputable section

namespace Cert.RowStatsIdeal.Tile

open Cert.RowStatsIdeal Cert.RowStatsIdeal.Gen Idealize.ShloMosaic

/-! ## Orders of adding up -/

theorem add8_apply (v : Fin 8 → Vec Ideal S16 .f32) (l : S16.Idx) : (add8 v l : EReal) = ∑ j, (v j l : EReal) := by
  rw [Fin.sum_univ_eight]
  show ((v 0 l + v 1 l) + (v 2 l + v 3 l)) + ((v 4 l + v 5 l) + (v 6 l + v 7 l)) = (_ : EReal)
  abel

theorem add16_apply (c : Fin 16 → Vec Ideal S16 .f32) (l : S16.Idx) : (add16 c l : EReal) = ∑ k, (c k l : EReal) := by
  rw [show ∑ k, (c k l : EReal) = (∑ k : Fin 8, c (k.castAdd 8) l) + ∑ k : Fin 8, (c (Fin.natAdd 8 k) l : EReal) from Fin.sum_univ_add (a := 8) (b := 8) _,
    Fin.sum_univ_eight, Fin.sum_univ_eight]
  show ((((c 0 l + c 4 l) + c 8 l) + c 12 l) + (((c 1 l + c 5 l) + c 9 l) + c 13 l))
      + ((((c 2 l + c 6 l) + c 10 l) + c 14 l) + (((c 3 l + c 7 l) + c 11 l) + c 15 l))
    = ((((((((c 0 l + c 1 l) + c 2 l) + c 3 l) + c 4 l) + c 5 l) + c 6 l) + c 7 l)
      + (((((((c 8 l + c 9 l) + c 10 l) + c 11 l) + c 12 l) + c 13 l) + c 14 l) + c 15 l) : EReal)
  abel

theorem max8_apply (v : Fin 8 → Vec Ideal S16 .f32) (l : S16.Idx) : (max8 v l : EReal) = Finset.univ.sup fun j => (v j l : EReal) := by
  show max (max (max (v 0 l) (v 1 l)) (max (v 2 l) (v 3 l))) (max (max (v 4 l) (v 5 l)) (max (v 6 l) (v 7 l))) = (_ : EReal)
  have h : ∀ j, (v j l : EReal) ≤ Finset.univ.sup fun j => (v j l : EReal) := fun j => Finset.le_sup (f := fun j => (v j l : EReal)) (Finset.mem_univ j)
  refine le_antisymm (by simp only [max_le_iff, h, and_self]) (Finset.sup_le fun j _ => ?_)
  fin_cases j <;> simp

theorem max16_apply (c : Fin 16 → Vec Ideal S16 .f32) (l : S16.Idx) : (max16 c l : EReal) = Finset.univ.sup fun k => (c k l : EReal) := by
  show max (max (max (max (max (c 0 l) (c 4 l)) (c 8 l)) (c 12 l)) (max (max (max (c 1 l) (c 5 l)) (c 9 l)) (c 13 l)))
      (max (max (max (max (c 2 l) (c 6 l)) (c 10 l)) (c 14 l)) (max (max (max (c 3 l) (c 7 l)) (c 11 l)) (c 15 l))) = (_ : EReal)
  have h : ∀ k, (c k l : EReal) ≤ Finset.univ.sup fun k => (c k l : EReal) := fun k => Finset.le_sup (f := fun k => (c k l : EReal)) (Finset.mem_univ k)
  refine le_antisymm (by simp only [max_le_iff, h, and_self]) (Finset.sup_le fun k _ => ?_)
  fin_cases k <;> simp

/-- The lane of column `c`'s vector, and the vector. -/
def at16 (k : Fin 16) (j : Fin 8) : Fin 128 := ⟨16 * j.val + k.val, by omega⟩

/-- Summed by lanes, a row's sum. -/
theorem sum_lanes (f : Fin 128 → EReal) : ∑ k : Fin 16, ∑ j : Fin 8, f (at16 k j) = ∑ c, f c := by
  rw [Finset.sum_comm, ← Fintype.sum_prod_type' fun (j : Fin 8) (k : Fin 16) => f (at16 k j)]
  refine Fintype.sum_equiv finProdFinEquiv _ _ fun p => congrArg f (Fin.ext ?_)
  show 16 * p.1.val + p.2.val = p.2.val + 16 * p.1.val
  omega

/-- The maximum by lanes, a row's maximum. -/
theorem max_lanes (f : Fin 128 → EReal) : (Finset.univ.sup fun k : Fin 16 => Finset.univ.sup fun j : Fin 8 => f (at16 k j)) = Finset.univ.sup f := by
  refine le_antisymm (Finset.sup_le fun k _ => Finset.sup_le fun j _ => Finset.le_sup (Finset.mem_univ _)) (Finset.sup_le fun c _ => ?_)
  have hk : c.val % 16 < 16 := Nat.mod_lt _ (by decide)
  have hj : c.val / 16 < 8 := by omega
  have e : c = at16 ⟨_, hk⟩ ⟨_, hj⟩ := Fin.ext (Nat.div_add_mod _ _).symm
  rw [e]
  exact (Finset.le_sup (f := fun j : Fin 8 => f (at16 ⟨_, hk⟩ j)) (Finset.mem_univ _)).trans
    (Finset.le_sup (f := fun k : Fin 16 => Finset.univ.sup fun j : Fin 8 => f (at16 k j)) (Finset.mem_univ _))

/-! ## The kernel's rows -/

/-- Row `r` of the flat array. -/
def flatRow (X : S2097152.Idx → Elt Ideal .f32) (r : Fin 4096) (c : Fin 128) : EReal :=
  X (ix1 ⟨128 * r.val + c.val, by omega⟩)

/-- The word that a lane of a vector holds: row `x` is row `x % 128 % 16` of its tile's group `x % 128 / 16`. -/
theorem piece_apply (X : S2097152.Idx → Elt Ideal .f32) (x : S4096.Idx) (k : Fin 16) (j : Fin 8) :
    (piece (tileAt X ((x 0).val / 128)) ((x 0).val % 128 / 16) ((x 0).val % 128 % 16) j.val (ix1 k) : EReal) = flatRow X (x 0) (at16 k j) := by
  have hx : (x 0).val < 4096 := (x 0).isLt
  have hk := k.isLt
  have hj := j.isLt
  unfold piece word tileAt flatRow at16
  refine congrArg X (congrArg ix1 (Fin.ext ?_))
  show (16384 * ((x 0).val / 128) + (2048 * ((x 0).val % 128 / 16) + 128 * ((x 0).val % 128 % 16) + 16 * j.val + k.val) % 16384) % 2097152
    = 128 * (x 0).val + (16 * j.val + k.val)
  omega

theorem rowSums_apply (X : S2097152.Idx → Elt Ideal .f32) (x : S4096.Idx) : (rowSums X x : EReal) = ∑ c, flatRow X (x 0) c := by
  rw [← sum_lanes]
  refine (add16_apply _ _).trans (Finset.sum_congr rfl fun k _ => ?_)
  show add8 (fun j : Fin 8 => piece (tileAt X ((x 0).val / 128)) ((x 0).val % 128 / 16) ((x 0).val % 128 % 16) j.val) (ix1 k) = _
  refine (add8_apply _ _).trans (Finset.sum_congr rfl fun j _ => ?_)
  exact piece_apply X x k j

theorem rowMaxs_apply (X : S2097152.Idx → Elt Ideal .f32) (x : S4096.Idx) : (rowMaxs X x : EReal) = Finset.univ.sup (flatRow X (x 0)) := by
  rw [← max_lanes]
  refine (max16_apply _ _).trans (Finset.sup_congr rfl fun k _ => ?_)
  show max8 (fun j : Fin 8 => piece (tileAt X ((x 0).val / 128)) ((x 0).val % 128 / 16) ((x 0).val % 128 % 16) j.val) (ix1 k) = _
  refine (max8_apply _ _).trans (Finset.sup_congr rfl fun j _ => ?_)
  exact piece_apply X x k j

/-- A row of the flat array is that row of the argument. -/
theorem flatRow_flat (m : (ℓ : Loc nD τ sig) → Buf (Elt Ideal) ℓ) (d : Dev nD) (r : Fin 4096) (c : Fin 128) :
    flatRow (flat m d) r c = (m (argLoc d) : S16384x128.Idx → EReal) (ix2 (⟨r.val, lt_trans r.isLt (by decide)⟩ : Fin 16384) c) := by
  have e : flat m d = shapeCast _ (m (argLoc d) : S16384x128.Idx → EReal) shapeCasts_S16384x128_S2097152 := by
    unfold flat
    exact StableHlo.reshape_result ..
  unfold flatRow
  rw [e]
  refine shapeCast_apply (s := S16384x128) _ _ _ _ ?_
  refine (Shape.rowMajor_val_two (d := ![16384, 128]) _).trans (Eq.trans ?_ (Shape.rowMajor_val_one (d := ![2097152]) _).symm)
  show r.val * 128 + c.val = 128 * r.val + c.val
  omega

end Cert.RowStatsIdeal.Tile

end
-- ==== Proof.StatsRef.lean ====
/- The reference of the row statistics: its run, and its two results as the sum and the maximum of a row. -/
module

public import proofs.«01_k».proof.Proof.Gen.RowStatsReferenceIdeal
public import Idealize.ShloMosaic.Lib.StableHlo.Run
public import Idealize.ShloMosaic.Lib.Pointwise
public import Idealize.ShloMosaic.Lib.IdealHost
public import Idealize.ShloMosaic.PureOps.Ideal.Laws

@[expose] public section

noncomputable section

namespace Cert.RowStatsReferenceIdeal.Term

open Cert.RowStatsReferenceIdeal Cert.RowStatsReferenceIdeal.Gen Idealize.ShloMosaic.TcCoe Idealize.SL.Sem Idealize.ShloMosaic.StableHlo
open Idealize.ShloMosaic hiding ix1 ix2 eq_ix2
open Idealize.ShloMosaic.ValueIdx

variable {F : FTy → Type} [FloatOps F]

/-- The first 4096 rows. -/
def head (X : FVec F S16384x128 .f32) : FVec F S4096x128 .f32 :=
  extractStridedSlice S4096x128 ![0, 0] X slices_S16384x128_S4096x128_0_0

/-- Their sums. -/
def sums (X : FVec F S16384x128 .f32) : FVec F S4096 .f32 :=
  Host.reduceAdd (head X) (constant S_ .f32 0x00000000#32) reducesTo_S4096x128_S4096_d1 h_S_

/-- Their maxima. -/
def maxs (X : FVec F S16384x128 .f32) : FVec F S4096 .f32 :=
  Host.reduce FloatOps.maximumf (head X) (constant S_ .f32 0xFF800000#32) reducesTo_S4096x128_S4096_d1 h_S_

/-- The host operations, in order. -/
abbrev ops : List (HloOp τ sig (Elt F)) :=
  [ unary main_arg0 main_v0 ((extractStridedSlice S4096x128 ![0, 0] · slices_S16384x128_S4096x128_0_0) : (⟨S16384x128, .f32⟩ : BufTy).Contents (Elt F) → (⟨S4096x128, .f32⟩ : BufTy).Contents (Elt F)),
    nullary main_cst (constant S_ .f32 0x00000000#32),
    binary main_v0 main_cst main_v1 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    nullary main_cst_0 (constant S_ .f32 0xFF800000#32),
    binary main_v0 main_cst_0 main_v2 ((fun x v => Host.reduce FloatOps.maximumf x v reducesTo_S4096x128_S4096_d1 h_S_) : (⟨S4096x128, .f32⟩ : BufTy).Contents (Elt F) → (⟨S_, .f32⟩ : BufTy).Contents (Elt F) → (⟨S4096, .f32⟩ : BufTy).Contents (Elt F)) ]

theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., binary_bufs_sub .., nullary_bufs_sub .., binary_bufs_sub ..⟩

/-- Every run of the reference ends with its two results computed and the argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = sums (m ((c.tc : Thread nD τ).loc main_arg0))
      ∧ r.2.mem ((c.tc : Thread nD τ).loc main_v2) = maxs (m ((c.tc : Thread nD τ).loc main_arg0))
      ∧ r.2.mem ((c.tc : Thread nD τ).loc main_arg0) = m ((c.tc : Thread nD τ).loc main_arg0) :=
  (θ_run defs _ _).mono (fun _ h c => ⟨(h c main_v1).trans (by simp only [ops]; after_results_simp <;> rfl),
      (h c main_v2).trans (by simp only [ops]; after_results_simp <;> rfl),
      (h c main_arg0).trans (by simp only [ops]; after_results_simp <;> rfl)⟩)
    (run_seq scopedRefs_eq scopedSems_eq defs main (fun _ => ops) main_eq (fun _ => ops_sub) m ρ)

/-! ## The results at the ideal values -/

/-- Row `r` of the argument, for one of the first 4096 rows. -/
def row (X : FVec Ideal S16384x128 .f32) (r : Fin 4096) (k : Fin 128) : EReal :=
  X (ix2 (⟨r.val, lt_trans r.isLt (by decide)⟩ : Fin 16384) k)

theorem head_apply (X : FVec Ideal S16384x128 .f32) (r : Fin 4096) (k : Fin 128) : head X (ix2 r k) = row X r k := by
  unfold head row extractStridedSlice
  refine congrArg X ?_
  funext a
  match a with
  | ⟨0, _⟩ => exact Fin.ext (Nat.zero_add _)
  | ⟨1, _⟩ => exact Fin.ext (Nat.zero_add _)

theorem sums_apply (X : FVec Ideal S16384x128 .f32) (r : Fin 4096) : sums X (ix1 r) = ∑ k, row X r k := by
  have h : sums X (ix1 r) = ∑ k : Fin 128, head X (ix2 r k) := by
    unfold sums
    generalize head X = H
    pointwise
    rfl
  rw [h]
  exact Finset.sum_congr rfl fun k _ => head_apply X r k

theorem maxs_apply (X : FVec Ideal S16384x128 .f32) (r : Fin 4096) : maxs X (ix1 r) = Finset.univ.sup (row X r) := by
  have h : maxs X (ix1 r) = Finset.univ.fold max (Ideal.ofBits .f32 0xFF800000#32) (fun k : Fin 128 => head X (ix2 r k)) := by
    unfold maxs
    generalize head X = H
    pointwise
    rfl
  rw [h, show Ideal.ofBits .f32 0xFF800000#32 = (⊥ : EReal) by simp [Ideal.ofBits, Ideal.ieee]]
  simp only [head_apply]
  rfl

end Cert.RowStatsReferenceIdeal.Term

end
-- ==== Proof.SplitIdeal.Trip.lean ====
/- One trip of the kernel's loop over a tile's 128 rows, restated. A trip takes sixteen rows: for
   each it loads the row's eight vectors, stores their sum and their maximum in the two scratch
   buffers (a row every 17 words), and then gathers the sixteen columns of each scratch buffer and
   combines them. The program below says this with one definition for a row and one for a gather;
   `body_eq` proves that it is the kernel's. -/
module

public import proofs.«01_k».proof.Proof.Gen.SplitIdeal
public import proofs.«01_k».proof.Proof.Gen.SplitIdeal.Skeleton

@[expose] public section

noncomputable section

namespace Cert.SplitIdeal.Tile

open Cert.SplitIdeal Cert.SplitIdeal.Gen
open Idealize.ShloMosaic Idealize.SL.Sem

variable {F : FTy → Type} [FloatOps F]

/-- The programs of the vector subcore that the grid puts at `i`. -/
abbrev Code (F : FTy → Type) (i : grid0.Coords) (α : Type) :=
  Prog (TpuEff nD τ sig (Elt F) Λ₀ (.scVector ((i 0).castLE hcore0) ((i 1).castLE hsub0))) α

abbrev xM : Memref sig .scVector .hbm S2097152 .f32 := Memref.whole main_v0_scv
abbrev sumM : Memref sig .scVector .hbm S4096 .f32 := Memref.whole main_v1_0_scv
abbrev maxM : Memref sig .scVector .hbm S4096 .f32 := Memref.whole main_v1_1_scv
abbrev bufM : Memref sig .scVector .vmem S16384 .f32 := Memref.whole cc0_scratch0
abbrev sscrM : Memref sig .scVector .vmem S272 .f32 := Memref.whole cc0_scratch1
abbrev mscrM : Memref sig .scVector .vmem S272 .f32 := Memref.whole cc0_scratch2
abbrev sumsM : Memref sig .scVector .vmem S128 .f32 := Memref.whole cc0_scratch3
abbrev maxsM : Memref sig .scVector .vmem S128 .f32 := Memref.whole cc0_scratch4

/-! ## What is computed -/

/-- The sum of a row's eight vectors, in the kernel's order. -/
def add8 (v : Fin 8 → Vec F S16 .f32) : FVec F S16 .f32 :=
  addf (addf (addf (v 0) (v 1)) (addf (v 2) (v 3))) (addf (addf (v 4) (v 5)) (addf (v 6) (v 7)))

/-- The maximum of a row's eight vectors, in the kernel's order. -/
def max8 (v : Fin 8 → Vec F S16 .f32) : FVec F S16 .f32 :=
  maximumf (maximumf (maximumf (v 0) (v 1)) (maximumf (v 2) (v 3))) (maximumf (maximumf (v 4) (v 5)) (maximumf (v 6) (v 7)))

/-- The sum of sixteen columns, in the kernel's order: four running sums, then those. -/
def add16 (c : Fin 16 → Vec F S16 .f32) : FVec F S16 .f32 :=
  addf (addf (addf (addf (addf (c 0) (c 4)) (c 8)) (c 12)) (addf (addf (addf (c 1) (c 5)) (c 9)) (c 13)))
    (addf (addf (addf (addf (c 2) (c 6)) (c 10)) (c 14)) (addf (addf (addf (c 3) (c 7)) (c 11)) (c 15)))

/-- The maximum of sixteen columns, in the kernel's order. -/
def max16 (c : Fin 16 → Vec F S16 .f32) : FVec F S16 .f32 :=
  maximumf (maximumf (maximumf (maximumf (maximumf (c 0) (c 4)) (c 8)) (c 12)) (maximumf (maximumf (maximumf (c 1) (c 5)) (c 9)) (c 13)))
    (maximumf (maximumf (maximumf (maximumf (c 2) (c 6)) (c 10)) (c 14)) (maximumf (maximumf (maximumf (c 3) (c 7)) (c 11)) (c 15)))

/-! ## The trip -/

theorem row_inb (r : Fin 16) : ∀ a, (![17 * r.val] : Fin 1 → Nat) a + S16.size a ≤ S272.size a := by
  revert r; decide

/-- The load of vector `j` of row `r` of trip `t`. -/
def loadPiece (i : grid0.Coords) (t : Fin k0_t1_loop.trips) (r : Fin 16) (j : Fin 8) : Code F i (Vec F S16 .f32) :=
  Prog.lift (.load bufM (Rect.unit (s := S16384) (k0_off6 t (BitVec.ofNat 32 (128 * r.val)) (BitVec.ofNat 32 (16 * j.val))) S16.size (k0_off6_inb t r j)).toLoadRect (View.loadsAt_vmem h_S16))

/-- One vector stored as row `r` of a scratch buffer, after the load the kernel makes of the same
    words (and does not use). -/
def storeRow (i : grid0.Coords) (m : Memref sig .scVector .vmem S272 .f32) (r : Fin 16) (v : FVec F S16 .f32) : Code F i PUnit := do
  let _ : Vec F S16 .f32 ← Prog.lift (.load m (Rect.unit (s := S272) ![17 * r.val] S16.size (row_inb r)).toLoadRect (View.loadsAt_vmem h_S16))
  Prog.lift (.store m (Rect.unit (s := S272) ![17 * r.val] S16.size (row_inb r)) v Finset.univ (View.stores_vmem_bits_univ h_S16 rfl) (.inl rfl))

/-- Row `r` of trip `t`. -/
def row (i : grid0.Coords) (t : Fin k0_t1_loop.trips) (r : Fin 16) : Code F i PUnit := do
  let v0 ← loadPiece i t r 0
  let v1 ← loadPiece i t r 1
  let v2 ← loadPiece i t r 2
  let v3 ← loadPiece i t r 3
  let v4 ← loadPiece i t r 4
  let v5 ← loadPiece i t r 5
  let v6 ← loadPiece i t r 6
  let v7 ← loadPiece i t r 7
  storeRow i sscrM r (add8 ![v0, v1, v2, v3, v4, v5, v6, v7])
  storeRow i mscrM r (max8 ![v0, v1, v2, v3, v4, v5, v6, v7])

/-- The words a gather of column `k` reads: word `17 r + k` for lane `r`. -/
def column (k : Fin 16) : IVec S16 32 := addi k0_pay1 (broadcast S16 (BitVec.ofNat 32 k.val))

/-- The gather of column `k` of a scratch buffer. -/
def gather (i : grid0.Coords) (m : Memref sig .scVector .vmem S272 .f32) (k : Fin 16) : Code F i (Vec F S16 .f32) := do
  have h : k0_chk1 (column k) := (← Prog.lift (TpuEff.assume (k0_chk1 (column k)) (k0_chk1.dec (column k)))).down
  SparseCore.vectorLoadIdx m ![column k] (k0_idx1_inb (column k) h) (View.loads_vmem h_S272)

/-- One group's results stored at word 16 t of a result buffer. -/
def storeOut (i : grid0.Coords) (m : Memref sig .scVector .vmem S128 .f32) (t : Fin k0_t1_loop.trips) (v : FVec F S16 .f32) : Code F i PUnit := do
  let _ : Vec F S16 .f32 ← Prog.lift (.load m (Rect.unit (s := S128) (k0_off7 t) S16.size (k0_off7_inb t)).toLoadRect (View.loadsAt_vmem h_S16))
  Prog.lift (.store m (Rect.unit (s := S128) (k0_off7 t) S16.size (k0_off7_inb t)) v Finset.univ (View.stores_vmem_bits_univ h_S16 rfl) (.inl rfl))

/-- The sixteen rows. -/
def rows (i : grid0.Coords) (t : Fin k0_t1_loop.trips) : Code F i PUnit := do
  row i t 0; row i t 1; row i t 2; row i t 3; row i t 4; row i t 5; row i t 6; row i t 7
  row i t 8; row i t 9; row i t 10; row i t 11; row i t 12; row i t 13; row i t 14; row i t 15

/-- The columns and what is made of them. -/
def columns (i : grid0.Coords) (t : Fin k0_t1_loop.trips) : Code F i PUnit := do
  let s0 ← gather i sscrM 0
  let s1 ← gather i sscrM 1
  let s2 ← gather i sscrM 2
  let s3 ← gather i sscrM 3
  let m0 ← gather i mscrM 0
  let m1 ← gather i mscrM 1
  let m2 ← gather i mscrM 2
  let m3 ← gather i mscrM 3
  let s4 ← gather i sscrM 4
  let m4 ← gather i mscrM 4
  let s5 ← gather i sscrM 5
  let m5 ← gather i mscrM 5
  let s6 ← gather i sscrM 6
  let m6 ← gather i mscrM 6
  let s7 ← gather i sscrM 7
  let m7 ← gather i mscrM 7
  let s8 ← gather i sscrM 8
  let m8 ← gather i mscrM 8
  let s9 ← gather i sscrM 9
  let m9 ← gather i mscrM 9
  let s10 ← gather i sscrM 10
  let m10 ← gather i mscrM 10
  let s11 ← gather i sscrM 11
  let m11 ← gather i mscrM 11
  let s12 ← gather i sscrM 12
  let m12 ← gather i mscrM 12
  let s13 ← gather i sscrM 13
  let m13 ← gather i mscrM 13
  let s14 ← gather i sscrM 14
  let m14 ← gather i mscrM 14
  let s15 ← gather i sscrM 15
  let m15 ← gather i mscrM 15
  storeOut i sumsM t (add16 ![s0, s1, s2, s3, s4, s5, s6, s7, s8, s9, s10, s11, s12, s13, s14, s15])
  storeOut i maxsM t (max16 ![m0, m1, m2, m3, m4, m5, m6, m7, m8, m9, m10, m11, m12, m13, m14, m15])

/-- A trip's waits and next copies, which come first. -/
def chunks (i : grid0.Coords) (w : BitVec 32) (t : Fin k0_t1_loop.trips) :
    Code F i (Σ' (_ : BitVec 32) (_ : BitVec 32) (_ : BitVec 32) (_ : BitVec 1), BitVec 1) :=
  k0_part1_skel i xM (Memref.isWhole_whole _) sumM (Memref.isWhole_whole _) maxM (Memref.isWhole_whole _) bufM (Memref.isWhole_whole _)
    sscrM (Memref.isWhole_whole _) mscrM (Memref.isWhole_whole _) sumsM (Memref.isWhole_whole _) maxsM (Memref.isWhole_whole _)
    cc0_scratch5 cc0_scratch6 cc0_scoped0 cc0_scoped1 w 0#32 1#32 t

/-- A trip. -/
def trip (i : grid0.Coords) (w : BitVec 32) (t : Fin k0_t1_loop.trips) (_ : PUnit) : Code F i PUnit :=
  chunks i w t >>= fun _ => rows i t >>= fun _ => columns i t

set_option maxRecDepth 65536 in
set_option maxHeartbeats 4000000 in
/-- The kernel's trip is `trip`. -/
theorem body_eq (i : grid0.Coords) (w : BitVec 32) :
    k0_t1_body (F := F) i xM (Memref.isWhole_whole _) sumM (Memref.isWhole_whole _) maxM (Memref.isWhole_whole _) bufM (Memref.isWhole_whole _)
      sscrM (Memref.isWhole_whole _) mscrM (Memref.isWhole_whole _) sumsM (Memref.isWhole_whole _) maxsM (Memref.isWhole_whole _)
      cc0_scratch5 cc0_scratch6 cc0_scoped0 cc0_scoped1 w = trip i w := rfl

end Cert.SplitIdeal.Tile
-- ==== Proof.SplitIdeal.Steps.lean ====
/- What the steps of a trip do: the loads of a row, its two stores, the gathers and the stores of
   the group's results, each as a rule over the buffers the vector subcore holds. -/
module

public import proofs.«01_k».proof.Proof.SplitIdeal.Trip
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Pointwise

@[expose] public section

noncomputable section

namespace Cert.SplitIdeal.Tile

open Cert.SplitIdeal Cert.SplitIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none
abbrev UH : Type := URounds (GSem nD τ sig) ℕ
/-- The rounds of the handshakes, those of the pipelines, and the counters of the transfers. -/
abbrev UP : Type := URounds (GSem nD τ sig) Unit
abbrev UU : Type := UH × (UP × Counters)

local notation "𝕄" => MT nD τ sig (HIx 1) (Elt F) ℕ UU ℕ

/-! ## Writes through a rectangle of a whole buffer -/

section Write

variable {κ : Kind} {Val : EltTy → Type} (b : Ref sig κ) (off size : Fin b.ty.shape.rank → ℕ)
  (inb : ∀ a, off a + size a ≤ b.ty.shape.size a)

theorem write_in (f : b.ty.Contents Val) (w : (Rect.unit off size inb).shape.Idx → Val b.ty.elt) (x : b.ty.shape.Idx)
    (y : (Rect.unit off size inb).shape.Idx) (h : ∀ a, (x a).val = off a + (y a).val) :
    ((View.whole b).slice (Rect.unit off size inb)).write Val f w Finset.univ x = w y := by
  have e : x = ((View.whole b).slice (Rect.unit off size inb)).emb y := by
    funext a; apply Fin.ext
    rw [h a]
    show _ = off a + 1 * (y a).val
    rw [Nat.one_mul]
  rw [e, View.write_emb_of_mem _ _ (Finset.mem_univ y)]
  exact cast_eq _ _

theorem write_out (f : b.ty.Contents Val) (w : (Rect.unit off size inb).shape.Idx → Val b.ty.elt) (x : b.ty.shape.Idx)
    (h : ∃ a, (x a).val < off a ∨ off a + size a ≤ (x a).val) :
    ((View.whole b).slice (Rect.unit off size inb)).write Val f w Finset.univ x = f x := by
  refine View.write_of_not_mem _ _ _ ?_
  rw [View.setOn_univ, View.set_slice_whole, Rect.mem_set_unit]
  intro hall
  obtain ⟨a, ha⟩ := h
  have := hall a
  omega

theorem read_at (f : b.ty.Contents Val) (y : (Rect.unit off size inb).shape.Idx) (x : b.ty.shape.Idx)
    (h : ∀ a, (x a).val = off a + (y a).val) :
    ((View.whole b).slice (Rect.unit off size inb)).read Val f y = f x := by
  have e : x = ((View.whole b).slice (Rect.unit off size inb)).emb y := by
    funext a; apply Fin.ext
    rw [h a]
    show _ = off a + 1 * (y a).val
    rw [Nat.one_mul]
  rw [e, View.read_apply]
  exact cast_eq _ _

end Write

/-! ## The values -/

/-- Word `n` of a tile's words. -/
def word (T : S16384.Idx → Elt F .f32) (n : ℕ) : Elt F .f32 := T (ix1 ⟨n % 16384, Nat.mod_lt _ (by decide)⟩)

/-- Vector `j` of row `r` of group `g`: a group is sixteen rows, a row eight vectors. -/
def piece (T : S16384.Idx → Elt F .f32) (g r j : ℕ) : Vec F S16 .f32 := fun l => word T (2048 * g + 128 * r + 16 * j + (l 0).val)

/-- The lane sums of row `r` of group `g`. -/
def laneSum (T : S16384.Idx → Elt F .f32) (g r : ℕ) : Vec F S16 .f32 := add8 fun j => piece T g r j.val
/-- The lane maxima of row `r` of group `g`. -/
def laneMax (T : S16384.Idx → Elt F .f32) (g r : ℕ) : Vec F S16 .f32 := max8 fun j => piece T g r j.val

/-- Column `k` of sixteen rows: lane `r` is row `r`'s lane `k`. -/
def col (R : ℕ → Vec F S16 .f32) (k : Fin 16) : Vec F S16 .f32 := fun r => R (r 0).val (ix1 k)

/-- The row sums of group `g`, a lane each. -/
def groupSum (T : S16384.Idx → Elt F .f32) (g : ℕ) : Vec F S16 .f32 := add16 (col (laneSum T g))
/-- The row maxima of group `g`, a lane each. -/
def groupMax (T : S16384.Idx → Elt F .f32) (g : ℕ) : Vec F S16 .f32 := max16 (col (laneMax T g))

/-- A scratch buffer holds the first `n` rows of `R`, a row every 17 words. -/
def Filled (n : ℕ) (R : ℕ → Vec F S16 .f32) (f : S272.Idx → Elt F .f32) : Prop :=
  ∀ (x : S272.Idx) (h : (x 0).val % 17 < 16), (x 0).val / 17 < n → f x = R ((x 0).val / 17) (ix1 ⟨(x 0).val % 17, h⟩)

/-- A result buffer holds the first `n` groups of `G`. -/
def Grouped (n : ℕ) (G : ℕ → Vec F S16 .f32) (f : S128.Idx → Elt F .f32) : Prop :=
  ∀ x : S128.Idx, (x 0).val / 16 < n → f x = G ((x 0).val / 16) (ix1 ⟨(x 0).val % 16, Nat.mod_lt _ (by decide)⟩)

theorem off6_eq : ∀ (t : Fin k0_t1_loop.trips) (r : Fin 16) (j : Fin 8),
    k0_off6 t (BitVec.ofNat 32 (128 * r.val)) (BitVec.ofNat 32 (16 * j.val)) = ![2048 * t.val + 128 * r.val + 16 * j.val] := by
  decide +kernel

/-- The half of the tile's buffer that copy `c` lands in. -/
def slot (c : ℕ) : Finset S16384.Idx := Finset.univ.filter fun x => (x 0).val / 8192 = c

theorem piece_in_slot (t : Fin k0_t1_loop.trips) (r : Fin 16) (j : Fin 8) :
    ((View.whole (cc0_scratch0 : Ref sig .scVector)).slice (Rect.unit (s := S16384) (k0_off6 t (BitVec.ofNat 32 (128 * r.val)) (BitVec.ofNat 32 (16 * j.val))) S16.size (k0_off6_inb t r j))).set
      ⊆ slot (t.val / 4) := by
  intro x hx
  rw [View.set_slice_whole, Rect.mem_set_unit] at hx
  have h := hx 0
  rw [off6_eq] at h
  have h1 : 2048 * t.val + 128 * r.val + 16 * j.val ≤ (x 0).val := h.1
  have h2 : (x 0).val < 2048 * t.val + 128 * r.val + 16 * j.val + 16 := h.2
  have := r.isLt; have := j.isLt
  simp only [slot, Finset.mem_filter, Finset.mem_univ, true_and]
  have : (x 0).val < 16384 := (x 0).isLt
  omega

theorem piece_read (t : Fin k0_t1_loop.trips) (r : Fin 16) (j : Fin 8) (T : S16384.Idx → Elt F .f32) :
    ((View.whole (cc0_scratch0 : Ref sig .scVector)).slice (Rect.unit (s := S16384) (k0_off6 t (BitVec.ofNat 32 (128 * r.val)) (BitVec.ofNat 32 (16 * j.val))) S16.size (k0_off6_inb t r j))).read (Elt F) T
      = piece T t.val r.val j.val := by
  funext l
  have ht : t.val < 8 := t.isLt
  have := r.isLt; have := j.isLt
  have hl : (l 0).val < 16 := (l 0).isLt
  have e : 2048 * t.val + 128 * r.val + 16 * j.val = k0_off6 t (BitVec.ofNat 32 (128 * r.val)) (BitVec.ofNat 32 (16 * j.val)) 0 :=
    (congrFun (off6_eq t r j) 0).symm
  exact read_at cc0_scratch0 _ _ _ T l (ix1 ⟨(2048 * t.val + 128 * r.val + 16 * j.val + (l 0).val) % 16384, Nat.mod_lt _ (by decide)⟩) fun
    | (0 : Fin 1) => (Nat.mod_eq_of_lt (show _ < 16384 by omega)).trans (congrArg (· + (l 0).val) e)

theorem filled_zero (R : ℕ → Vec F S16 .f32) (f : S272.Idx → Elt F .f32) : Filled 0 R f := fun _ _ h => absurd h (Nat.not_lt_zero _)

/-- Row `r` put after the first `r` rows makes the first `r + 1`. -/
theorem filled_succ {r : ℕ} {R : ℕ → Vec F S16 .f32} {f f' : S272.Idx → Elt F .f32}
    (hin : ∀ (x : S272.Idx) (y : S16.Idx), (x 0).val = 17 * r + (y 0).val → f' x = R r y)
    (hout : ∀ x : S272.Idx, (x 0).val < 17 * r ∨ 17 * r + 16 ≤ (x 0).val → f' x = f x)
    (hf : Filled r R f) : Filled (r + 1) R f' := by
  intro x h hx
  by_cases hr : (x 0).val / 17 = r
  · rw [hr]
    exact hin x (ix1 ⟨_, h⟩) (show (x 0).val = 17 * r + (x 0).val % 17 by omega)
  · rw [hout x (by omega)]
    exact hf x h (by omega)

/-- Group `g` put after the first `g` groups makes the first `g + 1`. -/
theorem grouped_succ {g : ℕ} {G : ℕ → Vec F S16 .f32} {f f' : S128.Idx → Elt F .f32}
    (hin : ∀ (x : S128.Idx) (y : S16.Idx), (x 0).val = 16 * g + (y 0).val → f' x = G g y)
    (hout : ∀ x : S128.Idx, (x 0).val < 16 * g ∨ 16 * g + 16 ≤ (x 0).val → f' x = f x)
    (hf : Grouped g G f) : Grouped (g + 1) G f' := by
  intro x hx
  by_cases hg : (x 0).val / 16 = g
  · rw [hg]
    exact hin x (ix1 ⟨_, Nat.mod_lt _ (by decide)⟩) (show (x 0).val = 16 * g + (x 0).val % 16 by omega)
  · rw [hout x (by omega)]
    exact hf x (by omega)

/-- A column's indices: word `17 r + k` for lane `r`. -/
theorem column_toNat (k : Fin 16) (r : S16.Idx) : (column k r).toNat = 17 * (r 0).val + k.val := by
  have h : ∀ (a k : Fin 16), (IntOp.addi (IntOp.muli (BitVec.ofNat 32 (0 * 16 + a.val)) 17#32) (BitVec.ofNat 32 k.val)).toNat = 17 * a.val + k.val := by
    decide +kernel
  exact h (r 0) k

theorem column_ok (k : Fin 16) : k0_chk1 (column k) := by
  intro a x
  obtain rfl : a = 0 := Subsingleton.elim _ _
  show (column k x).toNat < 272
  rw [column_toNat]
  have := k.isLt
  have : (x 0).val < 16 := (x 0).isLt
  omega

/-- The gather of column `k` of sixteen rows is their column `k`. -/
theorem gather_col (k : Fin 16) (R : ℕ → Vec F S16 .f32) (f : S272.Idx → Elt F .f32) (hf : Filled 16 R f)
    (h : ∀ a x, ((![column k] : Fin 1 → IVec S16 32) a x).toNat < S272.size a) :
    loadIdx (F := F) (s := S272) (e := .f32) f ![column k] h = col R k := by
  funext r
  have hk := k.isLt
  have hr : (r 0).val < 16 := (r 0).isLt
  have hx : ((idxAt (s := S272) ![column k] h r) 0).val = 17 * (r 0).val + k.val := column_toNat k r
  show f (idxAt (s := S272) ![column k] h r) = R (r 0).val (ix1 k)
  rw [hf (idxAt (s := S272) ![column k] h r) (by omega) (by omega)]
  have h1 : ((idxAt (s := S272) ![column k] h r) 0).val / 17 = (r 0).val := by omega
  have h2 : ((idxAt (s := S272) ![column k] h r) 0).val % 17 = k.val := by omega
  rw [h1]
  exact congrArg (fun z => R (r 0).val (ix1 z)) (Fin.ext h2)

/-! ## The rules -/

/-- The vector subcore that the grid puts at `i`, on device `d`. -/
abbrev th (d : Dev nD) (i : grid0.Coords) : Thread nD τ := V d ((i 0).castLE hcore0) ((i 1).castLE hsub0)

/-- A program of that subcore runs to `Q`. -/
abbrev runs (d : Dev nD) (i : grid0.Coords) {α : Type} (p : Code F i α) (Q : α → sProp 𝕄) : sProp 𝕄 :=
  wp frame (wpE (defs₀ (F := F)) 𝒱₀ (th d i) none) Set.univ p Q

section Rules

variable (d : Dev nD) (i : grid0.Coords)

/-- The tile's words on the half `c` of the buffer. -/
abbrev bufPts (c : ℕ) (T : S16384.Idx → Elt F .f32) : sProp 𝕄 := (th d i).loc cc0_scratch0 ↦[slot c]{fullShare} T
/-- The sums' scratch buffer with its first `n` rows those of `R`. -/
def sscrPts (n : ℕ) (R : ℕ → Vec F S16 .f32) : sProp 𝕄 := iprop(∃ f, ⌜Filled n R f⌝ ∗ (th d i).loc cc0_scratch1 ↦{fullShare} f)
/-- The maxima's scratch buffer with its first `n` rows those of `R`. -/
def mscrPts (n : ℕ) (R : ℕ → Vec F S16 .f32) : sProp 𝕄 := iprop(∃ f, ⌜Filled n R f⌝ ∗ (th d i).loc cc0_scratch2 ↦{fullShare} f)
/-- The sums' result buffer with its first `n` groups those of `G`. -/
def sumsPts (n : ℕ) (G : ℕ → Vec F S16 .f32) : sProp 𝕄 := iprop(∃ f, ⌜Grouped n G f⌝ ∗ (th d i).loc cc0_scratch3 ↦{fullShare} f)
/-- The maxima's result buffer with its first `n` groups those of `G`. -/
def maxsPts (n : ℕ) (G : ℕ → Vec F S16 .f32) : sProp 𝕄 := iprop(∃ f, ⌜Grouped n G f⌝ ∗ (th d i).loc cc0_scratch4 ↦{fullShare} f)

theorem wp_loadPiece {α : Type} {Q : α → sProp 𝕄} (t : Fin k0_t1_loop.trips) (r : Fin 16) (j : Fin 8) (T : S16384.Idx → Elt F .f32) {k : Vec F S16 .f32 → Code F i α} :
    bufPts d i (t.val / 4) T
      ⊢ iprop((bufPts d i (t.val / 4) T -∗ runs d i (k (piece T t.val r.val j.val)) Q) -∗ runs d i (loadPiece i t r j >>= k) Q) := by
  rw [← piece_read t r j T]
  exact wp_load_rect 𝒱₀ (th d i) none Set.univ (m := bufM)
    (r := Rect.unit (s := S16384) (k0_off6 t (BitVec.ofNat 32 (128 * r.val)) (BitVec.ofNat 32 (16 * j.val))) S16.size (k0_off6_inb t r j))
    (hl := View.loadsAt_vmem h_S16) (k := k) (S := slot (t.val / 4)) (q := fullShare) (f := T) (piece_in_slot t r j)

theorem wp_storeSum {α : Type} {Q : α → sProp 𝕄} (r : Fin 16) (R : ℕ → Vec F S16 .f32) {k : PUnit → Code F i α} :
    sscrPts d i r.val R
      ⊢ iprop((sscrPts d i (r.val + 1) R -∗ runs d i (k ⟨⟩) Q) -∗ runs d i (storeRow i sscrM r (R r.val) >>= k) Q) := by
  unfold sscrPts
  iintro ⟨%f, %hf, H⟩ Hk
  iapply (wp_load_rect 𝒱₀ (th d i) none Set.univ (m := sscrM) (r := Rect.unit (s := S272) ![17 * r.val] S16.size (row_inb r)) (S := Finset.univ)
    (Finset.subset_univ _)) $$ H
  iintro H
  iapply (wp_store 𝒱₀ (th d i) none Set.univ (m := sscrM) (r := Rect.unit (s := S272) ![17 * r.val] S16.size (row_inb r)) (Mk := Finset.univ)
    (S := Finset.univ) (Finset.subset_univ _)) $$ H
  iintro H
  iapply Hk
  iexists _; isplitr
  rotate_left
  · iexact H
  ipureintro
  exact filled_succ (fun x y h => write_in cc0_scratch1 _ _ (row_inb r) f (R r.val) x y fun | (0 : Fin 1) => h)
    (fun x h => write_out cc0_scratch1 _ _ (row_inb r) f (R r.val) x ⟨(0 : Fin 1), h⟩) hf

theorem wp_storeMax {α : Type} {Q : α → sProp 𝕄} (r : Fin 16) (R : ℕ → Vec F S16 .f32) {k : PUnit → Code F i α} :
    mscrPts d i r.val R
      ⊢ iprop((mscrPts d i (r.val + 1) R -∗ runs d i (k ⟨⟩) Q) -∗ runs d i (storeRow i mscrM r (R r.val) >>= k) Q) := by
  unfold mscrPts
  iintro ⟨%f, %hf, H⟩ Hk
  iapply (wp_load_rect 𝒱₀ (th d i) none Set.univ (m := mscrM) (r := Rect.unit (s := S272) ![17 * r.val] S16.size (row_inb r)) (S := Finset.univ)
    (Finset.subset_univ _)) $$ H
  iintro H
  iapply (wp_store 𝒱₀ (th d i) none Set.univ (m := mscrM) (r := Rect.unit (s := S272) ![17 * r.val] S16.size (row_inb r)) (Mk := Finset.univ)
    (S := Finset.univ) (Finset.subset_univ _)) $$ H
  iintro H
  iapply Hk
  iexists _; isplitr
  rotate_left
  · iexact H
  ipureintro
  exact filled_succ (fun x y h => write_in cc0_scratch2 _ _ (row_inb r) f (R r.val) x y fun | (0 : Fin 1) => h)
    (fun x h => write_out cc0_scratch2 _ _ (row_inb r) f (R r.val) x ⟨(0 : Fin 1), h⟩) hf

theorem wp_gatherSum {α : Type} {Q : α → sProp 𝕄} (c : Fin 16) (R : ℕ → Vec F S16 .f32) {k : Vec F S16 .f32 → Code F i α} :
    sscrPts d i 16 R
      ⊢ iprop((sscrPts d i 16 R -∗ runs d i (k (col R c)) Q) -∗ runs d i (gather i sscrM c >>= k) Q) := by
  unfold sscrPts
  iintro ⟨%f, %hf, H⟩ Hk
  unfold gather runs
  simp only [Prog.lift, Prog.bind_op, Prog.bind_ret, bind_assoc]
  rw [wp_assume_of _ _ _ _ (column_ok c)]
  iapply (SparseCore.wp_vectorLoadIdx 𝒱₀ (th d i) none Set.univ (base := sscrM) (S := Finset.univ) (q := fullShare) (Finset.subset_univ _)) $$ H
  iintro H
  rw [show ((sscrM).access (.whole S272)).read (Elt F) f = f from Memref.read_access_whole _ _ _, gather_col c R f hf]
  iapply Hk
  iexists f; isplitr
  · ipureintro; exact hf
  · iexact H

theorem wp_gatherMax {α : Type} {Q : α → sProp 𝕄} (c : Fin 16) (R : ℕ → Vec F S16 .f32) {k : Vec F S16 .f32 → Code F i α} :
    mscrPts d i 16 R
      ⊢ iprop((mscrPts d i 16 R -∗ runs d i (k (col R c)) Q) -∗ runs d i (gather i mscrM c >>= k) Q) := by
  unfold mscrPts
  iintro ⟨%f, %hf, H⟩ Hk
  unfold gather runs
  simp only [Prog.lift, Prog.bind_op, Prog.bind_ret, bind_assoc]
  rw [wp_assume_of _ _ _ _ (column_ok c)]
  iapply (SparseCore.wp_vectorLoadIdx 𝒱₀ (th d i) none Set.univ (base := mscrM) (S := Finset.univ) (q := fullShare) (Finset.subset_univ _)) $$ H
  iintro H
  rw [show ((mscrM).access (.whole S272)).read (Elt F) f = f from Memref.read_access_whole _ _ _, gather_col c R f hf]
  iapply Hk
  iexists f; isplitr
  · ipureintro; exact hf
  · iexact H

theorem wp_storeSums {α : Type} {Q : α → sProp 𝕄} (t : Fin k0_t1_loop.trips) (G : ℕ → Vec F S16 .f32) {k : PUnit → Code F i α} :
    sumsPts d i t.val G
      ⊢ iprop((sumsPts d i (t.val + 1) G -∗ runs d i (k ⟨⟩) Q) -∗ runs d i (storeOut i sumsM t (G t.val) >>= k) Q) := by
  unfold sumsPts
  iintro ⟨%f, %hf, H⟩ Hk
  iapply (wp_load_rect 𝒱₀ (th d i) none Set.univ (m := sumsM) (r := Rect.unit (s := S128) (k0_off7 t) S16.size (k0_off7_inb t)) (S := Finset.univ)
    (Finset.subset_univ _)) $$ H
  iintro H
  iapply (wp_store 𝒱₀ (th d i) none Set.univ (m := sumsM) (r := Rect.unit (s := S128) (k0_off7 t) S16.size (k0_off7_inb t)) (Mk := Finset.univ)
    (S := Finset.univ) (Finset.subset_univ _)) $$ H
  iintro H
  iapply Hk
  iexists _; isplitr
  rotate_left
  · iexact H
  ipureintro
  have e : k0_off7 t 0 = 16 * t.val := congrFun (k0_off7_eq t) 0
  exact grouped_succ (fun x y h => write_in cc0_scratch3 _ _ (k0_off7_inb t) f (G t.val) x y fun | (0 : Fin 1) => h.trans (congrArg (· + (y 0).val) e.symm))
    (fun x h => write_out cc0_scratch3 _ _ (k0_off7_inb t) f (G t.val) x ⟨(0 : Fin 1), by rw [e]; exact h⟩) hf

theorem wp_storeMaxs {α : Type} {Q : α → sProp 𝕄} (t : Fin k0_t1_loop.trips) (G : ℕ → Vec F S16 .f32) {k : PUnit → Code F i α} :
    maxsPts d i t.val G
      ⊢ iprop((maxsPts d i (t.val + 1) G -∗ runs d i (k ⟨⟩) Q) -∗ runs d i (storeOut i maxsM t (G t.val) >>= k) Q) := by
  unfold maxsPts
  iintro ⟨%f, %hf, H⟩ Hk
  iapply (wp_load_rect 𝒱₀ (th d i) none Set.univ (m := maxsM) (r := Rect.unit (s := S128) (k0_off7 t) S16.size (k0_off7_inb t)) (S := Finset.univ)
    (Finset.subset_univ _)) $$ H
  iintro H
  iapply (wp_store 𝒱₀ (th d i) none Set.univ (m := maxsM) (r := Rect.unit (s := S128) (k0_off7 t) S16.size (k0_off7_inb t)) (Mk := Finset.univ)
    (S := Finset.univ) (Finset.subset_univ _)) $$ H
  iintro H
  iapply Hk
  iexists _; isplitr
  rotate_left
  · iexact H
  ipureintro
  have e : k0_off7 t 0 = 16 * t.val := congrFun (k0_off7_eq t) 0
  exact grouped_succ (fun x y h => write_in cc0_scratch4 _ _ (k0_off7_inb t) f (G t.val) x y fun | (0 : Fin 1) => h.trans (congrArg (· + (y 0).val) e.symm))
    (fun x h => write_out cc0_scratch4 _ _ (k0_off7_inb t) f (G t.val) x ⟨(0 : Fin 1), by rw [e]; exact h⟩) hf

/-- A row of a trip: its sums and maxima join the rows before it. -/
theorem wp_row {α : Type} {Q : α → sProp 𝕄} (t : Fin k0_t1_loop.trips) (r : Fin 16) (T : S16384.Idx → Elt F .f32) {k : PUnit → Code F i α}
    (n n' : ℕ) (hn : n = r.val) (hn' : n' = r.val + 1) :
    iprop(bufPts d i (t.val / 4) T ∗ sscrPts d i n (laneSum T t.val) ∗ mscrPts d i n (laneMax T t.val))
      ⊢ iprop((iprop(bufPts d i (t.val / 4) T ∗ sscrPts d i n' (laneSum T t.val) ∗ mscrPts d i n' (laneMax T t.val))
          -∗ runs d i (k ⟨⟩) Q) -∗ runs d i (row i t r >>= k) Q) := by
  subst hn hn'
  unfold row
  simp only [bind_assoc]
  iintro ⟨Hb, Hs, Hm⟩ Hk
  iapply (wp_loadPiece d i t r 0 T) $$ Hb; iintro Hb
  iapply (wp_loadPiece d i t r 1 T) $$ Hb; iintro Hb
  iapply (wp_loadPiece d i t r 2 T) $$ Hb; iintro Hb
  iapply (wp_loadPiece d i t r 3 T) $$ Hb; iintro Hb
  iapply (wp_loadPiece d i t r 4 T) $$ Hb; iintro Hb
  iapply (wp_loadPiece d i t r 5 T) $$ Hb; iintro Hb
  iapply (wp_loadPiece d i t r 6 T) $$ Hb; iintro Hb
  iapply (wp_loadPiece d i t r 7 T) $$ Hb; iintro Hb
  iapply (wp_storeSum d i r (laneSum T t.val)) $$ Hs; iintro Hs
  iapply (wp_storeMax d i r (laneMax T t.val)) $$ Hm; iintro Hm
  iapply Hk
  isplitl [Hb]; · iexact Hb
  isplitl [Hs]; · iexact Hs
  iexact Hm

/-- The sixteen rows of a trip. -/
theorem wp_rows {α : Type} {Q : α → sProp 𝕄} (t : Fin k0_t1_loop.trips) (T : S16384.Idx → Elt F .f32) {k : PUnit → Code F i α} :
    iprop(bufPts d i (t.val / 4) T ∗ sscrPts d i 0 (laneSum T t.val) ∗ mscrPts d i 0 (laneMax T t.val))
      ⊢ iprop((iprop(bufPts d i (t.val / 4) T ∗ sscrPts d i 16 (laneSum T t.val) ∗ mscrPts d i 16 (laneMax T t.val))
          -∗ runs d i (k ⟨⟩) Q) -∗ runs d i (rows i t >>= k) Q) := by
  unfold rows
  simp only [bind_assoc]
  iintro H Hk
  iapply (wp_row d i t 0 T 0 1 rfl rfl) $$ H; iintro H
  iapply (wp_row d i t 1 T 1 2 rfl rfl) $$ H; iintro H
  iapply (wp_row d i t 2 T 2 3 rfl rfl) $$ H; iintro H
  iapply (wp_row d i t 3 T 3 4 rfl rfl) $$ H; iintro H
  iapply (wp_row d i t 4 T 4 5 rfl rfl) $$ H; iintro H
  iapply (wp_row d i t 5 T 5 6 rfl rfl) $$ H; iintro H
  iapply (wp_row d i t 6 T 6 7 rfl rfl) $$ H; iintro H
  iapply (wp_row d i t 7 T 7 8 rfl rfl) $$ H; iintro H
  iapply (wp_row d i t 8 T 8 9 rfl rfl) $$ H; iintro H
  iapply (wp_row d i t 9 T 9 10 rfl rfl) $$ H; iintro H
  iapply (wp_row d i t 10 T 10 11 rfl rfl) $$ H; iintro H
  iapply (wp_row d i t 11 T 11 12 rfl rfl) $$ H; iintro H
  iapply (wp_row d i t 12 T 12 13 rfl rfl) $$ H; iintro H
  iapply (wp_row d i t 13 T 13 14 rfl rfl) $$ H; iintro H
  iapply (wp_row d i t 14 T 14 15 rfl rfl) $$ H; iintro H
  iapply (wp_row d i t 15 T 15 16 rfl rfl) $$ H; iintro H
  iapply Hk
  iexact H

/-- The columns of a trip: the group's sums and maxima join the groups before it. -/
theorem wp_columns (t : Fin k0_t1_loop.trips) (T : S16384.Idx → Elt F .f32) :
    iprop(sscrPts d i 16 (laneSum T t.val) ∗ mscrPts d i 16 (laneMax T t.val) ∗ sumsPts d i t.val (groupSum T) ∗ maxsPts d i t.val (groupMax T))
      ⊢ runs d i (columns i t) fun _ => iprop(sscrPts d i 16 (laneSum T t.val) ∗ mscrPts d i 16 (laneMax T t.val)
          ∗ sumsPts d i (t.val + 1) (groupSum T) ∗ maxsPts d i (t.val + 1) (groupMax T)) := by
  unfold columns
  iintro ⟨Hs, Hm, Ho, Hp⟩
  iapply (wp_gatherSum d i 0 (laneSum T t.val)) $$ Hs; iintro Hs
  iapply (wp_gatherSum d i 1 (laneSum T t.val)) $$ Hs; iintro Hs
  iapply (wp_gatherSum d i 2 (laneSum T t.val)) $$ Hs; iintro Hs
  iapply (wp_gatherSum d i 3 (laneSum T t.val)) $$ Hs; iintro Hs
  iapply (wp_gatherMax d i 0 (laneMax T t.val)) $$ Hm; iintro Hm
  iapply (wp_gatherMax d i 1 (laneMax T t.val)) $$ Hm; iintro Hm
  iapply (wp_gatherMax d i 2 (laneMax T t.val)) $$ Hm; iintro Hm
  iapply (wp_gatherMax d i 3 (laneMax T t.val)) $$ Hm; iintro Hm
  iapply (wp_gatherSum d i 4 (laneSum T t.val)) $$ Hs; iintro Hs
  iapply (wp_gatherMax d i 4 (laneMax T t.val)) $$ Hm; iintro Hm
  iapply (wp_gatherSum d i 5 (laneSum T t.val)) $$ Hs; iintro Hs
  iapply (wp_gatherMax d i 5 (laneMax T t.val)) $$ Hm; iintro Hm
  iapply (wp_gatherSum d i 6 (laneSum T t.val)) $$ Hs; iintro Hs
  iapply (wp_gatherMax d i 6 (laneMax T t.val)) $$ Hm; iintro Hm
  iapply (wp_gatherSum d i 7 (laneSum T t.val)) $$ Hs; iintro Hs
  iapply (wp_gatherMax d i 7 (laneMax T t.val)) $$ Hm; iintro Hm
  iapply (wp_gatherSum d i 8 (laneSum T t.val)) $$ Hs; iintro Hs
  iapply (wp_gatherMax d i 8 (laneMax T t.val)) $$ Hm; iintro Hm
  iapply (wp_gatherSum d i 9 (laneSum T t.val)) $$ Hs; iintro Hs
  iapply (wp_gatherMax d i 9 (laneMax T t.val)) $$ Hm; iintro Hm
  iapply (wp_gatherSum d i 10 (laneSum T t.val)) $$ Hs; iintro Hs
  iapply (wp_gatherMax d i 10 (laneMax T t.val)) $$ Hm; iintro Hm
  iapply (wp_gatherSum d i 11 (laneSum T t.val)) $$ Hs; iintro Hs
  iapply (wp_gatherMax d i 11 (laneMax T t.val)) $$ Hm; iintro Hm
  iapply (wp_gatherSum d i 12 (laneSum T t.val)) $$ Hs; iintro Hs
  iapply (wp_gatherMax d i 12 (laneMax T t.val)) $$ Hm; iintro Hm
  iapply (wp_gatherSum d i 13 (laneSum T t.val)) $$ Hs; iintro Hs
  iapply (wp_gatherMax d i 13 (laneMax T t.val)) $$ Hm; iintro Hm
  iapply (wp_gatherSum d i 14 (laneSum T t.val)) $$ Hs; iintro Hs
  iapply (wp_gatherMax d i 14 (laneMax T t.val)) $$ Hm; iintro Hm
  iapply (wp_gatherSum d i 15 (laneSum T t.val)) $$ Hs; iintro Hs
  iapply (wp_gatherMax d i 15 (laneMax T t.val)) $$ Hm; iintro Hm
  iapply (wp_storeSums d i t (groupSum T)) $$ Ho; iintro Ho
  rw [← bind_pure (storeOut i maxsM t _)]
  iapply (wp_storeMaxs d i t (groupMax T)) $$ Hp; iintro Hp
  unfold runs; rw [Prog.pure_eq_ret, wp_ret]; imodintro
  isplitl [Hs]; · iexact Hs
  isplitl [Hm]; · iexact Hm
  isplitl [Ho]; · iexact Ho
  iexact Hp

end Rules

end Cert.SplitIdeal.Tile
-- ==== Proof.SplitIdeal.Chunks.lean ====
/- The copies of a tile's words into its buffer. A tile's 128 rows come in two halves of 64 rows; the
   first copy is begun before the loop, the second by trip 0, and trips 0 and 4 wait for the half
   whose rows they are the first to read. `state` says what is held before each trip. -/
module

public import proofs.«01_k».proof.Proof.SplitIdeal.Steps

@[expose] public section

noncomputable section

namespace Cert.SplitIdeal.Tile

open Cert.SplitIdeal Cert.SplitIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The first word of the flat array that belongs to the tile at `i`. -/
def base (i : grid0.Coords) : ℕ := 32768 * (i 1).val + 16384 * (i 0).val

/-- The words of the tile at `i`: 16384 of the flat array's, from `base i` on. -/
def tileOf (X : S2097152.Idx → Elt F .f32) (i : grid0.Coords) : S16384.Idx → Elt F .f32 :=
  fun y => X (ix1 ⟨(base i + (y 0).val) % 2097152, Nat.mod_lt _ (by decide)⟩)

theorem base_lt (i : grid0.Coords) : base i + 16384 ≤ 524288 := by
  have h1 : (i 1).val < 16 := (i 1).isLt
  have h0 : (i 0).val < 2 := (i 0).isLt
  unfold base; omega

theorem off1_zero (i : grid0.Coords) : k0_off1 i 0 = base i + 0 := congrFun (k0_off1_eq i) 0

theorem off5_zero : ∀ i : grid0.Coords, k0_off5 i (⟨0, by decide⟩ : Fin k0_t1_loop.trips) 0 = 32768 * (i 1).val + 16384 * (i 0).val + 8192 := by
  decide +kernel

/-- The counters of the copies in flight. -/
abbrev EC : UEmb Counters 𝕄 := countersEmb

/-- What a half's copy counts on its semaphore. -/
abbrev units : ℕ := (bufM.slice (Rect.unit (s := S16384) ![0] S8192.size inb_S16384_S8192_0) (fun _ => rfl)).view.dmaCredit

variable (d : Dev nD) (i : grid0.Coords)

/-- The half `c` of the buffer is on its way, and will hold the tile's words. -/
abbrev flying (s : DmaSem sig) (c : ℕ) (X : S2097152.Idx → Elt F .f32) : sProp 𝕄 :=
  Transfers.Flight EC (th d i) (.dma s) none units (bufPts d i c (tileOf X i))

/-- The waits recorded are those of `W` and others at no index. -/
abbrev owed (O : CellTallies nD τ sig (HIx 1)) (W : Waits sig (HIx 1)) : sProp 𝕄 :=
  iprop(∃ W', ⌜∀ p ∈ W', p ∈ W ∨ p.2 = none⌝ ∗ owes (th d i) O W')

theorem slot_set (c so : ℕ) (hso : so = 8192 * c) (hs : ∀ a, (![so] : Fin 1 → ℕ) a + S8192.size a ≤ S16384.size a) :
    ((View.whole (cc0_scratch0 : Ref sig .scVector)).slice (Rect.unit (s := S16384) ![so] S8192.size hs)).set ⊆ slot c := by
  intro x hx
  rw [View.set_slice_whole, Rect.mem_set_unit] at hx
  have h1 : so ≤ (x 0).val := (hx 0).1
  have h2 : (x 0).val < so + 8192 := (hx 0).2
  simp only [slot, Finset.mem_filter, Finset.mem_univ, true_and]
  omega

/-- A copy lands the tile's words in its half. -/
theorem slot_landed (c so : ℕ) (hso : so = 8192 * c) (hs : ∀ a, (![so] : Fin 1 → ℕ) a + S8192.size a ≤ S16384.size a)
    (off : Fin 1 → ℕ) (ho : ∀ a, off a + S8192.size a ≤ S2097152.size a) (e : off 0 = base i + so)
    (X : S2097152.Idx → Elt F .f32) (f : S16384.Idx → Elt F .f32) (x : S16384.Idx) (hx : x ∈ slot c) :
    ((View.whole (cc0_scratch0 : Ref sig .scVector)).slice (Rect.unit (s := S16384) ![so] S8192.size hs)).write (Elt F) f
        (((View.whole (main_v0_scv : Ref sig .scVector)).slice (Rect.unit (s := S2097152) off S8192.size ho)).read (Elt F) X) Finset.univ x
      = tileOf X i x := by
  simp only [slot, Finset.mem_filter, Finset.mem_univ, true_and] at hx
  have hc : so ≤ (x 0).val ∧ (x 0).val < so + 8192 := by omega
  have hb := base_lt i
  have hl : (x 0).val < 16384 := (x 0).isLt
  refine (write_in cc0_scratch0 _ _ hs f _ x (ix1 ⟨(x 0).val - so, by omega⟩) fun
    | (0 : Fin 1) => (Nat.add_sub_cancel' hc.1).symm).trans ?_
  refine read_at main_v0_scv _ _ ho X _ _ fun
    | (0 : Fin 1) => ?_
  rw [e]
  show (base i + (x 0).val) % 2097152 = base i + so + ((x 0).val - so)
  omega

theorem wp_issue {α : Type} {Q : α → sProp 𝕄} (c so : ℕ) (hso : so = 8192 * c) (hs : ∀ a, (![so] : Fin 1 → ℕ) a + S8192.size a ≤ S16384.size a)
    (off : Fin 1 → ℕ) (ho : ∀ a, off a + S8192.size a ≤ S2097152.size a) (e : off 0 = base i + so)
    (s : DmaSem sig) (q : PosShare TreeShare) (X : S2097152.Idx → Elt F .f32) (f : S16384.Idx → Elt F .f32)
    {h1 h2 h3} {k : PUnit → Code F i α} :
    iprop(((th d i).loc main_v0_scv ↦{q} X) ∗ bufPts d i c f ∗ semVal (th d i, .dma s) 0)
      ⊢ iprop((flying d i s c X -∗ runs d i (k ⟨⟩) Q)
        -∗ runs d i (.op (.enqueueDma (xM.slice (Rect.unit (s := S2097152) off S8192.size ho) (fun _ => rfl))
            (.here (bufM.slice (Rect.unit (s := S16384) ![so] S8192.size hs) (fun _ => rfl))) (.dma s) h1 h2 h3) k) Q) := by
  iintro ⟨Hx, Hb, Hs⟩ Hk
  ihave Hx' := (pointsTo_split_subset (Finset.subset_univ
    ((View.whole (main_v0_scv : Ref sig .scVector)).slice (Rect.unit (s := S2097152) off S8192.size ho)).set)).1 $$ Hx
  icases Hx' with ⟨Hx, -⟩
  iapply (Transfers.wp_dmaLocal EC 𝒱₀ (th d i) none none units
    (show (bufM.slice (Rect.unit (s := S16384) ![so] S8192.size hs) (fun _ => rfl)).view.amount (.dma s) = units from rfl) (View.dmaCredit_pos _ (by decide +kernel)) (slot_set c so hso hs)) $$ [Hx Hb Hs]
  · isplitl [Hx]; · iexact Hx
    isplitl [Hb]; · iexact Hb
    iexact Hs
  iintro Hf
  iapply Hk
  iapply (Transfers.Flight_mono EC ?_) $$ Hf
  iintro ⟨Hb, -⟩
  iapply (Entails.of_eq (pointsTo_congr ?_)) $$ Hb
  intro x hx
  exact slot_landed i c so hso hs off ho e X f x hx

theorem wp_land {α : Type} {Q : α → sProp 𝕄} {sp sp' : Space} {a b : Shape} {p r : EltTy} {src : Memref sig .scVector sp a p} {dst : Memref sig .scVector sp' b r}
    (s : DmaSem sig) (N : ℕ) (hN : dst.view.dmaCredit = N) (D : sProp 𝕄)
    (O : CellTallies nD τ sig (HIx 1)) (W : Waits sig (HIx 1)) {h1 h2} {k : PUnit → Code F i α} :
    iprop(Transfers.Flight EC (th d i) (.dma s) none N D ∗ Transfers.MayWaits (th d i) (none : HIx 1) O ∗ owed d i O W)
      ⊢ iprop((iprop(D ∗ semVal (th d i, .dma s) 0 ∗ owed d i O W) -∗ runs d i (k ⟨⟩) Q)
        -∗ runs d i (.op (.waitDma2 s src dst h1 h2) k) Q) := by
  iintro ⟨Hf, Hm, %W', %hW, HO⟩ Hk
  iapply (Transfers.wp_waitLocalO EC 𝒱₀ (th d i) none none hN) $$ [Hf Hm HO]
  · isplitl [Hf]; · iexact Hf
    isplitl [HO]; · iexact HO
    iapply (Transfers.MayWaits.elim (SemLoc.dma s)) $$ Hm
  iintro ⟨HD, Hs, HO⟩
  iapply Hk
  isplitl [HD]; · iexact HD
  isplitl [Hs]; · iexact Hs
  iexists (insert (SemLoc.dma s, none) W'); isplitr
  · ipureintro; intro p hp
    rcases Finset.mem_insert.mp hp with hp | hp
    · exact .inr (hp ▸ rfl)
    · exact hW p hp
  · iexact HO

/-- What is held of the buffer and its copies before trip `n`. -/
def state (q : PosShare TreeShare) (X : S2097152.Idx → Elt F .f32) (n : ℕ) : sProp 𝕄 :=
  if n = 0 then iprop(flying d i cc0_scratch5.sem 0 X ∗ (∃ f, bufPts d i 1 f) ∗ semVal (th d i, .dma cc0_scratch6.sem) 0 ∗ ((th d i).loc main_v0_scv ↦{q} X))
  else if n ≤ 4 then iprop(bufPts d i 0 (tileOf X i) ∗ flying d i cc0_scratch6.sem 1 X ∗ semVal (th d i, .dma cc0_scratch5.sem) 0)
  else iprop(bufPts d i 1 (tileOf X i) ∗ bufPts d i 0 (tileOf X i) ∗ semVal (th d i, .dma cc0_scratch5.sem) 0 ∗ semVal (th d i, .dma cc0_scratch6.sem) 0)

/-- After a trip's copies the half it reads is there. -/
theorem state_half (q : PosShare TreeShare) (X : S2097152.Idx → Elt F .f32) (t : Fin k0_t1_loop.trips) :
    state d i q X (t.val + 1) ⊢ iprop(bufPts d i (t.val / 4) (tileOf X i) ∗ (bufPts d i (t.val / 4) (tileOf X i) -∗ state d i q X (t.val + 1))) := by
  have ht : t.val < 8 := t.isLt
  unfold state
  rw [if_neg (Nat.succ_ne_zero _)]
  by_cases h : t.val + 1 ≤ 4
  · rw [if_pos h, show t.val / 4 = 0 by omega]
    iintro ⟨Hb, Hr⟩
    isplitl [Hb]; · iexact Hb
    iintro Hb; isplitl [Hb]; · iexact Hb
    iexact Hr
  · rw [if_neg h, show t.val / 4 = 1 by omega]
    iintro ⟨Hb, Hr⟩
    isplitl [Hb]; · iexact Hb
    iintro Hb; isplitl [Hb]; · iexact Hb
    iexact Hr

theorem first : k0_cond1 (⟨0, by decide⟩ : Fin k0_t1_loop.trips) = 1#1 ∧ k0_cond2 (⟨0, by decide⟩ : Fin k0_t1_loop.trips) = 1#1
    ∧ ¬ k0_cond3 (⟨0, by decide⟩ : Fin k0_t1_loop.trips) = 1#1 ∧ k0_cond4 (⟨0, by decide⟩ : Fin k0_t1_loop.trips) = 1#1
    ∧ ¬ k0_cond5 (⟨0, by decide⟩ : Fin k0_t1_loop.trips) = 1#1 ∧ k0_cond6 (⟨0, by decide⟩ : Fin k0_t1_loop.trips) = 1#1 := by
  decide +kernel

theorem fourth : k0_cond1 (⟨4, by decide⟩ : Fin k0_t1_loop.trips) = 1#1 ∧ ¬ k0_cond2 (⟨4, by decide⟩ : Fin k0_t1_loop.trips) = 1#1
    ∧ k0_cond3 (⟨4, by decide⟩ : Fin k0_t1_loop.trips) = 1#1 ∧ ¬ k0_cond4 (⟨4, by decide⟩ : Fin k0_t1_loop.trips) = 1#1 := by
  decide +kernel

theorem others : ∀ t : Fin k0_t1_loop.trips, t.val ≠ 0 → t.val ≠ 4 → ¬ k0_cond1 t = 1#1 := by
  decide +kernel

/-- A trip's waits and copies take the state before it to the state before the next. -/
theorem wp_chunks {α : Type} {Q : α → sProp 𝕄} (w : BitVec 32) (t : Fin k0_t1_loop.trips) (q : PosShare TreeShare) (X : S2097152.Idx → Elt F .f32)
    (O : CellTallies nD τ sig (HIx 1)) (W : Waits sig (HIx 1)) (p : Code F i α) :
    iprop(state d i q X t.val ∗ Transfers.MayWaits (th d i) (none : HIx 1) O ∗ owed d i O W)
      ⊢ iprop((iprop(state d i q X (t.val + 1) ∗ owed d i O W) -∗ runs d i p Q) -∗ runs d i (chunks i w t >>= fun _ => p) Q) := by
  have ht : t.val < 8 := t.isLt
  unfold state
  rw [if_neg (Nat.succ_ne_zero _)]
  unfold chunks k0_part1_skel
  by_cases h0 : t.val = 0
  · obtain rfl : t = ⟨0, by decide⟩ := Fin.ext h0
    obtain ⟨c1, c2, c3, c4, c5, c6⟩ := first
    rw [if_pos rfl, if_pos (by decide)]
    simp only [dif_pos c1, dif_pos c2, dif_neg c3, dif_pos c4, dif_neg c5, dif_pos c6, Prog.lift, Prog.bind_op, Prog.bind_ret, Prog.pure_eq_ret]
    iintro ⟨⟨Hf, ⟨%f, Hb⟩, Hs, Hx⟩, Hm, HO⟩ Hk
    iapply (wp_land d i cc0_scratch5.sem units rfl (bufPts d i 0 (tileOf X i)) O W) $$ [Hf Hm HO]
    · isplitl [Hf]; · iexact Hf
      isplitl [Hm] <;> iassumption
    iintro ⟨Hb0, Hs0, HO⟩
    iapply (wp_issue d i 1 8192 rfl inb_S16384_S8192_8192 _ _ (off5_zero i) cc0_scratch6.sem q X f) $$ [Hx Hb Hs]
    · isplitl [Hx]; · iexact Hx
      isplitl [Hb] <;> iassumption
    iintro Hf
    iapply Hk
    isplitr [HO]
    · isplitl [Hb0]; · iexact Hb0
      isplitl [Hf] <;> iassumption
    · iexact HO
  · rw [if_neg h0]
    by_cases h4 : t.val = 4
    · obtain rfl : t = ⟨4, by decide⟩ := Fin.ext h4
      obtain ⟨c1, c2, c3, c4⟩ := fourth
      rw [if_pos (by decide), if_neg (by decide)]
      simp only [dif_pos c1, dif_neg c2, dif_pos c3, dif_neg c4, Prog.lift, Prog.bind_op, Prog.bind_ret, Prog.pure_eq_ret]
      iintro ⟨⟨Hb0, Hf, Hs0⟩, Hm, HO⟩ Hk
      iapply (wp_land d i cc0_scratch6.sem units (show (bufM.slice (Rect.unit (s := S16384) ![8192] S8192.size inb_S16384_S8192_8192) (fun _ => rfl)).view.dmaCredit = units from rfl) (bufPts d i 1 (tileOf X i)) O W) $$ [Hf Hm HO]
      · isplitl [Hf]; · iexact Hf
        isplitl [Hm] <;> iassumption
      iintro ⟨Hb1, Hs1, HO⟩
      iapply Hk
      isplitr [HO]
      · isplitl [Hb1]; · iexact Hb1
        isplitl [Hb0]; · iexact Hb0
        isplitl [Hs0] <;> iassumption
      · iexact HO
    · have c1 := others t h0 h4
      simp only [dif_neg c1, Prog.bind_ret, Prog.pure_eq_ret]
      simp only [show t.val + 1 ≤ 4 ↔ t.val ≤ 4 by omega]
      iintro ⟨Hst, -, HO⟩ Hk
      iapply Hk
      isplitl [Hst]; · iexact Hst
      iexact HO

end Cert.SplitIdeal.Tile
-- ==== Proof.SplitIdeal.Body.lean ====
/- A tile of the kernel, from its words of the flat array to its rows of the two results: the first
   copy, the loop of eight trips and the two copies out. -/
module

public import proofs.«01_k».proof.Proof.SplitIdeal.Chunks

@[expose] public section

noncomputable section

namespace Cert.SplitIdeal.Tile

open Cert.SplitIdeal Cert.SplitIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev ΛP : Labels := Pipeline.Sig Λ₀ (Fin 2) fun p => (pcfgs (F := F) p).Adm
abbrev K : SparseCore.Cfg τ sig (ΛP (F := F)) 1 := sc (F := F)

/-! ## The results -/

/-- The number of the tile at `i`: the SparseCores take turns. -/
def wid (i : grid0.Coords) : ℕ := 2 * (i 1).val + (i 0).val

/-- The words of tile `n`. -/
def tileAt (X : S2097152.Idx → Elt F .f32) (n : ℕ) : S16384.Idx → Elt F .f32 :=
  fun y => X (ix1 ⟨(16384 * n + (y 0).val) % 2097152, Nat.mod_lt _ (by decide)⟩)

theorem tileOf_eq (X : S2097152.Idx → Elt F .f32) (i : grid0.Coords) : tileOf X i = tileAt X (wid i) := by
  have e : base i = 16384 * wid i := by unfold base wid; omega
  unfold tileOf tileAt; simp only [e]

/-- What the kernel computes from a group of sixteen rows, put at every row of the result. -/
def spread (G : (S16384.Idx → Elt F .f32) → ℕ → Vec F S16 .f32) (X : S2097152.Idx → Elt F .f32) : S4096.Idx → Elt F .f32 :=
  fun x => G (tileAt X ((x 0).val / 128)) ((x 0).val % 128 / 16) (ix1 ⟨(x 0).val % 128 % 16, Nat.mod_lt _ (by decide)⟩)

/-- The kernel's row sums and row maxima of a flat array. -/
def rowSums (X : S2097152.Idx → Elt F .f32) : S4096.Idx → Elt F .f32 := spread groupSum X
def rowMaxs (X : S2097152.Idx → Elt F .f32) : S4096.Idx → Elt F .f32 := spread groupMax X

/-- The rows of the tile at `i`. -/
def rowsOf (i : grid0.Coords) : Finset S4096.Idx := Finset.univ.filter fun x => (x 0).val / 128 = wid i

theorem off8_zero (i : grid0.Coords) : k0_off8 i 0 = 128 * wid i := by
  refine (congrFun (k0_off8_eq i) 0).trans ?_
  show 256 * (i 1).val + 128 * (i 0).val = _
  unfold wid; omega

section Out

variable (i : grid0.Coords)

/-- The copy out of a result buffer that holds its eight groups puts the tile's rows in place. -/
theorem rows_landed (G : (S16384.Idx → Elt F .f32) → ℕ → Vec F S16 .f32) (X : S2097152.Idx → Elt F .f32)
    (g : S128.Idx → Elt F .f32) (hg : Grouped 8 (G (tileOf X i)) g) (x : S4096.Idx) (hx : x ∈ rowsOf i)
    (v : S4096.Idx → Elt F .f32)
    (hv : ∀ y : S128.Idx, (x 0).val = k0_off8 i 0 + (y 0).val → v x = g y) :
    v x = spread G X x := by
  simp only [rowsOf, Finset.mem_filter, Finset.mem_univ, true_and] at hx
  have hl : (x 0).val % 128 < 128 := Nat.mod_lt _ (by decide)
  rw [hv (ix1 ⟨(x 0).val % 128, hl⟩) (by rw [off8_zero, ← hx]; exact (Nat.div_add_mod _ _).symm)]
  rw [hg _ (show (x 0).val % 128 / 16 < 8 by omega), tileOf_eq, ← hx]
  rfl

theorem rows_set : ∀ x : S4096.Idx, x ∈ (Rect.unit (s := S4096) (k0_off8 i) S128.size (k0_off8_inb i)).set → x ∈ rowsOf i := by
  intro x hx
  rw [Rect.mem_set_unit] at hx
  have h := hx 0
  rw [off8_zero] at h
  have h1 : 128 * wid i ≤ (x 0).val := h.1
  have h2 : (x 0).val < 128 * wid i + 128 := h.2
  simp only [rowsOf, Finset.mem_filter, Finset.mem_univ, true_and]
  omega

end Out

variable (d : Dev nD) (i : grid0.Coords)

/-! ## The loop -/

/-- What is held before trip `n`. -/
def inv (q : PosShare TreeShare) (X : S2097152.Idx → Elt F .f32) (O : CellTallies nD τ sig (HIx 1)) (W : Waits sig (HIx 1)) (n : ℕ) (_ : PUnit) : sProp 𝕄 :=
  iprop(Transfers.MayWaits (th d i) (none : HIx 1) O ∗ state d i q X n
    ∗ (∃ f, (th d i).loc cc0_scratch1 ↦{fullShare} f) ∗ (∃ f, (th d i).loc cc0_scratch2 ↦{fullShare} f)
    ∗ sumsPts d i n (groupSum (tileOf X i)) ∗ maxsPts d i n (groupMax (tileOf X i)) ∗ owed d i O W)

theorem wp_trip (q : PosShare TreeShare) (X : S2097152.Idx → Elt F .f32) (O : CellTallies nD τ sig (HIx 1)) (W : Waits sig (HIx 1))
    (w : BitVec 32) (t : Fin k0_t1_loop.trips) :
    inv d i q X O W t.val ⟨⟩ ⊢ runs d i (trip i w t ⟨⟩) (inv d i q X O W (t.val + 1)) := by
  unfold trip inv
  iintro ⟨#Hm, Hst, ⟨%f, Hs⟩, ⟨%g, Hx⟩, Ho, Hp, HO⟩
  iapply (wp_chunks d i w t q X O W) $$ [Hst HO]
  · isplitl [Hst]; · iexact Hst
    isplitr; · iexact Hm
    iexact HO
  iintro ⟨Hst, HO⟩
  ihave Hst' := (state_half d i q X t) $$ Hst
  icases Hst' with ⟨Hb, Hback⟩
  iapply (wp_rows d i t (tileOf X i)) $$ [Hb Hs Hx]
  · isplitl [Hb]; · iexact Hb
    unfold sscrPts mscrPts
    isplitl [Hs]
    · iexists f; isplitr
      · ipureintro; exact filled_zero _ _
      · iexact Hs
    · iexists g; isplitr
      · ipureintro; exact filled_zero _ _
      · iexact Hx
  iintro ⟨Hb, Hs, Hx⟩
  iapply ((wp_columns d i t (tileOf X i)).trans (wp_wand _ _ _)) $$ [Hs Hx Ho Hp]
  · isplitl [Hs]; · iexact Hs
    isplitl [Hx]; · iexact Hx
    isplitl [Ho] <;> iassumption
  iintro %_ ⟨Hs, Hx, Ho, Hp⟩
  isplitr; · iexact Hm
  isplitl [Hb Hback]; · iapply Hback; iexact Hb
  unfold sscrPts mscrPts
  icases Hs with ⟨%f', -, Hs⟩
  icases Hx with ⟨%g', -, Hx⟩
  isplitl [Hs]; · iexists f'; iexact Hs
  isplitl [Hx]; · iexists g'; iexact Hx
  isplitl [Ho]; · iexact Ho
  isplitl [Hp]; · iexact Hp
  iexact HO

/-! ## The subcore's own buffers and semaphores -/

/-- The buffers the kernel uses, among the subcore's own. -/
abbrev bufs : Finset (Ref sig .scVector) := {cc0_scratch0, cc0_scratch1, cc0_scratch2, cc0_scratch3, cc0_scratch4}
/-- The semaphores the kernel uses. -/
abbrev sems : Finset (SemLoc sig) := {.dma cc0_scratch5.sem, .dma cc0_scratch6.sem, .dma cc0_scoped0.sem, .dma cc0_scoped1.sem}

abbrev asDev : Ref sig .scVector ↪ DevRef τ sig := ⟨(th d i).2.devRef, Proc.devRef_injective _⟩
abbrev asCell : SemLoc sig ↪ GSem nD τ sig := ⟨fun s => (th d i, s), fun _ _ e => (Prod.mk.inj e).2⟩

omit [FloatOps F] in
theorem ownBufs_th : (ownBufs (th d i) : sProp 𝕄)
    = iprop(((∃ f, (th d i).loc cc0_scratch0 ↦{fullShare} f) ∗ (∃ f, (th d i).loc cc0_scratch1 ↦{fullShare} f) ∗ (∃ f, (th d i).loc cc0_scratch2 ↦{fullShare} f)
        ∗ (∃ f, (th d i).loc cc0_scratch3 ↦{fullShare} f) ∗ (∃ f, (th d i).loc cc0_scratch4 ↦{fullShare} f))
      ∗ bigSep (ownRefs (th d i).2 \ bufs.map (asDev d i)) fun b => iprop(∃ f, ((d, b) : Loc nD τ sig) ↦{fullShare} f)) := by
  have hs : bufs.map (asDev d i) ⊆ ownRefs (th d i).2 := by
    intro b hb
    obtain ⟨r, hr, rfl⟩ := Finset.mem_map.mp hb
    simp only [bufs, Finset.mem_insert, Finset.mem_singleton] at hr
    rcases hr with rfl | rfl | rfl | rfl | rfl <;> exact SparseCore.Cfg.mem_ownRefs_of_owner rfl
  unfold SparseCore.Cfg.ownBufs
  refine (bigSep_sdiff_split hs).trans (congrArg (fun p => iprop(p ∗ _)) ?_)
  rw [bigSep_map, SparseCore.bigSep_insert' (by decide), SparseCore.bigSep_insert' (by decide), SparseCore.bigSep_insert' (by decide),
    SparseCore.bigSep_insert' (by decide), bigSep_singleton]
  rfl

omit [FloatOps F] in
theorem ownSems0_th : (ownSems0 (th d i) : sProp 𝕄)
    = iprop((semVal (th d i, .dma cc0_scratch5.sem) 0 ∗ semVal (th d i, .dma cc0_scratch6.sem) 0 ∗ semVal (th d i, .dma cc0_scoped0.sem) 0 ∗ semVal (th d i, .dma cc0_scoped1.sem) 0)
      ∗ bigSep (ownCells (th d i) \ sems.map (asCell d i)) fun g => semVal g 0) := by
  have hs : sems.map (asCell d i) ⊆ ownCells (th d i) := by
    intro g hg
    obtain ⟨s, hs, rfl⟩ := Finset.mem_map.mp hg
    refine mem_ownCells.mpr ⟨rfl, ?_⟩
    exact (by decide : ∀ s ∈ sems, s.isScoped .scVector = true) s hs
  unfold SparseCore.Cfg.ownSems0
  refine (bigSep_sdiff_split hs).trans (congrArg (fun p => iprop(p ∗ _)) ?_)
  rw [bigSep_map, SparseCore.bigSep_insert' (by decide), SparseCore.bigSep_insert' (by decide), SparseCore.bigSep_insert' (by decide), bigSep_singleton]
  rfl

theorem slots : slot 0 ∪ slot 1 = Finset.univ := by
  ext x
  have : (x 0).val < 16384 := (x 0).isLt
  simp only [slot, Finset.mem_union, Finset.mem_filter, Finset.mem_univ, true_and, iff_true]
  omega

theorem slots_disjoint : Disjoint (slot 0) (slot 1) := by
  refine Finset.disjoint_left.mpr fun x h0 h1 => ?_
  simp only [slot, Finset.mem_filter, Finset.mem_univ, true_and] at h0 h1
  omega

/-- After the loop the buffer is whole again and its semaphores are at zero. -/
theorem state_end (q : PosShare TreeShare) (X : S2097152.Idx → Elt F .f32) :
    state d i q X k0_t1_loop.trips ⊢ iprop(((th d i).loc cc0_scratch0 ↦[slot 0 ∪ slot 1]{fullShare} tileOf X i)
      ∗ semVal (th d i, .dma cc0_scratch5.sem) 0 ∗ semVal (th d i, .dma cc0_scratch6.sem) 0) := by
  unfold state
  rw [if_neg (by decide), if_neg (by decide)]
  iintro ⟨Hb1, Hb0, Hc0, Hc1⟩
  isplitl [Hb0 Hb1]
  · iapply (pointsTo_union slots_disjoint).2
    isplitl [Hb0] <;> iassumption
  isplitl [Hc0] <;> iassumption

/-! ## The copies out -/

/-- What a copy of a result buffer counts on its semaphore. -/
abbrev outUnits : ℕ := sig.dmaCredit .scVector (Kind.scVector.table .hbm) (main_v1_0_scv : Ref sig .scVector).idx S128 .f32

theorem outUnits_pos : 0 < outUnits := sig.dmaCredit_pos _ _ _ _ _ (by decide +kernel)

omit [FloatOps F] in
theorem whole_pts (c : Thread nD τ) (b : Ref sig c.2.kind) (f : Buf (Elt F) (c.loc b)) :
    (c.loc b ↦{fullShare} f : sProp 𝕄) = ((Memref.whole b).view.loc c ↦[(Memref.whole b).view.set]{fullShare} f) := by
  simp only [Memref.view_whole, View.set_whole]

theorem sum_set : ((View.whole (main_v1_0_scv : Ref sig .scVector)).slice (Rect.unit (s := S4096) (k0_off8 i) S128.size (k0_off8_inb i))).set ⊆ rowsOf i := by
  intro x hx; rw [View.set_slice_whole] at hx; exact rows_set i x hx
theorem max_set : ((View.whole (main_v1_1_scv : Ref sig .scVector)).slice (Rect.unit (s := S4096) (k0_off8 i) S128.size (k0_off8_inb i))).set ⊆ rowsOf i := by
  intro x hx; rw [View.set_slice_whole] at hx; exact rows_set i x hx

theorem sum_landed (X : S2097152.Idx → Elt F .f32) (o : S4096.Idx → Elt F .f32) (g : S128.Idx → Elt F .f32)
    (hg : Grouped 8 (groupSum (tileOf X i)) g) (x : S4096.Idx) (hx : x ∈ rowsOf i) :
    ((View.whole (main_v1_0_scv : Ref sig .scVector)).slice (Rect.unit (s := S4096) (k0_off8 i) S128.size (k0_off8_inb i))).write (Elt F) o
      ((View.whole (cc0_scratch3 : Ref sig .scVector)).read (Elt F) g) Finset.univ x = rowSums X x :=
  rows_landed i groupSum X g hg x hx _ fun y e =>
    (write_in main_v1_0_scv _ _ (k0_off8_inb i) o _ x y fun | (0 : Fin 1) => e).trans (by rw [View.read_whole])
theorem max_landed (X : S2097152.Idx → Elt F .f32) (o : S4096.Idx → Elt F .f32) (g : S128.Idx → Elt F .f32)
    (hg : Grouped 8 (groupMax (tileOf X i)) g) (x : S4096.Idx) (hx : x ∈ rowsOf i) :
    ((View.whole (main_v1_1_scv : Ref sig .scVector)).slice (Rect.unit (s := S4096) (k0_off8 i) S128.size (k0_off8_inb i))).write (Elt F) o
      ((View.whole (cc0_scratch4 : Ref sig .scVector)).read (Elt F) g) Finset.univ x = rowMaxs X x :=
  rows_landed i groupMax X g hg x hx _ fun y e =>
    (write_in main_v1_1_scv _ _ (k0_off8_inb i) o _ x y fun | (0 : Fin 1) => e).trans (by rw [View.read_whole])

/-! ## The tile -/

/-- What a tile is handed: a share of the flat array, and its rows of both results. -/
abbrev given (q : PosShare TreeShare) (X : S2097152.Idx → Elt F .f32) : sProp 𝕄 :=
  iprop(((th d i).loc main_v0_scv ↦{q} X) ∗ (∃ f, (th d i).loc main_v1_0_scv ↦[rowsOf i]{fullShare} f) ∗ (∃ f, (th d i).loc main_v1_1_scv ↦[rowsOf i]{fullShare} f))

/-- What it hands back: its rows, computed. -/
abbrev computed (X : S2097152.Idx → Elt F .f32) : sProp 𝕄 :=
  iprop(((th d i).loc main_v1_0_scv ↦[rowsOf i]{fullShare} rowSums X) ∗ ((th d i).loc main_v1_1_scv ↦[rowsOf i]{fullShare} rowMaxs X))

theorem tile_body (hF : (K (F := F)).Facts) (q : PosShare TreeShare) (X : S2097152.Idx → Elt F .f32)
    (O : CellTallies nD τ sig (HIx 1)) (W : Waits sig (HIx 1)) (hO : ∀ g, O g none = 0) :
    iprop(levAts (K (F := F)).L (K (F := F)).lev ∗ emp ∗ given d i q X
        ∗ scopedBufs (th d i) ∗ scopedSems0 (th d i) ∗ owes (th d i) O W)
      ⊢ runs d i (cc0__sc_rowstats i xM (Memref.isWhole_whole _) sumM (Memref.isWhole_whole _) maxM (Memref.isWhole_whole _) bufM (Memref.isWhole_whole _)
            sscrM (Memref.isWhole_whole _) mscrM (Memref.isWhole_whole _) sumsM (Memref.isWhole_whole _) maxsM (Memref.isWhole_whole _)
            cc0_scratch5 cc0_scratch6 cc0_scoped0 cc0_scoped1)
          fun _ => iprop(computed d i X ∗ scopedBufs (th d i) ∗ scopedSems0 (th d i) ∗ owed d i O W) := by
  simp only [cc0__sc_rowstats_eq_skeleton]; unfold cc0__sc_rowstats_skel
  simp only [body_eq, Prog.lift, Prog.bind_op, Prog.bind_ret, Prog.pure_eq_ret]
  rw [(K (F := F)).scopedBufs_V hF d _ _, SparseCore.Cfg.scopedSems0_V (Val := Elt F) d _ _, ownSems0_th, ownBufs_th]
  iintro ⟨#Hlv, -, ⟨Hx, ⟨%o0, Ho⟩, ⟨%p0, Hp⟩⟩, ⟨⟨⟨%b0, Hb⟩, Hs, Ht, ⟨%s0, Hsums⟩, ⟨%t0, Hmaxs⟩⟩, Hbufs⟩, ⟨⟨Hc0, Hc1, Hr0, Hr1⟩, Hsems⟩, HO⟩
  ihave #Hm := ((K (F := F)).mayWaits_none (thr := th d i) hO) $$ Hlv
  ihave Hx' := (Transfers.pointsTo_toks_split q 1) $$ Hx
  icases Hx' with ⟨Hx0, Hx1⟩
  ihave Hx1' := (Entails.of_eq (bigSep_univ_of_subsingleton (0 : Fin 1))) $$ Hx1
  rw [← slots]
  ihave Hb' := (pointsTo_union slots_disjoint).1 $$ Hb
  icases Hb' with ⟨Hb0, Hb1⟩
  iapply (wp_issue d i 0 0 rfl inb_S16384_S8192_0 _ _ (off1_zero i) cc0_scratch5.sem _ X b0) $$ [Hx0 Hb0 Hc0]
  · isplitl [Hx0]; · iexact Hx0
    isplitl [Hb0] <;> iassumption
  iintro Hf
  unfold runs
  sl_for (inv d i (Transfers.shareTok q 1 0) X O W) $$ [Hx1' Hb1 Hc1 Hf Hs Ht Hsums Hmaxs HO]
  case region =>
    intro k _
    exact wp_trip d i (Transfers.shareTok q 1 0) X O W _ k
  · unfold inv
    isplitr; · iexact Hm
    isplitl [Hx1' Hb1 Hc1 Hf]
    · unfold state; rw [if_pos rfl]
      isplitl [Hf]; · iexact Hf
      isplitl [Hb1]; · iexists b0; iexact Hb1
      isplitl [Hc1] <;> iassumption
    isplitl [Hs]; · iexact Hs
    isplitl [Ht]; · iexact Ht
    unfold sumsPts maxsPts
    isplitl [Hsums]
    · iexists s0; isplitr
      · ipureintro; exact fun _ h => absurd h (Nat.not_lt_zero _)
      · iexact Hsums
    isplitl [Hmaxs]
    · iexists t0; isplitr
      · ipureintro; exact fun _ h => absurd h (Nat.not_lt_zero _)
      · iexact Hmaxs
    iexists W; isplitr
    · ipureintro; exact fun p hp => .inl hp
    · iexact HO
  iintro %_ HI
  unfold inv
  icases HI with ⟨-, Hst, Hs, Ht, Hsums, Hmaxs, HO⟩
  unfold sumsPts maxsPts
  icases Hsums with ⟨%g, %hg, Hsums⟩
  icases Hmaxs with ⟨%h, %hh, Hmaxs⟩
  -- the row sums out
  iapply (Transfers.wp_dmaLocal EC 𝒱₀ (th d i) none none outUnits
    (show (sumM.slice (Rect.unit (s := S4096) (k0_off8 i) S128.size (k0_off8_inb i)) (fun _ => rfl)).view.amount (.dma cc0_scoped0.sem) = outUnits from rfl)
    outUnits_pos (sum_set i)) $$ [Hsums Ho Hr0]
  · isplitl [Hsums]; · iapply (Entails.of_eq (whole_pts (th d i) cc0_scratch3 g)) $$ Hsums
    isplitl [Ho]; · iexact Ho
    iexact Hr0
  iintro Hf
  iapply (wp_land d i cc0_scoped0.sem outUnits
    (show (sumM.slice (Rect.unit (s := S4096) (k0_off8 i) S128.size (k0_off8_inb i)) (fun _ => rfl)).view.dmaCredit = outUnits from rfl) _ O W) $$ [Hf HO]
  · isplitl [Hf]; · iexact Hf
    isplitr; · iexact Hm
    iexact HO
  iintro ⟨⟨Ho, Hsums⟩, Hr0, HO⟩
  -- the row maxima out
  iapply (Transfers.wp_dmaLocal EC 𝒱₀ (th d i) none none outUnits
    (show (maxM.slice (Rect.unit (s := S4096) (k0_off8 i) S128.size (k0_off8_inb i)) (fun _ => rfl)).view.amount (.dma cc0_scoped1.sem) = outUnits from rfl)
    outUnits_pos (max_set i)) $$ [Hmaxs Hp Hr1]
  · isplitl [Hmaxs]; · iapply (Entails.of_eq (whole_pts (th d i) cc0_scratch4 h)) $$ Hmaxs
    isplitl [Hp]; · iexact Hp
    iexact Hr1
  iintro Hf
  iapply (wp_land d i cc0_scoped1.sem outUnits
    (show (maxM.slice (Rect.unit (s := S4096) (k0_off8 i) S128.size (k0_off8_inb i)) (fun _ => rfl)).view.dmaCredit = outUnits from rfl) _ O W) $$ [Hf HO]
  · isplitl [Hf]; · iexact Hf
    isplitr; · iexact Hm
    iexact HO
  iintro ⟨⟨Hp, Hmaxs⟩, Hr1, HO⟩
  unfold runs
  rw [wp_ret]; imodintro
  isplitl [Ho Hp]
  · isplitl [Ho]
    · iapply (Entails.of_eq (pointsTo_congr ?_)) $$ Ho
      intro x hx
      exact sum_landed i X o0 g hg x hx
    · iapply (Entails.of_eq (pointsTo_congr ?_)) $$ Hp
      intro x hx
      exact max_landed i X p0 h hh x hx
  ihave Hst' := (state_end d i (Transfers.shareTok q 1 0) X) $$ Hst
  icases Hst' with ⟨Hb, Hc0, Hc1⟩
  isplitl [Hb Hs Ht Hsums Hmaxs Hbufs]
  · isplitr [Hbufs]
    · isplitl [Hb]; · iexists (tileOf X i); iexact Hb
      isplitl [Hs]; · iexact Hs
      isplitl [Ht]; · iexact Ht
      isplitl [Hsums]; · iexists g; iapply (Entails.of_eq (whole_pts (th d i) cc0_scratch3 g).symm) $$ Hsums
      iexists h; iapply (Entails.of_eq (whole_pts (th d i) cc0_scratch4 h).symm) $$ Hmaxs
    · iexact Hbufs
  isplitr [HO]
  · isplitr [Hsems]
    · isplitl [Hc0]; · iexact Hc0
      isplitl [Hc1]; · iexact Hc1
      isplitl [Hr0] <;> iassumption
    · iexact Hsems
  iexact HO

end Cert.SplitIdeal.Tile
-- ==== Proof.SplitIdeal.First.lean ====
/- The TensorCore call over the first 12288 rows: its windows' blocks, what each of its two grid points leaves in
   the two running sums, and the two words it returns. -/
module

public import proofs.«01_k».proof.Proof.SplitIdeal.Steps
public import proofs.«01_k».proof.Proof.Gen.SplitIdeal.Points
public import Idealize.ShloMosaic.Lib.Pipeline.FrameBody
public import Idealize.ShloMosaic.Lib.Ring
public import Idealize.ShloMosaic.Lib.WordCmp
public import Idealize.ShloMosaic.Lib.ValueIdx

@[expose] public section

set_option maxRecDepth 16384

noncomputable section

namespace Cert.SplitIdeal.First

open Cert.SplitIdeal Cert.SplitIdeal.Gen
open Cert.SplitIdeal.Tile (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Dev nD → Valuation τ sig (Elt F))

/-! ## The blocks -/

/-- A window's block at a grid point, of its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The label's buffer holds the label at both points: it is fetched at the first and stays. -/
theorem label_before {c : Dev nD} (dat : Dat τ (Elt F) (HIx 1) ℕ UU ℕ cfg1 c) (hA : dat.A 0 = W c (Proc.devRef .tc (Pipeline.arrRef spec1 0)))
    (hafter : ∀ t, dat.after 0 t = blockAt W c 0 t) (t : Fin cfg1.N) (d) : dat.before 0 t d = blockAt W c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The rows' block is whole at both points, so a fetch fills its buffer. -/
theorem rows_size : ∀ t : Fin cfg1.N, ∀ a, (cfg1.win 1).xsize (cfg1.grid.coords t) a = (cfg1.win 1).size a := by decide +kernel

theorem rows_moved (t : Fin cfg1.N) (j : (cfg1.win 1).block.Idx) : (cfg1.win 1).moved (cfg1.grid.coords t) j = true :=
  ((cfg1.win 1).moved_iff _ j).mpr fun a => by rw [rows_size t a]; exact (j a).isLt

theorem rows_fill (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (rows_moved t j), dif_pos (rows_moved t j)]

/-- What the rows' buffer holds at a grid point. -/
def rowsAt (c : Dev nD) (t : Fin cfg1.N) : (cfg1.win 1).block.Idx → Elt F (cfg1.win 1).elt :=
  (cfg1.win 1).fill (cfg1.grid.coords t) (fun _ => Classical.choice inferInstance) (blockAt W c 1 t)

theorem rows_before {c : Dev nD} (dat : Dat τ (Elt F) (HIx 1) ℕ UU ℕ cfg1 c) (hA : dat.A 1 = W c (Proc.devRef .tc (Pipeline.arrRef spec1 1)))
    (hafter : ∀ t, dat.after 1 t = rowsAt W c t) (t : Fin cfg1.N) (d) : dat.before 1 t d = rowsAt W c t :=
  (dat.before_in_eq_fetched 1 rfl (fun _ => rfl)
      (fun t t' h => funext fun a => congrArg (fun n => Pipeline.Clip.of n ((cfg1.win 1).size a) (S16384x128.size a)) (congrFun h a))
      (fun t => by rw [hafter]; unfold rowsAt; rw [Pipeline.Window.cut_fill]; unfold Dat.blockOf blockAt; rw [hA]; try rfl) t d).trans
    (by unfold Dat.fetched rowsAt; rw [rows_fill t d]; unfold Dat.blockOf blockAt; rw [hA]; try rfl)

/-! ## The points -/

/-- The first point clears the sums; the last returns them. -/
abbrev isFirst (i : grid1.Coords) : Prop := (Scalar.cmpi .ne (Scalar.extui (Scalar.cmpi .eq (BitVec.ofNat 32 (i 0).val) 0#32)) 0#32) = 1#1
abbrev isLast (i : grid1.Coords) : Prop := k1_cond2 i = 1#1

theorem isFirst_iff : ∀ t : Fin cfg1.N, isFirst (grid1.coords t) ↔ t.val = 0 := by decide +kernel
theorem isLast_iff : ∀ t : Fin cfg1.N, isLast (grid1.coords t) ↔ t.val = 1 := by decide +kernel

theorem label_live : ∀ t : Fin cfg1.N, cfg1.idle 0 (grid1.coords t) = false := fun _ => rfl
theorem rows_live : ∀ t : Fin cfg1.N, cfg1.idle 1 (grid1.coords t) = false := fun _ => rfl
theorem out_idle : ∀ t : Fin cfg1.N, t.val = 0 → cfg1.idle 2 (grid1.coords t) = true := by decide +kernel
theorem out_kept : ∀ t : Fin cfg1.N, t.val = 0 → (cfg1.win 2).flush t = false := by decide +kernel
theorem out_live : ∀ t : Fin cfg1.N, t.val = 1 → cfg1.idle 2 (grid1.coords t) = false := by decide +kernel

abbrev mLab (t : Fin cfg1.N) : Memref sig .tc .smem S1 .i32 := win1_0.stage (cfg1.slots t 0)
abbrev hLab (t : Fin cfg1.N) : (mLab t).IsWhole := hstage1_0 ((cfg1.slots t 0).cast nbuf1_0)
abbrev mRows (t : Fin cfg1.N) : Memref sig .tc .vmem S6144x128 .f32 := win1_1.stage (cfg1.slots t 1)
abbrev hRows (t : Fin cfg1.N) : (mRows t).IsWhole := hstage1_1 ((cfg1.slots t 1).cast nbuf1_1)
abbrev mOut (t : Fin cfg1.N) : Memref sig .tc .smem S2 .f32 := win1_2.stage (cfg1.slots t 2)
abbrev hOut (t : Fin cfg1.N) : (mOut t).IsWhole := hstage1_2 ((cfg1.slots t 2).cast nbuf1_2)
abbrev mAcc : Memref sig .tc .smem S2 .f32 := Memref.whole cc1_scratch0

/-! ## The running sums -/

/-- Two words as the contents of a two-word array. -/
def pair (a b : F .f32) : Vec F S2 .f32 := fun i => if (i 0).val = 0 then a else b

theorem pair_zero (a b : F .f32) : pair a b (ValueIdx.ix1 0) = a := rfl
theorem pair_one (a b : F .f32) : pair a b (ValueIdx.ix1 1) = b := rfl

/-- Contents given by a store of word 1 after a store of word 0 are those two words. -/
theorem canon_pair (a b : F .f32) (L : List (View.Piece (Elt F) S2 .f32)) :
    View.canon ((⟨Rect.unit ![1] ![1] inb_S2_S1_1, fun _ => b⟩ : View.Piece (Elt F) S2 .f32)
      :: (⟨Rect.unit ![0] ![1] inb_S2_S1_0, fun _ => a⟩ : View.Piece (Elt F) S2 .f32) :: L) = pair a b := by
  funext y
  obtain ⟨k, rfl⟩ : ∃ k : Fin 2, y = ValueIdx.ix1 k := ⟨y 0, ValueIdx.eq_ix1 (y : (⟨1, ![2]⟩ : Shape).Idx)⟩
  have h1 : (ValueIdx.ix1 (1 : Fin 2) : S2.Idx) = (Rect.unit (s := S2) ![1] ![1] inb_S2_S1_1).emb (ValueIdx.ix1 0) := by
    funext a; match a with | ⟨0, _⟩ => exact Fin.ext rfl
  have h0 : (ValueIdx.ix1 (0 : Fin 2) : S2.Idx) = (Rect.unit (s := S2) ![0] ![1] inb_S2_S1_0).emb (ValueIdx.ix1 0) := by
    funext a; match a with | ⟨0, _⟩ => exact Fin.ext rfl
  have hn : (ValueIdx.ix1 (0 : Fin 2) : S2.Idx) ∉ (Rect.unit (s := S2) ![1] ![1] inb_S2_S1_1).set := fun h => by
    have := ((Rect.mem_set_unit ..).1 h 0).1
    exact absurd this (by decide)
  match k with
  | ⟨0, _⟩ =>
    rw [View.canon_cons_of_not_mem _ _ hn]
    exact (congrArg _ h0).trans (View.canon_cons_emb ..)
  | ⟨1, _⟩ => exact (congrArg _ h1).trans (View.canon_cons_emb ..)

/-- One step of the running sums. -/
def step (x0 : Vec F S1 .i32) (x1 : Vec F S6144x128 .f32) (xs : Vec F S2 .f32) : Vec F S2 .f32 :=
  pair (k1_pay2 (x0 (ValueIdx.ix1 0)) x1 (xs (ValueIdx.ix1 0))) (k1_pay3 (x0 (ValueIdx.ix1 0)) x1 (xs (ValueIdx.ix1 1)))

section
variable (c : Dev nD) (i : grid1.Coords) (arg1 : Memref sig .tc .smem S1 .i32) (harg1 : arg1.IsWhole)
  (arg2 : Memref sig .tc .vmem S6144x128 .f32) (harg2 : arg2.IsWhole) (arg3 : Memref sig .tc .smem S2 .f32) (harg3 : arg3.IsWhole)
  (arg4 : Memref sig .tc .smem S2 .f32) (harg4 : arg4.IsWhole)
  (x0 : Vec F S1 .i32) (x1 : Vec F S6144x128 .f32) (xs : Vec F S2 .f32)

theorem ld_label (x : S1.Idx) : View.readAt (Elt F) arg1.view (Rect.unit (s := S1) ![0] S1.size inb_S1_S1_0).toLoadRect (harg1.unread x0) x = x0 (ValueIdx.ix1 0) := by
  rw [View.readAt_eq_ld, harg1.read_unread]
  exact congrArg x0 (by funext a; match a with | ⟨0, _⟩ => exact Subsingleton.elim (α := Fin 1) _ _)

theorem ld_sum0 (x : S1.Idx) : View.readAt (Elt F) arg4.view (Rect.unit (s := S2) ![0] S1.size inb_S2_S1_0).toLoadRect (harg4.unread xs) x = xs (ValueIdx.ix1 0) := by
  have hx : (x 0).val = 0 := congrArg Fin.val (Subsingleton.elim (α := Fin 1) (x 0) 0)
  rw [View.readAt_eq_ld, harg4.read_unread]
  exact congrArg xs (by funext a; match a with | ⟨0, _⟩ => exact Fin.ext (by simp [ValueIdx.ix1, hx]))

theorem ld_sum1 (x : S1.Idx) : View.readAt (Elt F) arg4.view (Rect.unit (s := S2) ![1] S1.size inb_S2_S1_1).toLoadRect (harg4.unread xs) x = xs (ValueIdx.ix1 1) := by
  have hx : (x 0).val = 0 := congrArg Fin.val (Subsingleton.elim (α := Fin 1) (x 0) 0)
  rw [View.readAt_eq_ld, harg4.read_unread]
  exact congrArg xs (by funext a; match a with | ⟨0, _⟩ => exact Fin.ext (by simp [ValueIdx.ix1, hx]))

theorem ld_rows : View.readAt (Elt F) arg2.view (Rect.unit (s := S6144x128) ![0, 0] S6144x128.size inb_S6144x128_S6144x128_0_0).toLoadRect (harg2.unread x1) = x1 := by
  rw [View.readAt_eq_ld, harg2.read_unread]
  exact View.ld_unit_zero (S := S6144x128) (funext fun a => by fin_cases a <;> rfl) _ _

set_option maxHeartbeats 1000000 in
/-- The first point: the sums are cleared and the block's added. -/
def runFirst (h0 : isFirst i) (h1 : ¬isLast i) :
    { L : List (View.Piece (Elt F) S2 .f32) //
      ∀ (d : Vec F S2 .f32) (E : Set ℕ) (K : PUnit → sProp 𝕄),
        iprop(owns (c : Thread nD τ) arg1 fullShare x0 ∗ owns (c : Thread nD τ) arg2 fullShare x1 ∗ owns (c : Thread nD τ) arg3 fullShare d
            ∗ (∃ e, owns (c : Thread nD τ) arg4 fullShare e)
            ∗ (iprop(owns (c : Thread nD τ) arg1 fullShare x0 ∗ owns (c : Thread nD τ) arg2 fullShare x1 ∗ owns (c : Thread nD τ) arg3 fullShare d
                ∗ (∃ f, arg4.view.loc (c : Thread nD τ) ↦[arg4.view.set]{fullShare} arg4.view.writes (Elt F) f L)) -∗ K ⟨⟩))
          ⊢ wp frame (wpE (defs₀ (F := F)) Variants.none c none) E (cc1__tc_partial_kernel i arg1 harg1 arg2 harg2 arg3 harg3 arg4 harg4) K } := by
  refine ⟨?_, fun d E K => ?run⟩
  case run =>
    simp only [cc1__tc_partial_kernel_eq_skeleton]; unfold cc1__tc_partial_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; exact hf2
    iexists _; iexact HS0

theorem runFirst_cover (h0 : isFirst i) (h1 : ¬isLast i) (y : S2.Idx) :
    ∃ pc ∈ (runFirst c i arg1 harg1 arg2 harg2 arg3 harg3 arg4 harg4 x0 x1 h0 h1).1, y ∈ pc.1.set :=
  View.cover_of_tiledL (runFirst c i arg1 harg1 arg2 harg2 arg3 harg3 arg4 harg4 x0 x1 h0 h1).1 S1.size (by sl_kernel_rfl) y

theorem runFirst_canon (h0 : isFirst i) (h1 : ¬isLast i) :
    View.canon (runFirst c i arg1 harg1 arg2 harg2 arg3 harg3 arg4 harg4 x0 x1 h0 h1).1 = step x0 x1 (fun _ => FloatOps.ofBits .f32 0#32) := by
  unfold runFirst
  dsimp only
  sl_unfold_words
  rw [canon_pair, ld_label, ld_rows]
  rfl

set_option maxHeartbeats 1000000 in
/-- The last point: the block's sums are added and both returned. -/
def runLast (h0 : ¬isFirst i) (h1 : isLast i) :
    Σ' (L2 : List (View.Piece (Elt F) S2 .f32)), { L : List (View.Piece (Elt F) S2 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f L)) -∗ K ⟨⟩))
          ⊢ wp frame (wpE (defs₀ (F := F)) Variants.none c none) E (cc1__tc_partial_kernel i arg1 harg1 arg2 harg2 arg3 harg3 arg4 harg4) K } := by
  refine ⟨?_, ?_, fun E K => ?run⟩
  case run =>
    simp only [cc1__tc_partial_kernel_eq_skeleton]; unfold cc1__tc_partial_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact h0 | sl_exact h1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

theorem runLast_cover (h0 : ¬isFirst i) (h1 : isLast i) (y : S2.Idx) :
    ∃ pc ∈ (runLast c i arg1 harg1 arg2 harg2 arg3 harg3 arg4 harg4 x0 x1 xs h0 h1).2.1, y ∈ pc.1.set :=
  View.cover_of_tiledL (runLast c i arg1 harg1 arg2 harg2 arg3 harg3 arg4 harg4 x0 x1 xs h0 h1).2.1 S1.size (by sl_kernel_rfl) y

theorem runLast_outCover (h0 : ¬isFirst i) (h1 : isLast i) (y : S2.Idx) :
    ∃ pc ∈ (runLast c i arg1 harg1 arg2 harg2 arg3 harg3 arg4 harg4 x0 x1 xs h0 h1).1, y ∈ pc.1.set :=
  View.cover_of_tiledL (runLast c i arg1 harg1 arg2 harg2 arg3 harg3 arg4 harg4 x0 x1 xs h0 h1).1 S1.size (by sl_kernel_rfl) y

theorem runLast_canon (h0 : ¬isFirst i) (h1 : isLast i) :
    View.canon (runLast c i arg1 harg1 arg2 harg2 arg3 harg3 arg4 harg4 x0 x1 xs h0 h1).2.1 = step x0 x1 xs := by
  unfold runLast
  dsimp only
  sl_unfold_words
  rw [canon_pair, ld_label, ld_rows, ld_sum0, ld_sum1]
  rfl

theorem runLast_outCanon (h0 : ¬isFirst i) (h1 : isLast i) :
    View.canon (runLast c i arg1 harg1 arg2 harg2 arg3 harg3 arg4 harg4 x0 x1 xs h0 h1).1 = step x0 x1 xs := by
  unfold runLast
  dsimp only
  sl_unfold_words
  rw [canon_pair, ld_label, ld_rows, ld_sum0, ld_sum1]
  rfl

end

end Cert.SplitIdeal.First

end
-- ==== Proof.SplitIdeal.FirstCall.lean ====
/- The TensorCore call over the first 12288 rows as a pipeline: what its buffers hold point by point, and that the
   kernel's body keeps to it. -/
module

public import proofs.«01_k».proof.Proof.SplitIdeal.First
public import proofs.«01_k».proof.Proof.Gen.SplitIdeal.Launch

@[expose] public section

set_option maxRecDepth 16384

noncomputable section

namespace Cert.SplitIdeal.First

open Cert.SplitIdeal Cert.SplitIdeal.Gen
open Cert.SplitIdeal.Tile (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Dev nD → Valuation τ sig (Elt F))

/-! ## The sums, point by point -/

/-- The two sums after the first point, -/
def sumsA (c : Dev nD) : Vec F S2 .f32 := step (blockAt W c 0 t1_0) (rowsAt W c t1_0) (fun _ => FloatOps.ofBits .f32 0#32)
/-- and after the last. -/
def sumsB (c : Dev nD) : Vec F S2 .f32 := step (blockAt W c 0 t1_1) (rowsAt W c t1_1) (sumsA W c)

/-! ## The core's other scoped buffers -/

/-- A scoped buffer at anything. -/
abbrev some' (c : Dev nD) (b : Ref sig .tc) : sProp 𝕄 :=
  iprop(∃ f : Buf (Elt F) ((c : Thread nD τ).loc b), ((c : Thread nD τ).loc b) ↦{fullShare} f)

/-- What neither this call's windows nor its sums use, and the generator's register. -/
def side (c : Dev nD) : sProp 𝕄 :=
  iprop((some' c cc2_stg2_0 ∗ some' c cc2_stg3_0 ∗ some' c cc2_stg0_0 ∗ some' c cc2_stg1_0 ∗ some' c cc2_stg4_0) ∗ ∃ r, prngReg c r)

theorem scoped_in (c : Dev nD) :
    iprop(Pipeline.scopedRest (Ix := HIx 1) (Name := ℕ) (U := UU) (Lvl := ℕ) (Val := Elt F) spec1 c ∗ ∃ r, prngReg c r)
      ⊢ (iprop((∃ d, owns (c : Thread nD τ) mAcc fullShare d) ∗ side c) : sProp 𝕄) := by
  rw [scopedRest1_eq]; unfold side; simp only [owns_whole]
  iintro ⟨⟨H2, H3, HS, H0, H1, H4⟩, Hg⟩
  isplitl [HS]; · iexact HS
  isplitl [H2 H3 H0 H1 H4]
  · isplitl [H2]; · iexact H2
    isplitl [H3]; · iexact H3
    isplitl [H0]; · iexact H0
    isplitl [H1]; · iexact H1
    iexact H4
  iexact Hg

theorem scoped_out (c : Dev nD) :
    (iprop((∃ d, owns (c : Thread nD τ) mAcc fullShare d) ∗ side c) : sProp 𝕄)
      ⊢ iprop(Pipeline.scopedRest (Ix := HIx 1) (Name := ℕ) (U := UU) (Lvl := ℕ) (Val := Elt F) spec1 c ∗ ∃ r, prngReg c r) := by
  rw [scopedRest1_eq]; unfold side; simp only [owns_whole]
  iintro ⟨HS, ⟨H2, H3, H0, H1, H4⟩, Hg⟩
  isplitl [HS H2 H3 H0 H1 H4]
  · isplitl [H2]; · iexact H2
    isplitl [H3]; · iexact H3
    isplitl [HS]; · iexact HS
    isplitl [H0]; · iexact H0
    isplitl [H1]; · iexact H1
    iexact H4
  iexact Hg

/-! ## The pipeline's proof data -/

/-- What the sums' buffer holds before the point of a position. -/
def held (c : Dev nD) : ℕ → sProp 𝕄
  | 0 => iprop(∃ d, owns (c : Thread nD τ) mAcc fullShare d)
  | 1 => owns (c : Thread nD τ) mAcc fullShare (sumsA W c)
  | _ => owns (c : Thread nD τ) mAcc fullShare (sumsB W c)

def dat (c : Dev nD) : Dat τ (Elt F) (HIx 1) ℕ UU ℕ cfg1 c where
  A w := W c (Proc.devRef .tc (Pipeline.arrRef spec1 w))
  after w t := match w with
    | ⟨0, _⟩ => blockAt W c 0 t
    | ⟨1, _⟩ => rowsAt W c t
    | ⟨2, _⟩ => sumsB W c
  Φ t := iprop(held W c t.val ∗ side c)
  q _ := fullShare
  owed _ := 0

theorem dat_A (c : Dev nD) (w : Fin cfg1.W) : (dat W c).A w = W c (Proc.devRef .tc (Pipeline.arrRef spec1 w)) := rfl

theorem label_at (c : Dev nD) (t : Fin cfg1.N) (d) : (dat W c).before 0 t d = blockAt W c 0 t :=
  label_before W (dat W c) (dat_A W c 0) (fun _ => rfl) t d
theorem rows_at (c : Dev nD) (t : Fin cfg1.N) (d) : (dat W c).before 1 t d = rowsAt W c t :=
  rows_before W (dat W c) (dat_A W c 1) (fun _ => rfl) t d

/-! ## The body -/

def before (c : Dev nD) (t : Fin cfg1.N) : sProp 𝕄 :=
  iprop((dat W c).Φ t.castSucc ∗ (dat W c).owesAt none t.castSucc
    ∗ (∃ d, owns (c : Thread nD τ) (mLab t) fullShare ((dat W c).before 0 t d))
    ∗ (∃ d, owns (c : Thread nD τ) (mRows t) fullShare ((dat W c).before 1 t d))
    ∗ (∃ d, owns (c : Thread nD τ) (mOut t) fullShare ((dat W c).before 2 t d)))

def after (c : Dev nD) (t : Fin cfg1.N) : sProp 𝕄 :=
  iprop((dat W c).Φ t.succ ∗ (dat W c).owesAt none t.succ
    ∗ (dat W c).leavesExact 0 t ∗ (dat W c).leavesExact 1 t ∗ (dat W c).leavesExact 2 t)

set_option maxHeartbeats 4000000 in
theorem body_first (c : Dev nD) :
    before W c t1_0 ⊢ wp frame (wpE (defs₀ (F := F)) Variants.none c none) Set.univ (bodyAt1 t1_0) (fun _ => after W c t1_0) := by
  unfold before after bodyAt1
  simp only [label_at, rows_at]
  rw [show (dat W c).owesAt none t1_0.succ = (dat W c).owesAt none t1_0.castSucc from rfl,
    show (dat W c).Φ t1_0.castSucc = iprop((∃ d, owns (c : Thread nD τ) mAcc fullShare d) ∗ side c) from rfl,
    show (dat W c).Φ t1_0.succ = iprop(owns (c : Thread nD τ) mAcc fullShare (sumsA W c) ∗ side c) from rfl,
    show (dat W c).leavesExact 0 t1_0 = owns (c : Thread nD τ) (mLab t1_0) fullShare (blockAt W c 0 t1_0) from by
      unfold Dat.leavesExact; rw [label_live t1_0]; rfl,
    show (dat W c).leavesExact 1 t1_0 = owns (c : Thread nD τ) (mRows t1_0) fullShare (rowsAt W c t1_0) from by
      unfold Dat.leavesExact; rw [rows_live t1_0]; rfl,
    Dat.leavesExact_idle (dat W c) 2 t1_0 (out_idle t1_0 rfl) (out_kept t1_0 rfl)]
  have h0 := (isFirst_iff t1_0).mpr rfl
  have h1 : ¬isLast (grid1.coords t1_0) := fun h => absurd ((isLast_iff t1_0).mp h) (by decide)
  iintro ⟨⟨HS, Hg⟩, Ho, ⟨%d0, H0⟩, ⟨%d1, H1⟩, ⟨%d2, H2⟩⟩
  iapply ((runFirst c (grid1.coords t1_0) _ _ _ _ _ _ _ _ (blockAt W c 0 t1_0) (rowsAt W c t1_0) h0 h1).2 _ Set.univ _)
  isplitl [H0]; · iexact H0
  isplitl [H1]; · iexact H1
  isplitl [H2]; · iexact H2
  isplitl [HS]; · iexact HS
  iintro ⟨H0, H1, H2, ⟨%e, HS⟩⟩
  isplitl [HS Hg]
  · isplitl [HS]
    · unfold owns; iexists _; isplitr
      swap; · iexact HS
      ipureintro
      exact (View.read_writes_eq_canon _ _ _ (runFirst_cover c _ _ _ _ _ _ _ _ _ _ _ h0 h1)).trans (runFirst_canon c _ _ _ _ _ _ _ _ _ _ _ h0 h1)
    iexact Hg
  isplitl [Ho]; · iexact Ho
  isplitl [H0]; · iexact H0
  isplitl [H1]; · iexact H1
  iexists _; iexact H2

set_option maxHeartbeats 4000000 in
theorem body_last (c : Dev nD) :
    before W c t1_1 ⊢ wp frame (wpE (defs₀ (F := F)) Variants.none c none) Set.univ (bodyAt1 t1_1) (fun _ => after W c t1_1) := by
  unfold before after bodyAt1
  simp only [label_at, rows_at]
  rw [show (dat W c).owesAt none t1_1.succ = (dat W c).owesAt none t1_1.castSucc from rfl,
    show (dat W c).Φ t1_1.castSucc = iprop(owns (c : Thread nD τ) mAcc fullShare (sumsA W c) ∗ side c) from rfl,
    show (dat W c).Φ t1_1.succ = iprop(owns (c : Thread nD τ) mAcc fullShare (sumsB W c) ∗ side c) from rfl,
    show (dat W c).leavesExact 0 t1_1 = owns (c : Thread nD τ) (mLab t1_1) fullShare (blockAt W c 0 t1_1) from by
      unfold Dat.leavesExact; rw [label_live t1_1]; rfl,
    show (dat W c).leavesExact 1 t1_1 = owns (c : Thread nD τ) (mRows t1_1) fullShare (rowsAt W c t1_1) from by
      unfold Dat.leavesExact; rw [rows_live t1_1]; rfl,
    show (dat W c).leavesExact 2 t1_1 = owns (c : Thread nD τ) (mOut t1_1) fullShare (sumsB W c) from by
      unfold Dat.leavesExact; rw [out_live t1_1 rfl]; rfl]
  have h0 : ¬isFirst (grid1.coords t1_1) := fun h => absurd ((isFirst_iff t1_1).mp h) (by decide)
  have h1 := (isLast_iff t1_1).mpr rfl
  iintro ⟨⟨HS, Hg⟩, Ho, ⟨%d0, H0⟩, ⟨%d1, H1⟩, ⟨%d2, H2⟩⟩
  iapply ((runLast c (grid1.coords t1_1) _ _ _ _ _ _ _ _ (blockAt W c 0 t1_1) (rowsAt W c t1_1) (sumsA W c) h0 h1).2.2 Set.univ _)
  isplitl [H0]; · iexact H0
  isplitl [H1]; · iexact H1
  isplitl [H2]; · iexists _; iexact H2
  isplitl [HS]; · iexact HS
  iintro ⟨H0, H1, ⟨%e2, H2⟩, ⟨%e, HS⟩⟩
  isplitl [HS Hg]
  · isplitl [HS]
    · unfold owns; iexists _; isplitr
      swap; · iexact HS
      ipureintro
      exact (View.read_writes_eq_canon _ _ _ (runLast_cover c _ _ _ _ _ _ _ _ _ _ _ _ h0 h1)).trans (runLast_canon c _ _ _ _ _ _ _ _ _ _ _ _ h0 h1)
    iexact Hg
  isplitl [Ho]; · iexact Ho
  isplitl [H0]; · iexact H0
  isplitl [H1]; · iexact H1
  unfold owns; iexists _; isplitr
  swap; · iexact H2
  ipureintro
  exact (View.read_writes_eq_canon _ _ _ (runLast_outCover c _ _ _ _ _ _ _ _ _ _ _ _ h0 h1)).trans (runLast_outCanon c _ _ _ _ _ _ _ _ _ _ _ _ h0 h1)

theorem body_at (c : Dev nD) (t : Fin cfg1.N) :
    before W c t ⊢ wp frame (wpE (defs₀ (F := F)) Variants.none c none) Set.univ (bodyAt1 t) (fun _ => after W c t) := by
  rcases fin_N1 t with rfl | rfl
  · exact body_first W c
  · exact body_last W c

theorem body_row (t : Fin cfg1.N) : defs₀ (F := F) .tc cfg1.body (cfg1.bodyArgs t (cfg1.slots t)) = bodyAt1 t := rfl

theorem obligation (c : Dev nD) : BodyObligation (dat (F := F) W c) (defs₀ (F := F)) Variants.none none Set.univ := fun t => by
  rw [bigSep_W1, bigSep_W1, body_row]
  exact triple_restated (body_at W c t) rfl .rfl fun _ => .rfl

/-- What the call finds in its scoped buffers is what it starts from, -/
theorem start (c : Dev nD) :
    iprop(Pipeline.scopedRest (Ix := HIx 1) (Name := ℕ) (U := UU) (Lvl := ℕ) (Val := Elt F) spec1 c ∗ ∃ r, prngReg c r) ⊢ (dat W c).Φ 0 :=
  scoped_in c

/-- and it leaves them at something. -/
theorem finish (c : Dev nD) :
    (dat W c).Φ (Fin.last cfg1.N)
      ⊢ iprop(Pipeline.scopedRest (Ix := HIx 1) (Name := ℕ) (U := UU) (Lvl := ℕ) (Val := Elt F) spec1 c ∗ ∃ r, prngReg c r) := by
  refine BI.Entails.trans ?_ (scoped_out c)
  show iprop(owns (c : Thread nD τ) mAcc fullShare (sumsB W c) ∗ side c) ⊢ iprop((∃ d, owns (c : Thread nD τ) mAcc fullShare d) ∗ side c)
  iintro ⟨HS, Hg⟩
  isplitl [HS]
  · iexists _; iexact HS
  iexact Hg

/-! ## The two words it returns -/

theorem returned (c : Dev nD) : (dat W c).arrAt 2 cfg1.N = sumsB W c := by
  refine (dat W c).arrAt_eq_of_cover 2 (sumsB W c) (fun t hf => ?_) fun i => ?_
  · funext i
    rw [View.read_apply]
    show (Pipeline.Window.cut _ _ (sumsB W c)) i = _
    rcases fin_N1 t with rfl | rfl
    · exact absurd hf (by rw [out_kept t1_0 rfl]; decide)
    · unfold Pipeline.Window.cut
      congr 1
      funext a
      apply Fin.ext
      match a with
      | ⟨0, _⟩ => show (i 0).val = win1_2.index t1_1 0 * 2 + 1 * (i 0).val
                  rw [show win1_2.index t1_1 0 = 0 from by decide +kernel]; omega
  · refine ⟨t1_1, (flush1_2 t1_1).mpr (by decide), ?_⟩
    show i ∈ ((View.whole main_v2).slice (win1_2.rect t1_1)).set
    rw [View.set_slice_whole, Rect.mem_set_unit]
    intro a
    have h0 : (i 0 : Nat) < 2 := (i 0).isLt
    match a with
    | ⟨0, _⟩ => show win1_2.index t1_1 0 * win1_2.size 0 ≤ (i 0 : Nat) ∧ (i 0 : Nat) < win1_2.index t1_1 0 * win1_2.size 0 + win1_2.xsize (grid1.coords t1_1) 0
                rw [show win1_2.index t1_1 0 * win1_2.size 0 = 0 from by decide +kernel, show win1_2.xsize (grid1.coords t1_1) 0 = 2 from by decide +kernel]; omega

end Cert.SplitIdeal.First

end
-- ==== Proof.SplitIdeal.Second.lean ====
/- The TensorCore call that puts the sums together: its one point's run, its buffers, and the word it returns. -/
module

public import proofs.«01_k».proof.Proof.SplitIdeal.First
public import proofs.«01_k».proof.Proof.Gen.SplitIdeal.Launch

@[expose] public section

set_option maxRecDepth 16384

noncomputable section

namespace Cert.SplitIdeal.Second

open Cert.SplitIdeal Cert.SplitIdeal.Gen
open Cert.SplitIdeal.Tile (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Dev nD → Valuation τ sig (Elt F))

/-! ## The blocks: each window holds its whole array -/

def blockAt (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

section
variable {c : Dev nD} (dat : Dat τ (Elt F) (HIx 1) ℕ UU ℕ cfg2 c)

theorem before_0 (hA : dat.A 0 = W c (Proc.devRef .tc (Pipeline.arrRef spec2 0)))
    (hafter : ∀ t, dat.after 0 t = blockAt W c 0 t) (t : Fin cfg2.N) (d) : dat.before 0 t d = blockAt W c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_1 (hA : dat.A 1 = W c (Proc.devRef .tc (Pipeline.arrRef spec2 1)))
    (hafter : ∀ t, dat.after 1 t = blockAt W c 1 t) (t : Fin cfg2.N) (d) : dat.before 1 t d = blockAt W c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_2 (hA : dat.A 2 = W c (Proc.devRef .tc (Pipeline.arrRef spec2 2)))
    (hafter : ∀ t, dat.after 2 t = blockAt W c 2 t) (t : Fin cfg2.N) (d) : dat.before 2 t d = blockAt W c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_3 (hA : dat.A 3 = W c (Proc.devRef .tc (Pipeline.arrRef spec2 3)))
    (hafter : ∀ t, dat.after 3 t = blockAt W c 3 t) (t : Fin cfg2.N) (d) : dat.before 3 t d = blockAt W c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
end

theorem live : ∀ (w : Fin cfg2.W) (t : Fin cfg2.N), cfg2.idle w (grid2.coords t) = false := by decide +kernel

abbrev m0 (t : Fin cfg2.N) : Memref sig .tc .smem S1 .i32 := win2_0.stage (cfg2.slots t 0)
abbrev m1 (t : Fin cfg2.N) : Memref sig .tc .smem S2 .f32 := win2_1.stage (cfg2.slots t 1)
abbrev m2 (t : Fin cfg2.N) : Memref sig .tc .vmem S32x128 .f32 := win2_2.stage (cfg2.slots t 2)
abbrev m3 (t : Fin cfg2.N) : Memref sig .tc .vmem S32x128 .f32 := win2_3.stage (cfg2.slots t 3)
abbrev m4 (t : Fin cfg2.N) : Memref sig .tc .smem S1 .f32 := win2_4.stage (cfg2.slots t 4)

/-! ## The run -/

/-- The word the call returns, of what its input windows hold. -/
def word (x0 : Vec F S1 .i32) (x1 : Vec F S2 .f32) (x2 x3 : Vec F S32x128 .f32) : Vec F S1 .f32 :=
  fun _ => k2_pay1 (x0 (ValueIdx.ix1 0)) x2 x3 (x1 (ValueIdx.ix1 0)) (x1 (ValueIdx.ix1 1))

section
variable (c : Dev nD) (arg0 : Memref sig .tc .smem S1 .i32) (harg0 : arg0.IsWhole)
  (arg1 : Memref sig .tc .smem S2 .f32) (harg1 : arg1.IsWhole) (arg2 : Memref sig .tc .vmem S32x128 .f32) (harg2 : arg2.IsWhole)
  (arg3 : Memref sig .tc .vmem S32x128 .f32) (harg3 : arg3.IsWhole) (arg4 : Memref sig .tc .smem S1 .f32) (harg4 : arg4.IsWhole)
  (x0 : Vec F S1 .i32) (x1 : Vec F S2 .f32) (x2 x3 : Vec F S32x128 .f32)

theorem ld_lab (x : S1.Idx) : View.readAt (Elt F) arg0.view (Rect.unit (s := S1) ![0] S1.size inb_S1_S1_0).toLoadRect (harg0.unread x0) x = x0 (ValueIdx.ix1 0) := by
  rw [View.readAt_eq_ld, harg0.read_unread]
  exact congrArg x0 (by funext a; match a with | ⟨0, _⟩ => exact Subsingleton.elim (α := Fin 1) _ _)

theorem ld_cells (arg : Memref sig .tc .vmem S32x128 .f32) (harg : arg.IsWhole) (x : Vec F S32x128 .f32) :
    View.readAt (Elt F) arg.view (Rect.unit (s := S32x128) ![0, 0] S32x128.size inb_S32x128_S32x128_0_0).toLoadRect (harg.unread x) = x := by
  rw [View.readAt_eq_ld, harg.read_unread]
  exact View.ld_unit_zero (S := S32x128) (funext fun a => by fin_cases a <;> rfl) _ _

set_option maxHeartbeats 1000000 in
def run :
    { L : List (View.Piece (Elt F) S1 .f32) //
      ∀ (E : Set ℕ) (K : PUnit → sProp 𝕄),
        iprop(owns (c : Thread nD τ) arg0 fullShare x0 ∗ owns (c : Thread nD τ) arg1 fullShare x1 ∗ owns (c : Thread nD τ) arg2 fullShare x2
            ∗ owns (c : Thread nD τ) arg3 fullShare x3 ∗ (∃ e, owns (c : Thread nD τ) arg4 fullShare e)
            ∗ (iprop(owns (c : Thread nD τ) arg0 fullShare x0 ∗ owns (c : Thread nD τ) arg1 fullShare x1 ∗ owns (c : Thread nD τ) arg2 fullShare x2
                ∗ owns (c : Thread nD τ) arg3 fullShare x3
                ∗ (∃ f, arg4.view.loc (c : Thread nD τ) ↦[arg4.view.set]{fullShare} arg4.view.writes (Elt F) f L)) -∗ K ⟨⟩))
          ⊢ wp frame (wpE (defs₀ (F := F)) Variants.none c none) E (cc2__finish_kernel arg0 harg0 arg1 harg1 arg2 harg2 arg3 harg3 arg4 harg4) K } := by
  refine ⟨?_, fun E K => ?run⟩
  case run =>
    simp only [cc2__finish_kernel_eq_skeleton]; unfold cc2__finish_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    iexists _; iexact H4

theorem run_cover (y : S1.Idx) :
    ∃ pc ∈ (run c arg0 harg0 arg1 harg1 arg2 harg2 arg3 harg3 arg4 harg4 x0 x1 x2 x3).1, y ∈ pc.1.set :=
  View.cover_of_tiledL (run c arg0 harg0 arg1 harg1 arg2 harg2 arg3 harg3 arg4 harg4 x0 x1 x2 x3).1 S1.size (by sl_kernel_rfl) y

theorem run_canon :
    View.canon (run c arg0 harg0 arg1 harg1 arg2 harg2 arg3 harg3 arg4 harg4 x0 x1 x2 x3).1 = word x0 x1 x2 x3 := by
  unfold run
  dsimp only
  sl_unfold_words
  rw [View.canon_cons_unit_zero (funext fun a => by fin_cases a; rfl), ld_lab, ld_cells, ld_cells,
    First.ld_sum0 arg1 harg1 x1, First.ld_sum1 arg1 harg1 x1]
  rfl

end

/-! ## The pipeline's proof data -/

/-- A scoped buffer at anything. -/
abbrev some' (c : Dev nD) (b : Ref sig .tc) : sProp 𝕄 :=
  iprop(∃ f : Buf (Elt F) ((c : Thread nD τ).loc b), ((c : Thread nD τ).loc b) ↦{fullShare} f)

/-- The scoped buffers this call does not use, and the generator's register. -/
def side (c : Dev nD) : sProp 𝕄 :=
  iprop(Pipeline.scopedRest (Ix := HIx 1) (Name := ℕ) (U := UU) (Lvl := ℕ) (Val := Elt F) spec2 c ∗ ∃ r, prngReg c r)

/-- The word of the call's arrays. -/
def wordAt (c : Dev nD) (t : Fin cfg2.N) : Vec F S1 .f32 := word (blockAt W c 0 t) (blockAt W c 1 t) (blockAt W c 2 t) (blockAt W c 3 t)

def dat (c : Dev nD) : Dat τ (Elt F) (HIx 1) ℕ UU ℕ cfg2 c where
  A w := W c (Proc.devRef .tc (Pipeline.arrRef spec2 w))
  after w t := match w with
    | ⟨0, _⟩ => blockAt W c 0 t
    | ⟨1, _⟩ => blockAt W c 1 t
    | ⟨2, _⟩ => blockAt W c 2 t
    | ⟨3, _⟩ => blockAt W c 3 t
    | ⟨4, _⟩ => wordAt W c t
  Φ _ := side c
  q _ := fullShare
  owed _ := 0

theorem dat_A (c : Dev nD) (w : Fin cfg2.W) : (dat W c).A w = W c (Proc.devRef .tc (Pipeline.arrRef spec2 w)) := rfl

theorem at_0 (c : Dev nD) (t : Fin cfg2.N) (d) : (dat W c).before 0 t d = blockAt W c 0 t := before_0 W (dat W c) (dat_A W c 0) (fun _ => rfl) t d
theorem at_1 (c : Dev nD) (t : Fin cfg2.N) (d) : (dat W c).before 1 t d = blockAt W c 1 t := before_1 W (dat W c) (dat_A W c 1) (fun _ => rfl) t d
theorem at_2 (c : Dev nD) (t : Fin cfg2.N) (d) : (dat W c).before 2 t d = blockAt W c 2 t := before_2 W (dat W c) (dat_A W c 2) (fun _ => rfl) t d
theorem at_3 (c : Dev nD) (t : Fin cfg2.N) (d) : (dat W c).before 3 t d = blockAt W c 3 t := before_3 W (dat W c) (dat_A W c 3) (fun _ => rfl) t d

def before (c : Dev nD) (t : Fin cfg2.N) : sProp 𝕄 :=
  iprop((dat W c).Φ t.castSucc ∗ (dat W c).owesAt none t.castSucc
    ∗ (∃ d, owns (c : Thread nD τ) (m0 t) fullShare ((dat W c).before 0 t d))
    ∗ (∃ d, owns (c : Thread nD τ) (m1 t) fullShare ((dat W c).before 1 t d))
    ∗ (∃ d, owns (c : Thread nD τ) (m2 t) fullShare ((dat W c).before 2 t d))
    ∗ (∃ d, owns (c : Thread nD τ) (m3 t) fullShare ((dat W c).before 3 t d))
    ∗ (∃ d, owns (c : Thread nD τ) (m4 t) fullShare ((dat W c).before 4 t d)))

def after (c : Dev nD) (t : Fin cfg2.N) : sProp 𝕄 :=
  iprop((dat W c).Φ t.succ ∗ (dat W c).owesAt none t.succ
    ∗ (dat W c).leavesExact 0 t ∗ (dat W c).leavesExact 1 t ∗ (dat W c).leavesExact 2 t ∗ (dat W c).leavesExact 3 t ∗ (dat W c).leavesExact 4 t)

set_option maxHeartbeats 4000000 in
theorem body_at (c : Dev nD) (t : Fin cfg2.N) :
    before W c t ⊢ wp frame (wpE (defs₀ (F := F)) Variants.none c none) Set.univ (bodyAt2 t) (fun _ => after W c t) := by
  unfold before after bodyAt2
  simp only [at_0, at_1, at_2, at_3]
  rw [show (dat W c).owesAt none t.succ = (dat W c).owesAt none t.castSucc from rfl,
    show (dat W c).Φ t.castSucc = side c from rfl, show (dat W c).Φ t.succ = side c from rfl,
    show (dat W c).leavesExact 0 t = owns (c : Thread nD τ) (m0 t) fullShare (blockAt W c 0 t) from by
      unfold Dat.leavesExact; rw [live 0 t]; rfl,
    show (dat W c).leavesExact 1 t = owns (c : Thread nD τ) (m1 t) fullShare (blockAt W c 1 t) from by
      unfold Dat.leavesExact; rw [live 1 t]; rfl,
    show (dat W c).leavesExact 2 t = owns (c : Thread nD τ) (m2 t) fullShare (blockAt W c 2 t) from by
      unfold Dat.leavesExact; rw [live 2 t]; rfl,
    show (dat W c).leavesExact 3 t = owns (c : Thread nD τ) (m3 t) fullShare (blockAt W c 3 t) from by
      unfold Dat.leavesExact; rw [live 3 t]; rfl,
    show (dat W c).leavesExact 4 t = owns (c : Thread nD τ) (m4 t) fullShare (wordAt W c t) from by
      unfold Dat.leavesExact; rw [live 4 t]; rfl]
  iintro ⟨Hg, Ho, ⟨%d0, H0⟩, ⟨%d1, H1⟩, ⟨%d2, H2⟩, ⟨%d3, H3⟩, ⟨%d4, H4⟩⟩
  iapply ((run c _ _ _ _ _ _ _ _ _ _ (blockAt W c 0 t) (blockAt W c 1 t) (blockAt W c 2 t) (blockAt W c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e, H4⟩⟩
  isplitl [Hg]; · iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact (View.read_writes_eq_canon _ _ _ (run_cover c _ _ _ _ _ _ _ _ _ _ _ _ _ _)).trans (run_canon c _ _ _ _ _ _ _ _ _ _ _ _ _ _)

theorem body_row (t : Fin cfg2.N) : defs₀ (F := F) .tc cfg2.body (cfg2.bodyArgs t (cfg2.slots t)) = bodyAt2 t := rfl

theorem obligation (c : Dev nD) : BodyObligation (dat (F := F) W c) (defs₀ (F := F)) Variants.none none Set.univ := fun t => by
  rw [bigSep_W2, bigSep_W2, body_row]
  exact triple_restated (body_at W c t) rfl .rfl fun _ => .rfl

theorem start (c : Dev nD) :
    iprop(Pipeline.scopedRest (Ix := HIx 1) (Name := ℕ) (U := UU) (Lvl := ℕ) (Val := Elt F) spec2 c ∗ ∃ r, prngReg c r) ⊢ (dat W c).Φ 0 :=
  .rfl

theorem finish (c : Dev nD) :
    (dat W c).Φ (Fin.last cfg2.N)
      ⊢ iprop(Pipeline.scopedRest (Ix := HIx 1) (Name := ℕ) (U := UU) (Lvl := ℕ) (Val := Elt F) spec2 c ∗ ∃ r, prngReg c r) :=
  .rfl

/-! ## The word it returns -/

/-- A window's block starts at its array's first element. -/
theorem starts : ∀ (w : Fin cfg2.W) (t : Fin cfg2.N) (a : Fin (cfg2.win w).block.rank), (cfg2.win w).index t a = 0 := by
  decide +kernel

theorem block_0 (c : Dev nD) (t : Fin cfg2.N) : blockAt W c 0 t = W c main_arg1 := by
  unfold blockAt; funext i; rw [View.read_apply]
  exact congrArg (W c main_arg1) (funext fun a => Fin.ext (by
    show win2_0.index t a * win2_0.size a + 1 * (i a).val = (i a).val
    rw [show win2_0.index t a = 0 from starts 0 t a]; omega))
theorem block_1 (c : Dev nD) (t : Fin cfg2.N) : blockAt W c 1 t = W c main_v2 := by
  unfold blockAt; funext i; rw [View.read_apply]
  exact congrArg (W c main_v2) (funext fun a => Fin.ext (by
    show win2_1.index t a * win2_1.size a + 1 * (i a).val = (i a).val
    rw [show win2_1.index t a = 0 from starts 1 t a]; omega))
theorem block_2 (c : Dev nD) (t : Fin cfg2.N) : blockAt W c 2 t = W c main_v3 := by
  unfold blockAt; funext i; rw [View.read_apply]
  exact congrArg (W c main_v3) (funext fun a => Fin.ext (by
    show win2_2.index t a * win2_2.size a + 1 * (i a).val = (i a).val
    rw [show win2_2.index t a = 0 from starts 2 t a]; omega))
theorem block_3 (c : Dev nD) (t : Fin cfg2.N) : blockAt W c 3 t = W c main_v4 := by
  unfold blockAt; funext i; rw [View.read_apply]
  exact congrArg (W c main_v4) (funext fun a => Fin.ext (by
    show win2_3.index t a * win2_3.size a + 1 * (i a).val = (i a).val
    rw [show win2_3.index t a = 0 from starts 3 t a]; omega))

theorem returned (c : Dev nD) : (dat W c).arrAt 4 cfg2.N = word (W c main_arg1) (W c main_v2) (W c main_v3) (W c main_v4) := by
  refine (dat W c).arrAt_eq_of_cover 4 _ (fun t hf => ?_) fun i => ?_
  · funext i
    rw [View.read_apply]
    show (Pipeline.Window.cut _ _ (wordAt W c t)) i = _
    unfold Pipeline.Window.cut wordAt
    rw [block_0, block_1, block_2, block_3]
    rfl
  · refine ⟨t2_0, flush2_4 _, ?_⟩
    show i ∈ ((View.whole main_v5).slice (win2_4.rect t2_0)).set
    rw [View.set_slice_whole, Rect.mem_set_unit]
    intro a
    have h0 : (i 0 : Nat) < 1 := (i 0).isLt
    match a with
    | ⟨0, _⟩ => show win2_4.index t2_0 0 * 1 ≤ (i 0 : Nat) ∧ (i 0 : Nat) < win2_4.index t2_0 0 * 1 + 1
                rw [show win2_4.index t2_0 0 = 0 from starts 4 t2_0 0]; omega

end Cert.SplitIdeal.Second

end
-- ==== Proof.SplitIdeal.Regions.lean ====
/- The two TensorCore calls as steps of the program: each takes what is held of the core's arrays to what its
   pipeline leaves in them. -/
module

public import proofs.«01_k».proof.Proof.SplitIdeal.Body
public import proofs.«01_k».proof.Proof.SplitIdeal.FirstCall
public import proofs.«01_k».proof.Proof.SplitIdeal.Second
public import Idealize.ShloMosaic.Lib.Pipeline.RegionArraysS

@[expose] public section

noncomputable section

namespace Cert.SplitIdeal.Tile

open Cert.SplitIdeal Cert.SplitIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic
open Idealize.ShloMosaic.Pipeline (Dat RegionSeg LevelCut afterRegion)

variable {F : FTy → Type} [FloatOps F]

local notation "𝕄" => MT nD τ sig (HIx 1) (Elt F) ℕ UU ℕ

/-! ## The pipelines -/

abbrev D : Defs nD τ sig (Elt F) (ΛP (F := F)) := Pipeline.defs pcfgs defs₀
abbrev 𝒱 : Variants := 𝒱₀.lift

/-- The pipelines' rounds. -/
def EP : Emb UP (MT nD τ sig (HIx 1) (Elt F) ℕ UU ℕ) := (Emb.inl : Emb UP (UP × Counters)).trans embR

instance EP_landsIn : (EP (F := F) : Emb UP 𝕄).LandsIn (upEmb : UEmb _ 𝕄) := by unfold EP; infer_instance

abbrev adm (p : Fin 2) : (pcfgs (F := F) p).Adm := (cfgs p).toPCfg_adm

abbrev pins : Fin 2 → Pipeline.Cfg sig Λ₀ := Pipeline.pin (pcfgs (F := F)) adm

def pdats (W : Dev nD → Valuation τ sig (Elt F)) : (p : Fin 2) → (c : Dev nD) → Dat τ (Elt F) (HIx 1) ℕ UU ℕ (Pipeline.pin (pcfgs (F := F)) adm p) c
  | 0 => fun c => First.dat W c
  | 1 => fun c => Second.dat W c

abbrev arg0' : DevRef τ sig := Proc.devRef .tc (main_arg0 : Ref sig .tc)
abbrev arg1' : DevRef τ sig := Proc.devRef .tc (main_arg1 : Ref sig .tc)
abbrev flat' : DevRef τ sig := Proc.devRef .tc (main_v0 : Ref sig .tc)
abbrev sum' : DevRef τ sig := Proc.devRef .tc (main_v1_0 : Ref sig .tc)
abbrev max' : DevRef τ sig := Proc.devRef .tc (main_v1_1 : Ref sig .tc)
abbrev part' : DevRef τ sig := Proc.devRef .tc (main_v2 : Ref sig .tc)
abbrev sums' : DevRef τ sig := Proc.devRef .tc (main_v3 : Ref sig .tc)
abbrev maxs' : DevRef τ sig := Proc.devRef .tc (main_v4 : Ref sig .tc)
abbrev word' : DevRef τ sig := Proc.devRef .tc (main_v5 : Ref sig .tc)
abbrev loss' : DevRef τ sig := Proc.devRef .tc (main_v6 : Ref sig .tc)

/-- The arrays that the SparseCore's call does not touch, -/
abbrev rest : Finset (DevRef τ sig) := {arg0', arg1', part', sums', maxs', word', loss'}
/-- and those that are held from that call on. -/
abbrev keep : Finset (DevRef τ sig) := insert sum' (insert max' rest)

theorem cut (p : Fin 2) :
    LevelCut (pcfgs (F := F)) adm none (K (F := F)).L (K (F := F)).lev p (fun _ : Dev nD => 0) (fun _ => 0) where
  hι _ _ _ := Finset.mem_univ _
  hιb _ _ _ := le_refl _
  hD _ _ _ h := absurd h (lt_irrefl 0)

def firstSeg (W : Dev nD → Valuation τ sig (Elt F)) :
    RegionSeg (pcfgs (F := F)) adm (pdats W) none defs₀ 𝒱₀ (K (F := F)).L (K (F := F)).lev 0 :=
  RegionSeg.ofHeldIn pcfgs adm (pdats W) none defs₀ 𝒱₀ (K (F := F)).L (K (F := F)).lev 0 (fun _ => 0) keep
    (fun c => iprop(∃ r, prngReg c r)) (fun c => iprop(∃ r, prngReg c r)) launch1.toP rfl
    (fun c => (First.obligation W c).loose) (fun _ _ => rfl) (fun _ => rfl) (fun c => (First.dat W c).share_full fun _ => rfl)
    (First.start W) (First.finish W) (fun _ => 0) (cut 0) (fun _ => iprop(emp)) W (fun _ _ => rfl)

def secondSeg (W : Dev nD → Valuation τ sig (Elt F)) :
    RegionSeg (pcfgs (F := F)) adm (pdats W) none defs₀ 𝒱₀ (K (F := F)).L (K (F := F)).lev 1 :=
  RegionSeg.ofHeldIn pcfgs adm (pdats W) none defs₀ 𝒱₀ (K (F := F)).L (K (F := F)).lev 1 (fun _ => 0) keep
    (fun c => iprop(∃ r, prngReg c r)) (fun c => iprop(∃ r, prngReg c r)) launch2.toP rfl
    (fun c => (Second.obligation W c).loose) (fun _ _ => rfl) (fun _ => rfl) (fun c => (Second.dat W c).share_full fun _ => rfl)
    (Second.start W) (Second.finish W) (fun _ => 0) (cut 1) (fun _ => iprop(emp)) W (fun _ _ => rfl)

/-- What a TensorCore call takes and gives back of the core: its arrays, that it owes nothing, and the generator's register. -/
def core (d : Dev nD) (V : Valuation τ sig (Elt F)) : sProp 𝕄 :=
  iprop(held (T d) keep V ∗ (∃ Wd, owes (T d) 0 Wd) ∗ ∃ r, prngReg d r)

/-- A pipeline's ghost state as the launch funds it. -/
def ghost (p : Fin 2) (d : Dev nD) : sProp 𝕄 :=
  iprop(Pipeline.cellsGhost (pins (F := F)) EP p d ∗ Pipeline.toksInit (pins (F := F)) EP p d)

/-! ## The calls -/

theorem first_arrays : Pipeline.arrRefs (pcfgs (F := F) 0).spec ⊆ keep := show Pipeline.arrRefs spec1 ⊆ keep by decide

theorem first_pre (W : Dev nD → Valuation τ sig (Elt F)) (d : Dev nD) : core d (W d) ⊢ ((firstSeg W).pre d : sProp 𝕄) := by
  refine BI.Entails.trans ?_ (RegionSeg.ofHeldIn_pre (p := 0) first_arrays d)
  show iprop(held (T d) keep (W d) ∗ (∃ Wd, owes (T d) 0 Wd) ∗ ∃ r, prngReg d r)
    ⊢ iprop(held (T d) keep (W d) ∗ (∃ Wd, owes (T d) 0 Wd) ∗ (∃ r, prngReg d r) ∗ emp)
  iintro ⟨Hh, HO, Hr⟩
  isplitl [Hh]; · iexact Hh
  isplitl [HO]; · iexact HO
  isplitl [Hr]; · iexact Hr
  iempintro

theorem first_post (W : Dev nD → Valuation τ sig (Elt F)) (d : Dev nD) :
    ((firstSeg W).post d : sProp 𝕄) ⊢ core d (afterRegion (First.dat W d) (W d)) := by
  refine BI.Entails.trans (RegionSeg.ofHeldIn_post (p := 0) first_arrays d) ?_
  show iprop(held (T d) keep (afterRegion (First.dat W d) (W d)) ∗ (∃ Wd, owes (T d) 0 Wd) ∗ (∃ r, prngReg d r) ∗ emp)
    ⊢ iprop(held (T d) keep (afterRegion (First.dat W d) (W d)) ∗ (∃ Wd, owes (T d) 0 Wd) ∗ ∃ r, prngReg d r)
  iintro ⟨Hh, HO, Hr, -⟩
  isplitl [Hh]; · iexact Hh
  isplitl [HO]; · iexact HO
  iexact Hr

theorem first_seg [∀ e, Nonempty (Elt F e)] (W : Dev nD → Valuation τ sig (Elt F)) (d : Dev nD) (Q : PUnit.{1} → sProp 𝕄) :
    iprop((iprop(boundary (T d) ∗ (firstSeg W).post d) -∗ wp frame (wpE (D (F := F)) 𝒱 (T d) none) Set.univ (.ret ⟨⟩) Q)
      ∗ boundary (T d) ∗ (firstSeg W).pre d ∗ levAts (K (F := F)).L (K (F := F)).lev
      ∗ Pipeline.cellsGhost (pins (F := F)) EP 0 d ∗ Pipeline.toksInit (pins (F := F)) EP 0 d)
      ⊢ wp frame (wpE (D (F := F)) 𝒱 (T d) none) Set.univ (Prog.lift (.customCall (Pipeline.entry 0) ())) Q := by
  have h := RegionSeg.wp pcfgs adm (pdats W) none cellOf_inj EP defs₀ 𝒱₀ (K (F := F)).L (K (F := F)).lev (firstSeg W) d none
    (fun _ h => by cases h) .ret Q
  exact h

theorem wp_first [∀ e, Nonempty (Elt F e)] (W : Dev nD → Valuation τ sig (Elt F)) (d : Dev nD) (Q : PUnit.{1} → sProp 𝕄) :
    iprop((iprop(boundary (T d) ∗ core d (afterRegion (First.dat W d) (W d))) -∗ Q ⟨⟩)
        ∗ boundary (T d) ∗ core d (W d) ∗ levAts (K (F := F)).L (K (F := F)).lev ∗ ghost 0 d)
      ⊢ wp frame (wpE ((K (F := F)).defs (D (F := F))) 𝒱 (T d) none) Set.univ
          (Prog.lift (.customCall (SparseCore.inner (Pipeline.entry 0)) ())) Q := by
  have h := (K (F := F)).wp_liftProg (D (F := F)) 𝒱 (T d) Set.univ none (Prog.lift (.customCall (Pipeline.entry 0) ())) Q
  refine BI.Entails.trans ?_ h
  refine BI.Entails.trans ?_ (first_seg W d Q)
  unfold ghost
  simp only [wp_ret]
  show iprop((iprop(boundary (T d) ∗ core d (afterRegion (First.dat W d) (W d))) -∗ Q ⟨⟩)
      ∗ boundary (T d) ∗ core d (W d) ∗ levAts (K (F := F)).L (K (F := F)).lev
      ∗ Pipeline.cellsGhost (pins (F := F)) EP 0 d ∗ Pipeline.toksInit (pins (F := F)) EP 0 d)
    ⊢ iprop((iprop(boundary (T d) ∗ (firstSeg W).post d) -∗ |={Set.univ}=> Q ⟨⟩)
      ∗ boundary (T d) ∗ (firstSeg W).pre d ∗ levAts (K (F := F)).L (K (F := F)).lev
      ∗ Pipeline.cellsGhost (pins (F := F)) EP 0 d ∗ Pipeline.toksInit (pins (F := F)) EP 0 d)
  iintro ⟨Hk, Hb, Hc, Hl, Hg, Ht⟩
  isplitl [Hk]
  · iintro ⟨Hb, Hp⟩
    imodintro
    iapply Hk
    isplitl [Hb]; · iexact Hb
    iapply (first_post W d)
    iexact Hp
  isplitl [Hb]; · iexact Hb
  isplitl [Hc]
  · iapply (first_pre W d)
    iexact Hc
  isplitl [Hl]; · iexact Hl
  isplitl [Hg]; · iexact Hg
  iexact Ht

theorem second_arrays : Pipeline.arrRefs (pcfgs (F := F) 1).spec ⊆ keep := show Pipeline.arrRefs spec2 ⊆ keep by decide

theorem second_pre (W : Dev nD → Valuation τ sig (Elt F)) (d : Dev nD) : core d (W d) ⊢ ((secondSeg W).pre d : sProp 𝕄) := by
  refine BI.Entails.trans ?_ (RegionSeg.ofHeldIn_pre (p := 1) second_arrays d)
  show iprop(held (T d) keep (W d) ∗ (∃ Wd, owes (T d) 0 Wd) ∗ ∃ r, prngReg d r)
    ⊢ iprop(held (T d) keep (W d) ∗ (∃ Wd, owes (T d) 0 Wd) ∗ (∃ r, prngReg d r) ∗ emp)
  iintro ⟨Hh, HO, Hr⟩
  isplitl [Hh]; · iexact Hh
  isplitl [HO]; · iexact HO
  isplitl [Hr]; · iexact Hr
  iempintro

theorem second_post (W : Dev nD → Valuation τ sig (Elt F)) (d : Dev nD) :
    ((secondSeg W).post d : sProp 𝕄) ⊢ core d (afterRegion (Second.dat W d) (W d)) := by
  refine BI.Entails.trans (RegionSeg.ofHeldIn_post (p := 1) second_arrays d) ?_
  show iprop(held (T d) keep (afterRegion (Second.dat W d) (W d)) ∗ (∃ Wd, owes (T d) 0 Wd) ∗ (∃ r, prngReg d r) ∗ emp)
    ⊢ iprop(held (T d) keep (afterRegion (Second.dat W d) (W d)) ∗ (∃ Wd, owes (T d) 0 Wd) ∗ ∃ r, prngReg d r)
  iintro ⟨Hh, HO, Hr, -⟩
  isplitl [Hh]; · iexact Hh
  isplitl [HO]; · iexact HO
  iexact Hr

theorem second_seg [∀ e, Nonempty (Elt F e)] (W : Dev nD → Valuation τ sig (Elt F)) (d : Dev nD) (Q : PUnit.{1} → sProp 𝕄) :
    iprop((iprop(boundary (T d) ∗ (secondSeg W).post d) -∗ wp frame (wpE (D (F := F)) 𝒱 (T d) none) Set.univ (.ret ⟨⟩) Q)
      ∗ boundary (T d) ∗ (secondSeg W).pre d ∗ levAts (K (F := F)).L (K (F := F)).lev
      ∗ Pipeline.cellsGhost (pins (F := F)) EP 1 d ∗ Pipeline.toksInit (pins (F := F)) EP 1 d)
      ⊢ wp frame (wpE (D (F := F)) 𝒱 (T d) none) Set.univ (Prog.lift (.customCall (Pipeline.entry 1) ())) Q := by
  have h := RegionSeg.wp pcfgs adm (pdats W) none cellOf_inj EP defs₀ 𝒱₀ (K (F := F)).L (K (F := F)).lev (secondSeg W) d none
    (fun _ h => by cases h) .ret Q
  exact h

theorem wp_second [∀ e, Nonempty (Elt F e)] (W : Dev nD → Valuation τ sig (Elt F)) (d : Dev nD) (Q : PUnit.{1} → sProp 𝕄) :
    iprop((iprop(boundary (T d) ∗ core d (afterRegion (Second.dat W d) (W d))) -∗ Q ⟨⟩)
        ∗ boundary (T d) ∗ core d (W d) ∗ levAts (K (F := F)).L (K (F := F)).lev ∗ ghost 1 d)
      ⊢ wp frame (wpE ((K (F := F)).defs (D (F := F))) 𝒱 (T d) none) Set.univ
          (Prog.lift (.customCall (SparseCore.inner (Pipeline.entry 1)) ())) Q := by
  have h := (K (F := F)).wp_liftProg (D (F := F)) 𝒱 (T d) Set.univ none (Prog.lift (.customCall (Pipeline.entry 1) ())) Q
  refine BI.Entails.trans ?_ h
  refine BI.Entails.trans ?_ (second_seg W d Q)
  unfold ghost
  simp only [wp_ret]
  show iprop((iprop(boundary (T d) ∗ core d (afterRegion (Second.dat W d) (W d))) -∗ Q ⟨⟩)
      ∗ boundary (T d) ∗ core d (W d) ∗ levAts (K (F := F)).L (K (F := F)).lev
      ∗ Pipeline.cellsGhost (pins (F := F)) EP 1 d ∗ Pipeline.toksInit (pins (F := F)) EP 1 d)
    ⊢ iprop((iprop(boundary (T d) ∗ (secondSeg W).post d) -∗ |={Set.univ}=> Q ⟨⟩)
      ∗ boundary (T d) ∗ (secondSeg W).pre d ∗ levAts (K (F := F)).L (K (F := F)).lev
      ∗ Pipeline.cellsGhost (pins (F := F)) EP 1 d ∗ Pipeline.toksInit (pins (F := F)) EP 1 d)
  iintro ⟨Hk, Hb, Hc, Hl, Hg, Ht⟩
  isplitl [Hk]
  · iintro ⟨Hb, Hp⟩
    imodintro
    iapply Hk
    isplitl [Hb]; · iexact Hb
    iapply (second_post W d)
    iexact Hp
  isplitl [Hb]; · iexact Hb
  isplitl [Hc]
  · iapply (second_pre W d)
    iexact Hc
  isplitl [Hl]; · iexact Hl
  isplitl [Hg]; · iexact Hg
  iexact Ht

end Cert.SplitIdeal.Tile

end
-- ==== Proof.SplitIdeal.Launch.lean ====
/- The whole program: the flat array is made from the first argument, its read shares and the SparseCore's two results
   are dealt out to the thirty-two tiles and the results come back whole; then the two TensorCore calls, with the
   host's reshapes around them. -/
module

public import proofs.«01_k».proof.Proof.SplitIdeal.Regions

@[expose] public section

noncomputable section

namespace Cert.SplitIdeal.Tile

open Cert.SplitIdeal Cert.SplitIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic
open Idealize.ShloMosaic.Pipeline (afterRegion)

variable {F : FTy → Type} [FloatOps F]

local notation "𝕄" => MT nD τ sig (HIx 1) (Elt F) ℕ UU ℕ

/-! ## The tiles, numbered -/

/-- The tile on subcore `s` of SparseCore `c`. -/
def tile (c s : ℕ) : grid0.Coords
  | 0 => ⟨c % 2, Nat.mod_lt _ (by decide)⟩
  | 1 => ⟨s % 16, Nat.mod_lt _ (by decide)⟩
  | ⟨_ + 2, h⟩ => absurd h (Nat.not_lt.2 (Nat.le_add_left _ _))

def coords (c : Fin (grid0.bound 0)) (s : Fin (grid0.bound 1)) : grid0.Coords
  | 0 => c
  | 1 => s
  | ⟨_ + 2, h⟩ => absurd h (Nat.not_lt.2 (Nat.le_add_left _ _))

theorem tile_eq (c : Fin (grid0.bound 0)) (s : Fin (grid0.bound 1)) : tile c.val s.val = coords c s := by
  funext a
  match a with
  | 0 => exact Fin.ext (Nat.mod_eq_of_lt c.isLt)
  | 1 => exact Fin.ext (Nat.mod_eq_of_lt s.isLt)

theorem wid_tile (c : Fin 2) (s : Fin 16) : wid (tile c.val s.val) = 2 * s.val + c.val := by
  show 2 * (s.val % 16) + c.val % 2 = _
  rw [Nat.mod_eq_of_lt s.isLt, Nat.mod_eq_of_lt c.isLt]

/-- No row has two tiles, -/
theorem rows_disjoint (p p' : Fin 2 × Fin 16) (h : p ≠ p') :
    Disjoint (rowsOf (tile p.1.val p.2.val)) (rowsOf (tile p'.1.val p'.2.val)) := by
  rw [Finset.disjoint_left]
  intro x hx hx'
  simp only [rowsOf, Finset.mem_filter, Finset.mem_univ, true_and, wid_tile] at hx hx'
  refine h (Prod.ext (Fin.ext ?_) (Fin.ext ?_)) <;> omega

/-- and every row has one. -/
theorem rows_cover : (Finset.univ : Finset (Fin 2 × Fin 16)).biUnion (fun p => rowsOf (tile p.1.val p.2.val)) = Finset.univ := by
  refine Finset.eq_univ_of_forall fun x => Finset.mem_biUnion.mpr ?_
  have hx : (x 0).val < 4096 := (x 0).isLt
  have hc : (x 0).val / 128 % 2 < 2 := Nat.mod_lt _ (by decide)
  have hs : (x 0).val / 128 / 2 < 16 := by omega
  refine ⟨(⟨(x 0).val / 128 % 2, hc⟩, ⟨(x 0).val / 128 / 2, hs⟩), Finset.mem_univ _, ?_⟩
  rw [rowsOf, Finset.mem_filter, wid_tile ⟨_, hc⟩ ⟨_, hs⟩]
  exact ⟨Finset.mem_univ _, (Nat.div_add_mod _ 2).symm⟩

/-- The share of the flat array that the tile reads with. -/
def readShare (c s : ℕ) : PosShare TreeShare :=
  Transfers.shareTok (Transfers.shareTok fullShare 2 ⟨c % 2, Nat.mod_lt _ (by decide)⟩) 16 ⟨s % 16, Nat.mod_lt _ (by decide)⟩

theorem readShare_eq (c : Fin 2) (s : Fin 16) :
    readShare c.val s.val = Transfers.shareTok (Transfers.shareTok fullShare 2 c) 16 s := by
  unfold readShare
  rw [show (⟨c.val % 2, Nat.mod_lt _ (by decide)⟩ : Fin 2) = c from Fin.ext (Nat.mod_eq_of_lt c.isLt),
    show (⟨s.val % 16, Nat.mod_lt _ (by decide)⟩ : Fin 16) = s from Fin.ext (Nat.mod_eq_of_lt s.isLt)]

/-! ## The arrays -/

abbrev argLoc (d : Dev nD) : Loc nD τ sig := (SparseCore.T d).loc main_arg0
abbrev labLoc (d : Dev nD) : Loc nD τ sig := (SparseCore.T d).loc main_arg1
abbrev flatLoc (d : Dev nD) : Loc nD τ sig := (SparseCore.T d).loc main_v0
abbrev sumLoc (d : Dev nD) : Loc nD τ sig := (SparseCore.T d).loc main_v1_0
abbrev maxLoc (d : Dev nD) : Loc nD τ sig := (SparseCore.T d).loc main_v1_1
abbrev lossLoc (d : Dev nD) : Loc nD τ sig := (SparseCore.T d).loc main_v6

/-- The host's steps: the flat array, the SparseCore's results as 32 rows, and the word as a scalar. -/
abbrev flatten : HloOp τ sig (Elt F) :=
  StableHlo.reshape main_arg0 main_v0 (rfl : (.f32 : EltTy) = .f32) shapeCasts_S16384x128_S2097152
abbrev foldSums : HloOp τ sig (Elt F) :=
  StableHlo.reshape main_v1_0 main_v3 (rfl : (.f32 : EltTy) = .f32) shapeCasts_S4096_S32x128
abbrev foldMaxs : HloOp τ sig (Elt F) :=
  StableHlo.reshape main_v1_1 main_v4 (rfl : (.f32 : EltTy) = .f32) shapeCasts_S4096_S32x128
abbrev scalar : HloOp τ sig (Elt F) :=
  StableHlo.reshape main_v5 main_v6 (rfl : (.f32 : EltTy) = .f32) shapeCasts_S1_S_

abbrev arrays : Finset (DevRef τ sig) := insert flat' keep

variable (m : (ℓ : Loc nD τ sig) → Buf (Elt F) ℓ) (ρ : Dev nD → PrngReg) (d : Dev nD)

/-! What the arrays hold: at the start, -/
def V0 : Valuation τ sig (Elt F) := fun b => m (d, b)

/-- The flat array that the kernel is given. -/
def flat : S2097152.Idx → Elt F .f32 := (flatten (F := F)).result (V0 m d) flat'

/-- after the SparseCore's call, -/
def V1 : Valuation τ sig (Elt F) :=
  Function.update (Function.update ((flatten (F := F)).result (V0 m d)) sum' (rowSums (flat m d))) max' (rowMaxs (flat m d))
/-- after the TensorCore's first, -/
def V2 : Valuation τ sig (Elt F) := afterRegion (First.dat (V1 m) d) (V1 m d)
/-- with the SparseCore's results folded, -/
def V3 : Valuation τ sig (Elt F) := (foldMaxs (F := F)).result ((foldSums (F := F)).result (V2 m d))
/-- after the TensorCore's second, -/
def V4 : Valuation τ sig (Elt F) := afterRegion (Second.dat (V3 m) d) (V3 m d)
/-- and at the end. -/
def V5 : Valuation τ sig (Elt F) := (scalar (F := F)).result (V4 m d)

theorem V1_sum : V1 m d sum' = rowSums (flat m d) := by
  unfold V1
  rw [Function.update_of_ne (show sum' ≠ max' by decide)]
  exact Function.update_self ..
theorem V1_max : V1 m d max' = rowMaxs (flat m d) := Function.update_self ..
theorem V1_rest (b : DevRef τ sig) (h : b ∈ rest) : V1 m d b = (flatten (F := F)).result (V0 m d) b := by
  unfold V1
  rw [Function.update_of_ne (show b ≠ max' from by rintro rfl; exact absurd h (by decide)),
    Function.update_of_ne (show b ≠ sum' from by rintro rfl; exact absurd h (by decide))]

/-- The arrays, those of the SparseCore's call apart. -/
theorem held_arrays (W : Valuation τ sig (Elt F)) :
    (held (T d) arrays W : sProp 𝕄) = iprop((flatLoc d ↦{fullShare} W flat') ∗ (sumLoc d ↦{fullShare} W sum')
      ∗ (maxLoc d ↦{fullShare} W max') ∗ held (T d) rest W) := by
  unfold held arrays keep
  rw [SparseCore.bigSep_insert' (by decide), SparseCore.bigSep_insert' (by decide), SparseCore.bigSep_insert' (by decide)]

theorem held_keep (W : Valuation τ sig (Elt F)) :
    (held (T d) keep W : sProp 𝕄) = iprop((sumLoc d ↦{fullShare} W sum') ∗ (maxLoc d ↦{fullShare} W max') ∗ held (T d) rest W) := by
  unfold held keep
  rw [SparseCore.bigSep_insert' (by decide), SparseCore.bigSep_insert' (by decide)]

theorem unscoped_held : (unscopedBufs d (fun b => m ((SparseCore.T d).loc b)) : sProp 𝕄) = held (T d) arrays (V0 m d) := by
  have h := Pipeline.unscopedBufs_held (Ix := HIx 1) (Name := ℕ) (U := UU) (Lvl := ℕ) d (V0 m d)
  rw [show Pipeline.ucRefs τ sig = arrays by decide] at h
  exact h

/-- What the program leaves, of all it holds at the end. -/
theorem held_fin (W : Valuation τ sig (Elt F)) :
    (held (T d) keep W : sProp 𝕄) ⊢ iprop((argLoc d ↦{fullShare} W arg0') ∗ (labLoc d ↦{fullShare} W arg1') ∗ (lossLoc d ↦{fullShare} W loss')) := by
  rw [held_sub_split (T d) (show ({arg0', arg1', loss'} : Finset (DevRef τ sig)) ⊆ keep by decide)]
  refine sep_elim_left.trans ?_
  unfold held
  rw [SparseCore.bigSep_insert' (by decide), SparseCore.bigSep_insert' (by decide), bigSep_singleton]

theorem flatten_within : (flatten (F := F)).bufs ⊆ arrays := show ({arg0', flat'} : Finset (DevRef τ sig)) ⊆ arrays by decide
theorem foldSums_within : (foldSums (F := F)).bufs ⊆ keep := show ({sum', sums'} : Finset (DevRef τ sig)) ⊆ keep by decide
theorem foldMaxs_within : (foldMaxs (F := F)).bufs ⊆ keep := show ({max', maxs'} : Finset (DevRef τ sig)) ⊆ keep by decide
theorem scalar_within : (scalar (F := F)).bufs ⊆ keep := show ({word', loss'} : Finset (DevRef τ sig)) ⊆ keep by decide

/-! Each step leaves the buffers it does not write. -/
theorem flatten_keeps (W : Valuation τ sig (Elt F)) {b : DevRef τ sig} (h : b ≠ flat') : (flatten (F := F)).result W b = W b :=
  (flatten (F := F)).result_of_not_mem W (show b ∉ ({flat'} : Finset (DevRef τ sig)) from fun e => h (Finset.mem_singleton.mp e))
theorem foldSums_keeps (W : Valuation τ sig (Elt F)) {b : DevRef τ sig} (h : b ≠ sums') : (foldSums (F := F)).result W b = W b :=
  (foldSums (F := F)).result_of_not_mem W (show b ∉ ({sums'} : Finset (DevRef τ sig)) from fun e => h (Finset.mem_singleton.mp e))
theorem foldMaxs_keeps (W : Valuation τ sig (Elt F)) {b : DevRef τ sig} (h : b ≠ maxs') : (foldMaxs (F := F)).result W b = W b :=
  (foldMaxs (F := F)).result_of_not_mem W (show b ∉ ({maxs'} : Finset (DevRef τ sig)) from fun e => h (Finset.mem_singleton.mp e))
theorem scalar_keeps (W : Valuation τ sig (Elt F)) {b : DevRef τ sig} (h : b ≠ loss') : (scalar (F := F)).result W b = W b :=
  (scalar (F := F)).result_of_not_mem W (show b ∉ ({loss'} : Finset (DevRef τ sig)) from fun e => h (Finset.mem_singleton.mp e))

/-! ## What the tiles are handed, and what they hand back -/

def taken (c s : ℕ) : sProp 𝕄 := given d (tile c s) (readShare c s) (flat m d)

def handed (c s : ℕ) : sProp 𝕄 := computed d (tile c s) (flat m d)

instance taken_storable (c s : ℕ) : BI.Storable (upEmb : UEmb _ 𝕄) (taken m d c s) := by
  unfold taken given; infer_instance

instance handed_storable (c s : ℕ) : BI.Storable (upEmb : UEmb _ 𝕄) (handed m d c s) := by
  unfold handed computed; infer_instance

/-- A result dealt out by rows. -/
theorem rows_dealt {ℓ : Loc nD τ sig} (R : Fin 2 × Fin 16 → Finset (Idx ℓ)) (hd : ∀ p p', p ≠ p' → Disjoint (R p) (R p'))
    (hc : Finset.univ.biUnion R = Finset.univ) (f : Buf (Elt F) ℓ) :
    (ℓ ↦{fullShare} f : sProp 𝕄) = bigSep Finset.univ fun c : Fin 2 => bigSep Finset.univ fun s : Fin 16 => ℓ ↦[R (c, s)]{fullShare} f := by
  refine Eq.trans ?_ (SparseCore.bigSep_product Finset.univ Finset.univ (fun p : Fin 2 × Fin 16 => (ℓ ↦[R p]{fullShare} f : sProp 𝕄)))
  rw [Finset.univ_product_univ, ← pointsTo_biUnion _ _ fun p _ p' _ h => hd p p' h, hc]

theorem sum_rows (f : Buf (Elt F) (sumLoc d)) :
    (sumLoc d ↦{fullShare} f : sProp 𝕄)
      = bigSep Finset.univ fun c : Fin 2 => bigSep Finset.univ fun s : Fin 16 => sumLoc d ↦[rowsOf (tile c.val s.val)]{fullShare} f :=
  rows_dealt (ℓ := sumLoc d) (fun p => rowsOf (tile p.1.val p.2.val)) rows_disjoint rows_cover f

theorem max_rows (f : Buf (Elt F) (maxLoc d)) :
    (maxLoc d ↦{fullShare} f : sProp 𝕄)
      = bigSep Finset.univ fun c : Fin 2 => bigSep Finset.univ fun s : Fin 16 => maxLoc d ↦[rowsOf (tile c.val s.val)]{fullShare} f :=
  rows_dealt (ℓ := maxLoc d) (fun p => rowsOf (tile p.1.val p.2.val)) rows_disjoint rows_cover f

theorem flat_shares (f : Buf (Elt F) (flatLoc d)) :
    (flatLoc d ↦{fullShare} f : sProp 𝕄)
      ⊢ bigSep Finset.univ fun c : Fin 2 => bigSep Finset.univ fun s : Fin 16 => flatLoc d ↦{readShare c.val s.val} f := by
  refine (Transfers.pointsTo_toks_split fullShare 2).trans (sep_elim_right.trans (bigSep_mono fun c _ => ?_))
  refine (Transfers.pointsTo_toks_split _ 16).trans (sep_elim_right.trans (bigSep_mono fun s _ => ?_))
  rw [readShare_eq]; exact .refl _

theorem deal_one (c s : ℕ) (f : Buf (Elt F) (sumLoc d)) (g : Buf (Elt F) (maxLoc d)) :
    iprop((flatLoc d ↦{readShare c s} flat m d) ∗ (sumLoc d ↦[rowsOf (tile c s)]{fullShare} f) ∗ (maxLoc d ↦[rowsOf (tile c s)]{fullShare} g))
      ⊢ (taken m d c s : sProp 𝕄) := by
  unfold taken given
  iintro ⟨H, H0, H1⟩
  isplitl [H]; · iexact H
  isplitl [H0]
  · iexists f; iexact H0
  iexists g; iexact H1

theorem threes (Φ Ψ Θ : Fin 2 → Fin 16 → sProp 𝕄) :
    iprop((bigSep Finset.univ fun c => bigSep Finset.univ fun s => Φ c s) ∗ (bigSep Finset.univ fun c => bigSep Finset.univ fun s => Ψ c s)
        ∗ bigSep Finset.univ fun c => bigSep Finset.univ fun s => Θ c s)
      = bigSep Finset.univ fun c => bigSep Finset.univ fun s => iprop(Φ c s ∗ Ψ c s ∗ Θ c s) := by
  simp only [bigSep_sep']

/-- The three arrays, dealt out. -/
theorem deal (f : Buf (Elt F) (sumLoc d)) (g : Buf (Elt F) (maxLoc d)) :
    iprop((flatLoc d ↦{fullShare} flat m d) ∗ (sumLoc d ↦{fullShare} f) ∗ (maxLoc d ↦{fullShare} g))
      ⊢ (bigSep Finset.univ fun c : Fin 2 => bigSep Finset.univ fun s : Fin 16 => taken m d c.val s.val : sProp 𝕄) := by
  rw [sum_rows, max_rows]
  refine (sep_mono (flat_shares d _) (.refl _)).trans ((Entails.of_eq (threes _ _ _)).trans ?_)
  exact bigSep_mono fun (c : Fin 2) _ => bigSep_mono fun (s : Fin 16) _ => deal_one m d c.val s.val f g

/-- The results, collected. -/
theorem collect :
    (bigSep Finset.univ fun c : Fin 2 => bigSep Finset.univ fun s : Fin 16 => handed m d c.val s.val : sProp 𝕄)
      = iprop((sumLoc d ↦{fullShare} rowSums (flat m d)) ∗ (maxLoc d ↦{fullShare} rowMaxs (flat m d))) := by
  rw [sum_rows, max_rows]
  simp only [← bigSep_sep']
  rfl

/-- The call's hand-overs. -/
def P : (K (F := F)).Pay (nD := nD) (Val := Elt F) (Name := ℕ) (U := UU) where
  st := fun _ d c => bigSep Finset.univ fun s : Fin 16 => taken m d c.val s.val
  dn := fun _ d c => bigSep Finset.univ fun s : Fin 16 => handed m d c.val s.val
  go := fun _ d c s => taken m d c.val s.val
  td := fun _ d c s => handed m d c.val s.val
  x := fun _ _ => iprop(emp)

instance P_storable : (P (F := F) m).IsStorable where
  st _ d c := by unfold P; infer_instance
  dn _ d c := by unfold P; infer_instance
  go _ d c s := by unfold P; infer_instance
  td _ d c s := by unfold P; infer_instance

/-! ## The tiles' part of the launch -/

abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

theorem defs₀_vector (c : Fin τ.nSC) (s : Fin τ.nSub) :
    defs₀ (F := F) (.scVector c s) 0 ()
      = SparseCore.onTile hcore0 hsub0 (fun c s => cc0__sc_rowstats
          (coords c s) xM (Memref.isWhole_whole _) sumM (Memref.isWhole_whole _) maxM (Memref.isWhole_whole _) bufM (Memref.isWhole_whole _)
          sscrM (Memref.isWhole_whole _) mscrM (Memref.isWhole_whole _) sumsM (Memref.isWhole_whole _) maxsM (Memref.isWhole_whole _)
          cc0_scratch5 cc0_scratch6 cc0_scoped0 cc0_scoped1) ⟨⟩ c s := rfl

theorem done_waits (i : grid0.Coords) (O : CellTallies nD τ sig (HIx 1)) (W : Waits sig (HIx 1)) (X : S2097152.Idx → Elt F .f32) :
    iprop(computed d i X ∗ scopedBufs (th d i) ∗ scopedSems0 (th d i) ∗ owed d i O W)
      ⊢ (iprop(computed d i X ∗ scopedBufs (th d i) ∗ scopedSems0 (th d i)
          ∗ ∃ W', ⌜∀ p ∈ W', p ∈ W ∨ p.2 = none ∨ p.2 = some 0⌝ ∗ owes (th d i) O W') : sProp 𝕄) := by
  unfold owed
  iintro ⟨Hc, Hb, Hs, %W', %h, HO⟩
  isplitl [Hc]; · iexact Hc
  isplitl [Hb]; · iexact Hb
  isplitl [Hs]; · iexact Hs
  iexists W'; isplitr
  · ipureintro; exact fun p hp => (h p hp).imp_right .inl
  iexact HO

/-- What every tile runs. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  have e1 : (P m).go 0 d c i = given d (coords ⟨_, hc.1⟩ ⟨_, hc.2⟩) (readShare c.val i.val) (flat m d) := by
    rw [← tile_eq]; rfl
  have e2 : (P m).td 0 d c i = computed d (coords ⟨_, hc.1⟩ ⟨_, hc.2⟩) (flat m d) := by
    rw [← tile_eq]; rfl
  rw [e1, e2, defs₀_vector]; simp only [SparseCore.onTile, hc, and_self, ↓reduceDIte]
  exact (tile_body d (coords ⟨_, hc.1⟩ ⟨_, hc.2⟩) facts (readShare c.val i.val) (flat m d) O W hO).trans
    (wp_mono frame _ _ fun _ => done_waits d _ O W _)

theorem vecSplit : (K (F := F)).VecSplit' (P m) 0 := by
  intro d c
  show (bigSep Finset.univ fun s : Fin 16 => taken m d c.val s.val) ⊢ |={Set.univ}=> iprop(
    (bigSep Finset.univ fun s : Fin 16 => taken m d c.val s.val)
      ∗ ((bigSep Finset.univ fun s : Fin 16 => handed m d c.val s.val) -∗ bigSep Finset.univ fun s : Fin 16 => handed m d c.val s.val))
  iintro H
  imodintro
  isplitl [H]; · iexact H
  iintro H; iexact H

/-! ## The launch's ghost state -/

def u₀ : UU := (initOf (K (F := F)).hsCells (K (F := F)).hsToks,
  (initOf (Pipeline.cells (nD := nD) (τ := τ) cfgs cellOf_inj) (Pipeline.launchToks (nD := nD) (τ := τ) cfgs cellOf_inj), 1))

theorem emps {I : Type} (s : Finset I) : (bigSep s fun _ => iprop(emp)) = (iprop(emp) : sProp 𝕄) := bigSep_emp_const s

/-- A device's share of the pipelines' ghost state. -/
def ghosts : sProp 𝕄 := bigSep Finset.univ fun p : Fin 2 => ghost p d

theorem ghosts_eq : (ghosts (F := F) d : sProp 𝕄) = iprop(ghost 0 d ∗ ghost 1 d) :=
  bigSep_univ_eq_bigSepL [(0 : Fin 2), (1 : Fin 2)] (by decide) (by decide) _

theorem ghosts_all :
    iprop((bigSep Finset.univ fun c : Dev nD => bigSep Finset.univ fun p : Fin 2 => Pipeline.cellsGhost (pins (F := F)) EP p c)
        ∗ (bigSep Finset.univ fun c : Dev nD => bigSep Finset.univ fun p : Fin 2 => Pipeline.toksInit (pins (F := F)) EP p c))
      ⊢ (bigSep Finset.univ (ghosts (F := F)) : sProp 𝕄) := by
  unfold ghosts ghost
  simp only [bigSep_sep']
  exact BI.Entails.refl _

theorem pair (a : UP) (b : Counters) :
    (BI.own ((embR : Emb (UP × Counters) 𝕄) (a, b)) : sProp 𝕄)
      ⊢ iprop(BI.own (EP (F := F) a) ∗ BI.own (((Emb.inr : Emb Counters (UP × Counters)).trans (embR : Emb (UP × Counters) 𝕄)) b)) := by
  unfold EP; exact own_pair_emb (embR : Emb (UP × Counters) 𝕄) a b

theorem fund :
    (BI.own (EP (F := F) (initOf (Pipeline.cells (nD := nD) (τ := τ) cfgs cellOf_inj) (Pipeline.launchToks (nD := nD) (τ := τ) cfgs cellOf_inj))) : sProp 𝕄)
      ⊢ |={Set.univ}=> bigSep Finset.univ (ghosts (F := F)) :=
  (Pipeline.fund_ghost (pins (F := F)) (EP (F := F)) cellOf_inj).trans (bupd_fupd.trans (fupd_mono ghosts_all))

theorem hu₀ : (ownU (u₀ (F := F)) : sProp 𝕄)
    ⊢ |={Set.univ}=> iprop(BI.own (EH (initOf (K (F := F)).hsCells (K (F := F)).hsToks)) ∗ bigSep Finset.univ (ghosts (F := F))
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (pair (F := F) _ _) $$ HR
  icases H with ⟨HP, -⟩
  imod (fund (F := F)) $$ HP with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## Between the calls -/

/-- The handshake's state after the SparseCore's call, what the core owes apart. -/
def settled : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem state_eq : ((K (F := F)).tcSt EH d 1 : sProp 𝕄)
    = iprop((∃ Wd, ⌜(K (F := F)).WBelow (T d) Wd 8⌝ ∗ owes (T d) 0 Wd) ∗ settled d) := by
  unfold SparseCore.Cfg.tcSt settled
  rw [(K (F := F)).Otc_end d (le_refl 1)]
  rfl

theorem below (Wd : Waits sig (HIx 1)) : (K (F := F)).WBelow (T d) Wd 8 := by
  intro p _
  match p with
  | (s, none) => exact Nat.zero_le _
  | (s, some q) =>
    have h := (K (F := F)).lev_some_le ((T d : Thread nD τ), s) q
    have hq : q.val = 0 := Nat.lt_one_iff.mp q.isLt
    rw [hq] at h
    exact h.trans (by decide)

theorem open_state : ((K (F := F)).tcSt EH d 1 : sProp 𝕄) ⊢ iprop((∃ Wd, owes (T d) 0 Wd) ∗ settled d) := by
  rw [state_eq]
  iintro ⟨⟨%Wd, -, HO⟩, Hs⟩
  isplitl [HO]
  · iexists Wd; iexact HO
  iexact Hs

theorem close_state : iprop((∃ Wd, owes (T d) 0 Wd) ∗ settled d) ⊢ ((K (F := F)).tcSt EH d 1 : sProp 𝕄) := by
  rw [state_eq]
  iintro ⟨⟨%Wd, HO⟩, Hs⟩
  isplitl [HO]
  · iexists Wd
    isplitr; · ipureintro; exact below d Wd
    iexact HO
  iexact Hs

/-! ## What the arguments hold at the end -/

theorem kept_first (b : Ref sig .tc) (h : ∀ w, Pipeline.arrRef spec1 w = b → (cfg1.win w).isOut = false) :
    V2 m d (Proc.devRef .tc b) = V1 m d (Proc.devRef .tc b) :=
  Pipeline.afterRegion_keeps (First.dat (V1 m) d) (V1 m d) winFacts1.arr_inj (First.dat_A (V1 m) d) b h

theorem kept_second (b : Ref sig .tc) (h : ∀ w, Pipeline.arrRef spec2 w = b → (cfg2.win w).isOut = false) :
    V4 m d (Proc.devRef .tc b) = V3 m d (Proc.devRef .tc b) :=
  Pipeline.afterRegion_keeps (Second.dat (V3 m) d) (V3 m d) winFacts2.arr_inj (Second.dat_A (V3 m) d) b h

theorem V1_arg0 : V1 m d arg0' = m (argLoc d) :=
  (V1_rest m d arg0' (by decide)).trans (flatten_keeps (V0 m d) (by decide))
theorem V1_arg1 : V1 m d arg1' = m (labLoc d) :=
  (V1_rest m d arg1' (by decide)).trans (flatten_keeps (V0 m d) (by decide))
theorem V3_arg0 : V3 m d arg0' = m (argLoc d) := by
  unfold V3
  rw [foldMaxs_keeps _ (by decide), foldSums_keeps _ (by decide)]
  exact (kept_first m d main_arg0 (by decide)).trans (V1_arg0 m d)
theorem V3_arg1 : V3 m d arg1' = m (labLoc d) := by
  unfold V3
  rw [foldMaxs_keeps _ (by decide), foldSums_keeps _ (by decide)]
  exact (kept_first m d main_arg1 (by decide)).trans (V1_arg1 m d)
theorem V5_arg0 : V5 m d arg0' = m (argLoc d) := by
  unfold V5
  rw [scalar_keeps _ (by decide)]
  exact (kept_second m d main_arg0 (by decide)).trans (V3_arg0 m d)
theorem V5_arg1 : V5 m d arg1' = m (labLoc d) := by
  unfold V5
  rw [scalar_keeps _ (by decide)]
  exact (kept_second m d main_arg1 (by decide)).trans (V3_arg1 m d)

/-! ## The program -/

/-- The program's result. -/
def lossOf : S_.Idx → Elt F .f32 := V5 m d loss'

/-- What the program leaves. -/
def fin : sProp 𝕄 :=
  iprop((argLoc d ↦{fullShare} m (argLoc d)) ∗ (labLoc d ↦{fullShare} m (labLoc d)) ∗ (lossLoc d ↦{fullShare} lossOf m d))

theorem fin_held : (held (T d) keep (V5 m d) : sProp 𝕄) ⊢ fin m d := by
  refine (held_fin (F := F) d _).trans ?_
  rw [V5_arg0, V5_arg1]
  exact BI.Entails.refl _

/-- The arrays after the SparseCore's call. -/
theorem held_after :
    iprop((sumLoc d ↦{fullShare} rowSums (flat m d)) ∗ (maxLoc d ↦{fullShare} rowMaxs (flat m d)) ∗ held (T d) rest ((flatten (F := F)).result (V0 m d)))
      ⊢ (held (T d) keep (V1 m d) : sProp 𝕄) := by
  rw [held_keep, V1_sum, V1_max, held_congr (T d) (V1_rest m d)]

theorem hmain [∀ e, Nonempty (Elt F e)] (κ : GSem nD τ sig → ℕ) :
    iprop((K (F := F)).ctx EH (P m) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 1 ∗ fin m d ∗ (K (F := F)).tcEnd d) := by
  unfold SparseCore.Cfg.tcRes SparseCore.Cfg.tcEnd
  rw [unscoped_held, ghosts_eq]
  simp only [main, wp_bind, wp_pure]
  iintro ⟨#Hctx, Hst, ⟨Hb, Hheld, Hts, Hr⟩, Hg0, Hg1⟩
  iapply (wp_hlo_within 𝒱 (SparseCore.T d) none Set.univ (op := flatten) (S := arrays) flatten_within (V := V0 m d)) $$ [Hb Hheld]
  · isplitl [Hb] <;> iassumption
  iintro ⟨Hb, Hheld⟩
  rw [wp_ret]; imodintro
  ihave Hh := (Entails.of_eq (held_arrays (F := F) d _)) $$ Hheld
  icases Hh with ⟨Hf, Hs, Hx, Ha⟩
  iapply ((K (F := F)).wp_run (D (F := F)) 𝒱 (EH := EH) (P := P m) κ d 0) $$ [Hst Hf Hs Hx Hb Ha Hts Hr Hg0 Hg1]
  isplitr; · iexact Hctx
  isplitl [Hst]; · iexact Hst
  isplitl [Hf Hs Hx]
  · iapply (deal m d _ _)
    isplitl [Hf]; · iexact Hf
    isplitl [Hs]; · iexact Hs
    iexact Hx
  iintro ⟨Hst, Hdn⟩
  ihave Hdn' := (Entails.of_eq (show (bigSep Finset.univ fun c : Fin ((K (F := F)).nCore 0) => (P m).dn 0 d c) = _ from collect m d)) $$ Hdn
  icases Hdn' with ⟨Hs, Hx⟩
  ihave Hk := (held_after m d) $$ [Hs Hx Ha]
  · isplitl [Hs]; · iexact Hs
    isplitl [Hx] <;> iassumption
  ihave Ho := (show ((K (F := F)).tcSt EH d ((0 : Fin 1).val + 1) : sProp 𝕄) ⊢ _ from open_state (F := F) d) $$ Hst
  icases Ho with ⟨HO, Hset⟩
  iapply (wp_first (V1 m) d _) $$ [Hb Hk HO Hr Hg0 Hg1 Hset Hts]
  isplitl [Hg1 Hset Hts]
  · iintro ⟨Hb, Hc⟩
    unfold core
    icases Hc with ⟨Hk, HO, Hr⟩
    iapply (wp_hlo_within 𝒱 (SparseCore.T d) none Set.univ (op := foldSums) (S := keep) foldSums_within (V := V2 m d)) $$ [Hb Hk]
    · isplitl [Hb]; · iexact Hb
      iexact Hk
    iintro ⟨Hb, Hk⟩
    rw [wp_ret]; imodintro
    iapply (wp_hlo_within 𝒱 (SparseCore.T d) none Set.univ (op := foldMaxs) (S := keep) foldMaxs_within (V := (foldSums (F := F)).result (V2 m d))) $$ [Hb Hk]
    · isplitl [Hb] <;> iassumption
    iintro ⟨Hb, Hk⟩
    rw [wp_ret]; imodintro
    iapply (wp_second (V3 m) d _) $$ [Hb Hk HO Hr Hg1 Hset Hts]
    isplitl [Hset Hts]
    · iintro ⟨Hb, Hc⟩
      unfold core
      icases Hc with ⟨Hk, HO, Hr⟩
      iapply (wp_hlo_within 𝒱 (SparseCore.T d) none Set.univ (op := scalar) (S := keep) scalar_within (V := V4 m d)) $$ [Hb Hk]
      · isplitl [Hb]; · iexact Hb
        iexact Hk
      iintro ⟨Hb, Hk⟩
      rw [wp_ret]; imodintro
      imodintro
      isplitl [HO Hset]
      · iapply (close_state (F := F) d)
        isplitl [HO]; · iexact HO
        iexact Hset
      isplitl [Hk]
      · iapply (fin_held m d)
        iexact Hk
      isplitl [Hb] <;> iassumption
    isplitl [Hb]; · iexact Hb
    isplitl [Hk HO Hr]
    · unfold core
      isplitl [Hk]; · iexact Hk
      isplitl [HO]; · iexact HO
      iexact Hr
    isplitr
    · iapply ((K (F := F)).ctx_levAts κ); iexact Hctx
    iexact Hg1
  isplitl [Hb]; · iexact Hb
  isplitl [Hk HO Hr]
  · unfold core
    isplitl [Hk]; · iexact Hk
    isplitl [HO]; · iexact HO
    iexists _; iexact Hr
  isplitr
  · iapply ((K (F := F)).ctx_levAts κ); iexact Hctx
  iexact Hg0

/-- The same of the memory. -/
def left (s : Phys nD τ sig (Elt F)) : Prop :=
  s.mem.mem (argLoc d) = m (argLoc d) ∧ s.mem.mem (labLoc d) = m (labLoc d) ∧ s.mem.mem (lossLoc d) = lossOf m d

theorem hfin (s : Phys nD τ sig (Elt F)) : iprop(fin m d ∗ SI s) ⊢ (⌜left m d s⌝ : sProp 𝕄) := by
  unfold fin
  iintro ⟨⟨Ha, Hl, Hx⟩, HSI⟩
  ihave H := (persistent_entails_right (SI_pointsTo_agree (st := s) (ℓ := argLoc d) (I := Finset.univ) (q := fullShare) (f := m (argLoc d)))) $$ [HSI Ha]
  · isplitl [HSI] <;> iassumption
  icases H with ⟨%h1, HSI, -⟩
  ihave H := (persistent_entails_right (SI_pointsTo_agree (st := s) (ℓ := labLoc d) (I := Finset.univ) (q := fullShare) (f := m (labLoc d)))) $$ [HSI Hl]
  · isplitl [HSI] <;> iassumption
  icases H with ⟨%h2, HSI, -⟩
  ihave H := (SI_pointsTo_agree (st := s) (ℓ := lossLoc d) (I := Finset.univ) (q := fullShare) (f := lossOf m d)) $$ [HSI Hx]
  · isplitl [HSI] <;> iassumption
  icases H with %h3
  ipureintro
  exact ⟨funext fun i => h1 i (Finset.mem_univ i), funext fun i => h2 i (Finset.mem_univ i), funext fun i => h3 i (Finset.mem_univ i)⟩

def ends : PUnit × MemSt nD τ sig (Elt F) → Prop := fun r =>
  (∀ c : Dev nD, r.2.mem (argLoc c) = m (argLoc c) ∧ r.2.mem (labLoc c) = m (labLoc c) ∧ r.2.mem (lossLoc c) = lossOf m c)
    ∧ r.2.sem = fun _ => 0

/-- Every run of the program ends with the arguments as they were, the result computed and every counter at zero. -/
theorem run_main [∀ e, Nonempty (Elt F e)] :
    θ_run (Cert.SplitIdeal.defs (F := F)) (Cert.SplitIdeal.threads (F := F)) ⟨m, fun _ => 0, ρ⟩ (ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (ghosts (F := F)) (fin m) (u₀ (F := F)) (sep_elim_left.trans (hu₀ m)) (fun κ d => hmain m ρ d κ) (left m)
    (fun d s => hfin m d s) (ends m) (fun _ h hz => ⟨h, hz⟩)

end Cert.SplitIdeal.Tile

end
-- ==== Proof.SplitIdeal.Pays.lean ====
/- The arithmetic of the two TensorCore calls at the ideal values, as sums of reals. -/
module

public import proofs.«01_k».proof.Proof.Gen.SplitIdeal.Skeleton
public import proofs.«01_k».proof.Proof.Rows
public import Idealize.ShloMosaic.Lib.Pointwise
public import Idealize.ShloMosaic.PureOps.Ideal.Laws

@[expose] public section

noncomputable section

namespace Cert.SplitIdeal.Pays

open Cert.SplitIdeal Cert.SplitIdeal.Gen
open Idealize.ShloMosaic hiding ix1 ix2 eq_ix2
open Idealize.ShloMosaic.ValueIdx

theorem word_bot : Ideal.ofBits .f32 0xFF800000#32 = (⊥ : EReal) := by simp [Ideal.ofBits, Ideal.ieee]
theorem word_one : Ideal.ofBits .f32 0x3F800000#32 = (1 : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num
theorem word_128 : Ideal.ofBits .f32 0x43000000#32 = ((128 : ℝ) : EReal) := by
  simp [Ideal.ofBits, Ideal.ieee]; rw [← EReal.coe_mul]; norm_num
theorem word_16384 : Ideal.ofBits .f32 0x46800000#32 = ((16384 : ℝ) : EReal) := by
  simp [Ideal.ofBits, Ideal.ieee]; rw [← EReal.coe_mul]; norm_num

/-- The factor, as the kernel chooses it. -/
def pick (w : BitVec 32) : EReal :=
  Scalar.select (IntOp.cmpi .eq w 1#32) (Ideal.ofBits .f32 0x3FA00000#32) (Ideal.ofBits .f32 0x3F666666#32)

theorem pick_eq (w : BitVec 32) : pick w = ((Rows.factor w : ℝ) : EReal) := Rows.factor_word w

section
variable (w : BitVec 32) (B : Vec Ideal S6144x128 .f32) (y : Fin 6144 → Fin 128 → ℝ)
  (hB : ∀ r k, B (ix2 r k) = ((y r k : ℝ) : EReal)) (hy : ∀ r k, 0 < y r k)
include hB hy

theorem log_apply (r : Fin 6144) : k1_pay1 w B (ix1 r) = ((Rows.ell (Rows.factor w) (y r) : ℝ) : EReal) := by
  have h : k1_pay1 w B (ix1 r) = Ideal.log ((∑ k : Fin 128, B (ix2 r k))
      + Finset.univ.fold max (Ideal.ofBits .f32 0xFF800000#32) (fun k : Fin 128 => B (ix2 r k)) * (pick w - Ideal.ofBits .f32 0x3F800000#32)) := by
    unfold k1_pay1
    dsimp only
    pointwise
    rfl
  rw [h, word_bot, word_one, pick_eq]
  simp only [hB]
  rw [Rows.coe_sum, Rows.fold_max]
  exact Rows.ell_coe _ (Rows.factor_pos w) _ (hy r)

theorem sum_apply (a : ℝ) : k1_pay2 (F := Ideal) w B ((a : ℝ) : EReal) = ((a + ∑ r, Rows.ell (Rows.factor w) (y r) : ℝ) : EReal) := by
  have h : k1_pay2 (F := Ideal) w B ((a : ℝ) : EReal) = ((a : ℝ) : EReal) + ∑ r : Fin 6144, k1_pay1 w B (ix1 r) := by
    unfold k1_pay2
    generalize k1_pay1 w B = E
    dsimp only
    pointwise
    rfl
  rw [h]
  simp only [log_apply w B y hB hy]
  rw [Rows.coe_sum, EReal.coe_add]

theorem sq_apply (a : ℝ) : k1_pay3 (F := Ideal) w B ((a : ℝ) : EReal)
    = ((a + ∑ r, Rows.ell (Rows.factor w) (y r) * Rows.ell (Rows.factor w) (y r) : ℝ) : EReal) := by
  have h : k1_pay3 (F := Ideal) w B ((a : ℝ) : EReal) = ((a : ℝ) : EReal) + ∑ r : Fin 6144, k1_pay1 w B (ix1 r) * k1_pay1 w B (ix1 r) := by
    unfold k1_pay3
    generalize k1_pay1 w B = E
    dsimp only
    pointwise
    rfl
  rw [h]
  simp only [log_apply w B y hB hy, ← EReal.coe_mul]
  rw [Rows.coe_sum, EReal.coe_add]

end

/-- The last call's word, from the logs `e` of the 4096 rows that the SparseCore summed. -/
theorem word_apply (w : BitVec 32) (A M : Vec Ideal S32x128 .f32) (e : Fin 32 → Fin 128 → ℝ)
    (hE : ∀ p q, Ideal.log (A (ix2 p q) + M (ix2 p q) * (pick w - Ideal.ofBits .f32 0x3F800000#32)) = ((e p q : ℝ) : EReal)) (a b : ℝ) :
    k2_pay1 (F := Ideal) w A M ((a : ℝ) : EReal) ((b : ℝ) : EReal)
      = (((128 * (b + ∑ p, ∑ q, e p q * e p q) - 2 * Real.log (Rows.factor w) * (a + ∑ p, ∑ q, e p q)
          + 16384 * Real.log (Rows.factor w) * Real.log (Rows.factor w)) / 2097152 : ℝ) : EReal) := by
  have h : k2_pay1 (F := Ideal) w A M ((a : ℝ) : EReal) ((b : ℝ) : EReal)
      = Ideal.div (Ideal.ofBits .f32 0x43000000#32 * (((b : ℝ) : EReal) + ∑ p : Fin 32, ∑ q : Fin 128,
            Ideal.log (A (ix2 p q) + M (ix2 p q) * (pick w - Ideal.ofBits .f32 0x3F800000#32))
            * Ideal.log (A (ix2 p q) + M (ix2 p q) * (pick w - Ideal.ofBits .f32 0x3F800000#32)))
          - Ideal.ofBits .f32 0x40000000#32 * Ideal.log (pick w) * (((a : ℝ) : EReal) + ∑ p : Fin 32, ∑ q : Fin 128,
            Ideal.log (A (ix2 p q) + M (ix2 p q) * (pick w - Ideal.ofBits .f32 0x3F800000#32)))
          + Ideal.ofBits .f32 0x46800000#32 * Ideal.log (pick w) * Ideal.log (pick w))
        (Ideal.ofBits .f32 0x43000000#32 * Ideal.ofBits .f32 0x46800000#32) := by
    unfold k2_pay1
    dsimp only
    pointwise
    rfl
  rw [h]
  simp only [hE]
  rw [pick_eq, Rows.log_coe_pos (Rows.factor_pos w), word_two, word_128, word_16384]
  simp only [← EReal.coe_mul, Rows.coe_sum, ← EReal.coe_sub, ← EReal.coe_add]
  rw [Rows.div_coe_pos (by norm_num)]
  congr 2
  norm_num

end Cert.SplitIdeal.Pays

end
-- ==== Proof.SplitIdeal.Value.lean ====
/- The value of the whole split kernel at the ideal values: the mean of the losses of the rows it takes. The first
   call sums the logs of rows 0 to 12287 in two blocks, the SparseCore sums rows 0 to 4095, and the last call adds
   the logs of those. -/
module

public import proofs.«01_k».proof.Proof.SplitIdeal.Launch
public import proofs.«01_k».proof.Proof.SplitIdeal.Pays
public import proofs.«01_k».proof.Proof.Ideal.Value
public import Idealize.ShloMosaic.Lib.Pipeline.Value

@[expose] public section

noncomputable section

namespace Cert.SplitIdeal.Value

open Cert.SplitIdeal Cert.SplitIdeal.Gen Cert.SplitIdeal.Tile Idealize.ShloMosaic.TcCoe Idealize.SL.Sem
open Idealize.ShloMosaic hiding ix1 ix2 eq_ix2
open Idealize.ShloMosaic.ValueIdx

variable (m : (ℓ : Loc nD τ sig) → Buf (Elt Ideal) ℓ) (d : Dev nD)

/-! ## The SparseCore's rows -/

theorem flat_eq : flat m d = shapeCast _ (m (argLoc d) : S16384x128.Idx → EReal) shapeCasts_S16384x128_S2097152 := by
  unfold flat
  exact StableHlo.reshape_result ..

theorem flatRow_flat (r : Fin 4096) (c : Fin 128) :
    Cert.RowStatsIdeal.Tile.flatRow (flat m d) r c
      = (m (argLoc d) : S16384x128.Idx → EReal) (ix2 (⟨r.val, lt_trans r.isLt (by decide)⟩ : Fin 16384) c) := by
  unfold Cert.RowStatsIdeal.Tile.flatRow
  rw [flat_eq]
  refine shapeCast_apply (s := S16384x128) _ _ _ _ ?_
  refine (Shape.rowMajor_val_two (d := ![16384, 128]) _).trans (Eq.trans ?_ (Shape.rowMajor_val_one (d := ![2097152]) _).symm)
  show r.val * 128 + c.val = 128 * r.val + c.val
  omega

theorem rowSums_apply (X : S2097152.Idx → Elt Ideal .f32) (x : S4096.Idx) :
    (rowSums X x : EReal) = ∑ c, Cert.RowStatsIdeal.Tile.flatRow X (x 0) c :=
  Cert.RowStatsIdeal.Tile.rowSums_apply X x

theorem rowMaxs_apply (X : S2097152.Idx → Elt Ideal .f32) (x : S4096.Idx) :
    (rowMaxs X x : EReal) = Finset.univ.sup (Cert.RowStatsIdeal.Tile.flatRow X (x 0)) :=
  Cert.RowStatsIdeal.Tile.rowMaxs_apply X x

/-! ## What the calls read -/

theorem V2_sum : V2 m d sum' = rowSums (flat m d) := (kept_first m d main_v1_0 (by decide)).trans (V1_sum m d)
theorem V2_max : V2 m d max' = rowMaxs (flat m d) := (kept_first m d main_v1_1 (by decide)).trans (V1_max m d)

theorem V3_sums : V3 m d sums' = shapeCast _ (rowSums (flat m d)) shapeCasts_S4096_S32x128 := by
  unfold V3
  rw [foldMaxs_keeps _ (by decide)]
  refine (StableHlo.reshape_result ..).trans ?_
  exact congrArg (fun X : S4096.Idx → Elt Ideal .f32 => shapeCast _ X shapeCasts_S4096_S32x128) (V2_sum m d)

theorem V3_maxs : V3 m d maxs' = shapeCast _ (rowMaxs (flat m d)) shapeCasts_S4096_S32x128 := by
  unfold V3
  refine (StableHlo.reshape_result ..).trans ?_
  refine congrArg (fun X : S4096.Idx → Elt Ideal .f32 => shapeCast _ X shapeCasts_S4096_S32x128) ?_
  exact (foldSums_keeps _ (by decide)).trans (V2_max m d)

theorem V3_part : V3 m d part' = First.sumsB (V1 m) d := by
  unfold V3
  rw [foldMaxs_keeps _ (by decide), foldSums_keeps _ (by decide)]
  exact (Pipeline.afterRegion_arr (First.dat (V1 m) d) (V1 m d) winFacts1.arr_inj 2).trans (First.returned (V1 m) d)

theorem V4_word : V4 m d word' = Second.word (V3 m d arg1') (V3 m d part') (V3 m d sums') (V3 m d maxs') :=
  (Pipeline.afterRegion_arr (Second.dat (V3 m) d) (V3 m d) winFacts2.arr_inj 4).trans (Second.returned (V3 m) d)

theorem lossOf_apply (i : S_.Idx) : lossOf m d i
    = k2_pay1 (F := Ideal) (m (labLoc d) (ix1 0)) (shapeCast _ (rowSums (flat m d)) shapeCasts_S4096_S32x128)
        (shapeCast _ (rowMaxs (flat m d)) shapeCasts_S4096_S32x128) (First.sumsB (V1 m) d (ix1 0)) (First.sumsB (V1 m) d (ix1 1)) := by
  have h : lossOf m d = shapeCast _ (V4 m d word' : S1.Idx → Elt Ideal .f32) shapeCasts_S1_S_ := by
    unfold lossOf V5
    exact StableHlo.reshape_result ..
  rw [h, V4_word, V3_part, V3_sums, V3_maxs, V3_arg1]
  rfl

/-! ## The first call's blocks -/

/-- The row read at place `r` of point `n`'s block. -/
def row (n : ℕ) (hn : n < 2) (r : Fin 6144) : Fin 16384 := ⟨6144 * n + r.val, by have := r.isLt; omega⟩

theorem label_apply (t : Fin cfg1.N) : (First.blockAt (V1 m) d 0 t : Vec Ideal S1 .i32) (ix1 0) = m (labLoc d) (ix1 0) := by
  unfold First.blockAt
  rw [View.read_apply, ← V1_arg1 m d]
  show V1 m d arg1' _ = V1 m d arg1' _
  congr 1
  funext a
  match a with
  | ⟨0, _⟩ => exact Subsingleton.elim (α := Fin 1) _ _

theorem rows_apply (t : Fin cfg1.N) (ht : t.val < 2) (r : Fin 6144) (k : Fin 128) :
    (First.rowsAt (V1 m) d t : Vec Ideal S6144x128 .f32) (ix2 r k) = m (argLoc d) (ix2 (row t.val ht r) k) := by
  have hi : win1_1.index t 0 = t.val ∧ win1_1.index t 1 = 0 := by
    rcases fin_N1 t with rfl | rfl <;> decide
  unfold First.rowsAt Pipeline.Window.fill
  rw [dif_pos (First.rows_moved t _), ← V1_arg0 m d]
  unfold First.blockAt
  rw [View.read_apply]
  show V1 m d arg0' _ = V1 m d arg0' _
  congr 1
  funext a
  apply Fin.ext
  match a with
  | ⟨0, _⟩ => show win1_1.index t 0 * 6144 + 1 * r.val = 6144 * t.val + r.val; rw [hi.1]; omega
  | ⟨1, _⟩ => show win1_1.index t 1 * 128 + 1 * k.val = k.val; rw [hi.2]; omega

/-! ## The sums -/

/-- The row that the cell `p`, `q` of the folded arrays holds. -/
def cell (p : Fin 32) (q : Fin 128) : Fin 16384 := ⟨128 * p.val + q.val, by have := p.isLt; have := q.isLt; omega⟩

/-- The rows taken, one after another: both blocks of the first call, then the SparseCore's rows. -/
theorem sum_rows (g : Fin 16384 → ℝ) :
    ((∑ r, g (row 0 (by decide) r)) + ∑ r, g (row 1 (by decide) r)) + ∑ p, ∑ q, g (cell p q)
      = ∑ r : Fin 16384, g ⟨r.val % 12288, lt_of_le_of_lt (Nat.mod_le _ _) r.isLt⟩ := by
  rw [show (∑ r : Fin 16384, g ⟨r.val % 12288, lt_of_le_of_lt (Nat.mod_le _ _) r.isLt⟩)
      = (∑ r : Fin 12288, g ⟨r.val % 12288, lt_of_le_of_lt (Nat.mod_le _ _) (lt_trans r.isLt (by decide))⟩)
        + ∑ r : Fin 4096, g ⟨(12288 + r.val) % 12288, lt_of_le_of_lt (Nat.mod_le _ _) (Nat.add_lt_add_left r.isLt 12288)⟩ from
    Fin.sum_univ_add (a := 12288) (b := 4096) fun r => g ⟨r.val % 12288, lt_of_le_of_lt (Nat.mod_le _ _) r.isLt⟩,
    show (∑ r : Fin 12288, g ⟨r.val % 12288, lt_of_le_of_lt (Nat.mod_le _ _) (lt_trans r.isLt (by decide))⟩)
      = (∑ r : Fin 6144, g ⟨r.val % 12288, lt_of_le_of_lt (Nat.mod_le _ _) (lt_trans r.isLt (by decide))⟩)
        + ∑ r : Fin 6144, g ⟨(6144 + r.val) % 12288, lt_of_le_of_lt (Nat.mod_le _ _) (lt_trans (Nat.add_lt_add_left r.isLt 6144) (by decide))⟩ from
    Fin.sum_univ_add (a := 6144) (b := 6144) fun r => g ⟨r.val % 12288, lt_of_le_of_lt (Nat.mod_le _ _) (lt_trans r.isLt (by decide))⟩]
  refine congrArg₂ (· + ·) (congrArg₂ (· + ·) (Finset.sum_congr rfl fun r _ => congrArg g (Fin.ext ?_)) (Finset.sum_congr rfl fun r _ => congrArg g (Fin.ext ?_))) ?_
  · have := r.isLt
    show 6144 * 0 + r.val = r.val % 12288
    omega
  · have := r.isLt
    show 6144 * 1 + r.val = (6144 + r.val) % 12288
    omega
  · rw [← Fintype.sum_prod_type' fun (p : Fin 32) (q : Fin 128) => g (cell p q)]
    refine Fintype.sum_equiv finProdFinEquiv _ _ fun pq => congrArg g (Fin.ext ?_)
    have := pq.1.isLt; have := pq.2.isLt
    show 128 * pq.1.val + pq.2.val = (12288 + (pq.2.val + 128 * pq.1.val)) % 12288
    omega

section
variable (x : Fin 16384 → Fin 128 → ℝ)
  (hX : ∀ r k, m (argLoc d) (ix2 r k) = ((x r k : ℝ) : EReal)) (hx : ∀ r k, 0 < x r k)
include hX hx

/-- The label's word. -/
abbrev lab : BitVec 32 := m (labLoc d) (ix1 0)

/-- The log of a row's scaled sum. -/
abbrev el (r : Fin 16384) : ℝ := Rows.ell (Rows.factor (lab m d)) (x r)

theorem step_apply (t : Fin cfg1.N) (ht : t.val < 2) (a b : ℝ) (acc : Vec Ideal S2 .f32)
    (h0 : acc (ix1 0) = ((a : ℝ) : EReal)) (h1 : acc (ix1 1) = ((b : ℝ) : EReal)) :
    First.step (First.blockAt (V1 m) d 0 t) (First.rowsAt (V1 m) d t) acc (ix1 0) = ((a + ∑ r, el m d x (row t.val ht r) : ℝ) : EReal)
    ∧ First.step (First.blockAt (V1 m) d 0 t) (First.rowsAt (V1 m) d t) acc (ix1 1)
      = ((b + ∑ r, el m d x (row t.val ht r) * el m d x (row t.val ht r) : ℝ) : EReal) := by
  have hB : ∀ r k, (First.rowsAt (V1 m) d t : Vec Ideal S6144x128 .f32) (ix2 r k) = ((x (row t.val ht r) k : ℝ) : EReal) := fun r k =>
    (rows_apply m d t ht r k).trans (hX _ _)
  unfold First.step
  rw [First.pair_zero, First.pair_one, label_apply, h0, h1]
  exact ⟨Pays.sum_apply _ _ (fun r => x (row t.val ht r)) hB (fun r k => hx _ k) a,
    Pays.sq_apply _ _ (fun r => x (row t.val ht r)) hB (fun r k => hx _ k) b⟩

theorem sums_apply :
    First.sumsB (V1 m) d (ix1 0) = (((∑ r, el m d x (row 0 (by decide) r)) + ∑ r, el m d x (row 1 (by decide) r) : ℝ) : EReal)
    ∧ First.sumsB (V1 m) d (ix1 1) = (((∑ r, el m d x (row 0 (by decide) r) * el m d x (row 0 (by decide) r))
        + ∑ r, el m d x (row 1 (by decide) r) * el m d x (row 1 (by decide) r) : ℝ) : EReal) := by
  have hz : FloatOps.ofBits (F := Ideal) .f32 0#32 = ((0 : ℝ) : EReal) := by simp [Ideal.ofBits, Ideal.ieee]
  obtain ⟨a0, a1⟩ := step_apply m d x hX hx t1_0 (by decide) 0 0 (fun _ => FloatOps.ofBits (F := Ideal) .f32 0#32) hz hz
  rw [zero_add] at a0 a1
  exact step_apply m d x hX hx t1_1 (by decide) _ _ (First.sumsA (V1 m) d) a0 a1

/-- The log that the last call takes at a cell. -/
theorem cell_apply (p : Fin 32) (q : Fin 128) :
    Ideal.log ((shapeCast _ (rowSums (flat m d)) shapeCasts_S4096_S32x128 : Vec Ideal S32x128 .f32) (ix2 p q)
        + (shapeCast _ (rowMaxs (flat m d)) shapeCasts_S4096_S32x128 : Vec Ideal S32x128 .f32) (ix2 p q)
          * (Pays.pick (lab m d) - Ideal.ofBits .f32 0x3F800000#32))
      = ((el m d x (cell p q) : ℝ) : EReal) := by
  have hp := p.isLt
  have hq := q.isLt
  have hpos : (S4096.rowMajor (ix1 (⟨128 * p.val + q.val, by omega⟩ : Fin 4096))).val = (S32x128.rowMajor (ix2 p q)).val := by
    refine (Shape.rowMajor_val_one (d := ![4096]) _).trans (Eq.trans ?_ (Shape.rowMajor_val_two (d := ![32, 128]) _).symm)
    show 128 * p.val + q.val = p.val * 128 + q.val
    omega
  have hr : ∀ k, Cert.RowStatsIdeal.Tile.flatRow (flat m d) (⟨128 * p.val + q.val, by omega⟩ : Fin 4096) k = ((x (cell p q) k : ℝ) : EReal) :=
    fun k => (flatRow_flat m d _ k).trans (hX _ k)
  rw [shapeCast_apply (rowSums (flat m d)) shapeCasts_S4096_S32x128 _ _ hpos, shapeCast_apply (rowMaxs (flat m d)) shapeCasts_S4096_S32x128 _ _ hpos,
    rowSums_apply, rowMaxs_apply, Pays.word_one, Pays.pick_eq]
  have hs : (∑ k, Cert.RowStatsIdeal.Tile.flatRow (flat m d) (⟨128 * p.val + q.val, by omega⟩ : Fin 4096) k) = ((∑ k, x (cell p q) k : ℝ) : EReal) :=
    (Finset.sum_congr rfl fun k _ => hr k).trans (Rows.coe_sum _ _)
  have ht : Finset.univ.sup (Cert.RowStatsIdeal.Tile.flatRow (flat m d) (⟨128 * p.val + q.val, by omega⟩ : Fin 4096)) = ((Rows.top (x (cell p q)) : ℝ) : EReal) :=
    (Finset.sup_congr rfl fun k _ => hr k).trans (Rows.fold_max _)
  refine (congrArg₂ (fun a b : EReal => Ideal.log (a + b * (((Rows.factor (lab m d) : ℝ) : EReal) - 1))) hs ht).trans ?_
  exact Rows.ell_coe _ (Rows.factor_pos _) _ (hx _)

/-- From positive reals the kernel's result is the mean of the losses of the rows taken. -/
theorem loss_apply (i : S_.Idx) : lossOf m d i
    = (((∑ r : Fin 16384, Rows.rowLoss (Rows.factor (lab m d)) (x ⟨r.val % 12288, lt_of_le_of_lt (Nat.mod_le _ _) r.isLt⟩)) / 2097152 : ℝ) : EReal) := by
  obtain ⟨h0, h1⟩ := sums_apply m d x hX hx
  rw [lossOf_apply, h0, h1]
  refine (Pays.word_apply (lab m d) _ _ (fun p q => el m d x (cell p q)) (cell_apply m d x hX hx) _ _).trans ?_
  rw [sum_rows (fun r => el m d x r), sum_rows (fun r => el m d x r * el m d x r)]
  refine congrArg (fun z : ℝ => ((z / 2097152 : ℝ) : EReal)) ?_
  unfold Rows.rowLoss
  rw [Finset.sum_add_distrib, Finset.sum_sub_distrib, ← Finset.mul_sum, ← Finset.mul_sum, Finset.sum_const, Finset.card_univ, Fintype.card_fin, nsmul_eq_mul]
  push_cast
  ring

end

end Cert.SplitIdeal.Value

end
-- ==== Proof.SplitReference.lean ====
/- The reference of the whole split kernel: the rows that kernel takes, and the run of the reference, which is the
   reference loss of those rows. -/
module

public import proofs.«01_k».proof.Proof.RefValue
public import proofs.«01_k».proof.Proof.Gen.SplitReferenceIdeal
public import Idealize.ShloMosaic.Lib.StableHlo.Run
public import Idealize.ShloMosaic.Lib.Pipeline.Value

@[expose] public section

noncomputable section

namespace Cert.SplitReferenceIdeal.Term

open Cert.SplitReferenceIdeal Cert.SplitReferenceIdeal.Gen Idealize.ShloMosaic.TcCoe Idealize.SL.Sem Idealize.ShloMosaic.StableHlo
open Idealize.ShloMosaic hiding ix1 ix2 eq_ix2
open Idealize.ShloMosaic.ValueIdx

/-! ## The rows -/

/-- The first 12288 rows, and the first 4096 after them. -/
def stack {F : FTy → Type} (X : FVec F S16384x128 .f32) : FVec F S16384x128 .f32 :=
  concatenate S16384x128 0
    [⟨S12288x128, extractStridedSlice S12288x128 ![0, 0] X slices_S16384x128_S12288x128_0_0⟩,
     ⟨S4096x128, extractStridedSlice S4096x128 ![0, 0] X slices_S16384x128_S4096x128_0_0⟩]
    concatenates_S12288x128_S4096x128_S16384x128_d0

/-- The row that stands at place `r`. -/
def source (r : Fin 16384) : Fin 16384 := ⟨r.val % 12288, lt_of_le_of_lt (Nat.mod_le _ _) r.isLt⟩

theorem stack_apply {F : FTy → Type} (X : FVec F S16384x128 .f32) (r : Fin 16384) (k : Fin 128) :
    stack X (ix2 r k) = X (ix2 (source r) k) := by
  unfold stack
  by_cases h : r.val < 12288
  · refine (concatenate_pair_apply_left (s₁ := S12288x128) (s₂ := S4096x128) 0 _ _ _ (ix2 r k) rfl (ix2 (⟨r.val, h⟩ : Fin 12288) k) fun b => ?_).trans ?_
    · match b with
      | ⟨0, _⟩ => rfl
      | ⟨1, _⟩ => rfl
    · unfold extractStridedSlice
      refine congrArg X ?_
      funext a
      match a with
      | ⟨0, _⟩ => exact Fin.ext (show 0 + r.val = r.val % 12288 by omega)
      | ⟨1, _⟩ => exact Fin.ext (Nat.zero_add _)
  · have hr := r.isLt
    refine (concatenate_pair_apply_right (s₁ := S12288x128) (s₂ := S4096x128) 0 _ _ _ (ix2 r k) rfl rfl (ix2 (⟨r.val - 12288, by omega⟩ : Fin 4096) k) (fun b hb => ?_) ?_).trans ?_
    · match b with
      | ⟨0, _⟩ => exact absurd rfl hb
      | ⟨1, _⟩ => rfl
    · show r.val - 12288 + 12288 = r.val
      omega
    · unfold extractStridedSlice
      refine congrArg X ?_
      funext a
      match a with
      | ⟨0, _⟩ => exact Fin.ext (show 0 + (r.val - 12288) = r.val % 12288 by omega)
      | ⟨1, _⟩ => exact Fin.ext (Nat.zero_add _)

/-! ## The run -/

variable {F : FTy → Type} [FloatOps F]

/-- The stacking of the program, as a function of its two operands. -/
def join0 : (⟨S12288x128, .f32⟩ : BufTy).Contents (Elt F) → (⟨S4096x128, .f32⟩ : BufTy).Contents (Elt F) → (⟨S16384x128, .f32⟩ : BufTy).Contents (Elt F) :=
  (fun a b => concatenate S16384x128 0 [⟨S12288x128, a⟩, ⟨S4096x128, b⟩] concatenates_S12288x128_S4096x128_S16384x128_d0)

/-- A concatenation of the program, as a function of its two operands. -/
def join1 : (⟨S16384x1, .i32⟩ : BufTy).Contents (Elt F) → (⟨S16384x1, .i32⟩ : BufTy).Contents (Elt F) → (⟨S16384x2, .i32⟩ : BufTy).Contents (Elt F) :=
  (fun a b => concatenate S16384x2 1 [⟨S16384x1, a⟩, ⟨S16384x1, b⟩] concatenates_S16384x1_S16384x1_S16384x2_d1)

/-- The host operations, in order (a called function's in its call's place). -/
abbrev ops : List (HloOp τ sig (Elt F)) :=
  [ unary main_arg0 main_v0 ((extractStridedSlice S12288x128 ![0, 0] · slices_S16384x128_S12288x128_0_0) : (⟨S16384x128, .f32⟩ : BufTy).Contents (Elt F) → (⟨S12288x128, .f32⟩ : BufTy).Contents (Elt F)),
    unary main_arg0 main_v1 ((extractStridedSlice S4096x128 ![0, 0] · slices_S16384x128_S4096x128_0_0) : (⟨S16384x128, .f32⟩ : BufTy).Contents (Elt F) → (⟨S4096x128, .f32⟩ : BufTy).Contents (Elt F)),
    binary main_v0 main_v1 main_v2 (join0 (F := F)),
    nullary main_cst (constant S_ .f32 0xFF800000#32),
    binary main_v2 main_cst main_v3 ((fun x v => Host.reduce FloatOps.maximumf x v reducesTo_S16384x128_S16384_d1 h_S_) : (⟨S16384x128, .f32⟩ : BufTy).Contents (Elt F) → (⟨S_, .f32⟩ : BufTy).Contents (Elt F) → (⟨S16384, .f32⟩ : BufTy).Contents (Elt F)),
    TRef.nullary (TRef.of (T := ⟨S16384x128, .i32⟩) main_call0_v0) (iotaInDim S16384x128 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x128, .f32⟩) main_v2) (TRef.of (T := ⟨S16384x128, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x128_S16384_d1 h_S_ j).1),
    TRef.quaternary (TRef.of (T := ⟨S16384x128, .f32⟩) main_v2) (TRef.of (T := ⟨S16384x128, .i32⟩) main_call0_v0) (TRef.of (T := ⟨S_, .f32⟩) main_call0_cst) (TRef.of (T := ⟨S_, .i32⟩) main_call0_c) (TRef.of (T := ⟨S16384, .i32⟩) main_v4) (fun x y u v j => (Host.argReduce reducer_argmax_f32_i32 x y u v reducesTo_S16384x128_S16384_d1 h_S_ j).2),
    reshape main_arg1 main_v5 (rfl : (.i32 : EltTy) = .i32) shapeCasts_S1_S_,
    nullary main_c (constantI S_ 32 1#32),
    binary main_v5 main_c main_v6 (cmpi .eq : (⟨S_, .i32⟩ : BufTy).Contents (Elt F) → (⟨S_, .i32⟩ : BufTy).Contents (Elt F) → (⟨S_, .i1⟩ : BufTy).Contents (Elt F)),
    nullary main_cst_0 (constant S_ .f32 0x3FA00000#32),
    nullary main_cst_1 (constant S_ .f32 0x3F666666#32),
    TRef.ternary (TRef.of (T := ⟨S_, .i1⟩) main_v6) (TRef.of (T := ⟨S_, .f32⟩) main_cst_0) (TRef.of (T := ⟨S_, .f32⟩) main_cst_1) (TRef.of (T := ⟨S_, .f32⟩) main_v7) select,
    nullary main_v8 (iotaInDim S16384 32 0),
    unary main_v7 main_v9 (broadcastInDim S16384 ![] bcast_S_S16384 : (⟨S_, .f32⟩ : BufTy).Contents (Elt F) → (⟨S16384, .f32⟩ : BufTy).Contents (Elt F)),
    binary main_v3 main_v9 main_v10 (mulf : (⟨S16384, .f32⟩ : BufTy).Contents (Elt F) → (⟨S16384, .f32⟩ : BufTy).Contents (Elt F) → (⟨S16384, .f32⟩ : BufTy).Contents (Elt F)),
    nullary main_c_2 (constantI S_ 32 0#32),
    unary main_c_2 main_v11 (broadcastInDim S16384 ![] bcast_S_S16384 : (⟨S_, .i32⟩ : BufTy).Contents (Elt F) → (⟨S16384, .i32⟩ : BufTy).Contents (Elt F)),
    binary main_v8 main_v11 main_v12 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v13 (broadcastInDim S16384 ![] bcast_S_S16384 : (⟨S_, .i32⟩ : BufTy).Contents (Elt F) → (⟨S16384, .i32⟩ : BufTy).Contents (Elt F)),
    binary main_v8 main_v13 main_v14 (addi : (⟨S16384, .i32⟩ : BufTy).Contents (Elt F) → (⟨S16384, .i32⟩ : BufTy).Contents (Elt F) → (⟨S16384, .i32⟩ : BufTy).Contents (Elt F)),
    ternary main_v12 main_v14 main_v8 main_v15 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_4 (constantI S_ 32 0#32),
    unary main_c_4 main_v16 (broadcastInDim S16384 ![] bcast_S_S16384 : (⟨S_, .i32⟩ : BufTy).Contents (Elt F) → (⟨S16384, .i32⟩ : BufTy).Contents (Elt F)),
    binary main_v4 main_v16 main_v17 (cmpi .slt : (⟨S16384, .i32⟩ : BufTy).Contents (Elt F) → (⟨S16384, .i32⟩ : BufTy).Contents (Elt F) → (⟨S16384, .i1⟩ : BufTy).Contents (Elt F)),
    nullary main_c_5 (constantI S_ 32 128#32),
    unary main_c_5 main_v18 (broadcastInDim S16384 ![] bcast_S_S16384 : (⟨S_, .i32⟩ : BufTy).Contents (Elt F) → (⟨S16384, .i32⟩ : BufTy).Contents (Elt F)),
    binary main_v4 main_v18 main_v19 (addi : (⟨S16384, .i32⟩ : BufTy).Contents (Elt F) → (⟨S16384, .i32⟩ : BufTy).Contents (Elt F) → (⟨S16384, .i32⟩ : BufTy).Contents (Elt F)),
    ternary main_v17 main_v19 main_v4 main_v20 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v15 main_v21 (broadcastInDim S16384x1 ![0] bcast_S16384_S16384x1_0 : (⟨S16384, .i32⟩ : BufTy).Contents (Elt F) → (⟨S16384x1, .i32⟩ : BufTy).Contents (Elt F)),
    unary main_v20 main_v22 (broadcastInDim S16384x1 ![0] bcast_S16384_S16384x1_0 : (⟨S16384, .i32⟩ : BufTy).Contents (Elt F) → (⟨S16384x1, .i32⟩ : BufTy).Contents (Elt F)),
    binary main_v21 main_v22 main_v23 (join1 (F := F)),
    ternary main_v2 main_v23 main_v10 main_v24 ((fun x i u => Host.scatter scatter_S16384x128_S16384x2_S16384_n_01_01_1 (fun _ b => b) x i u) : (⟨S16384x128, .f32⟩ : BufTy).Contents (Elt F) → (⟨S16384x2, .i32⟩ : BufTy).Contents (Elt F) → (⟨S16384, .f32⟩ : BufTy).Contents (Elt F) → (⟨S16384x128, .f32⟩ : BufTy).Contents (Elt F)),
    nullary main_cst_6 (constant S_ .f32 0x00000000#32),
    binary main_v24 main_cst_6 main_v25 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v25 main_v26 (broadcastInDim S16384x1 ![0] bcast_S16384_S16384x1_0 : (⟨S16384, .f32⟩ : BufTy).Contents (Elt F) → (⟨S16384x1, .f32⟩ : BufTy).Contents (Elt F)),
    unary main_v26 main_v27 (broadcastInDim S16384x128 ![0, 1] bcast_S16384x1_S16384x128_0_1 : (⟨S16384x1, .f32⟩ : BufTy).Contents (Elt F) → (⟨S16384x128, .f32⟩ : BufTy).Contents (Elt F)),
    binary main_v24 main_v27 main_v28 (Host.divf : (⟨S16384x128, .f32⟩ : BufTy).Contents (Elt F) → (⟨S16384x128, .f32⟩ : BufTy).Contents (Elt F) → (⟨S16384x128, .f32⟩ : BufTy).Contents (Elt F)),
    unary main_v2 main_v29 (Host.log : (⟨S16384x128, .f32⟩ : BufTy).Contents (Elt F) → (⟨S16384x128, .f32⟩ : BufTy).Contents (Elt F)),
    unary main_v28 main_v30 (Host.log : (⟨S16384x128, .f32⟩ : BufTy).Contents (Elt F) → (⟨S16384x128, .f32⟩ : BufTy).Contents (Elt F)),
    binary main_v29 main_v30 main_v31 (subf : (⟨S16384x128, .f32⟩ : BufTy).Contents (Elt F) → (⟨S16384x128, .f32⟩ : BufTy).Contents (Elt F) → (⟨S16384x128, .f32⟩ : BufTy).Contents (Elt F)),
    binary main_v31 main_v31 main_v32 (mulf : (⟨S16384x128, .f32⟩ : BufTy).Contents (Elt F) → (⟨S16384x128, .f32⟩ : BufTy).Contents (Elt F) → (⟨S16384x128, .f32⟩ : BufTy).Contents (Elt F)),
    nullary main_cst_7 (constant S_ .f32 0x00000000#32),
    binary main_v32 main_cst_7 main_v33 ((fun x v => Host.reduceAdd x v reducesTo_S16384x128_S_d0_1 h_S_) : (⟨S16384x128, .f32⟩ : BufTy).Contents (Elt F) → (⟨S_, .f32⟩ : BufTy).Contents (Elt F) → (⟨S_, .f32⟩ : BufTy).Contents (Elt F)),
    nullary main_cst_8 (constant S_ .f32 0x4A000000#32),
    binary main_v33 main_cst_8 main_v34 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., binary_bufs_sub .., nullary_bufs_sub .., binary_bufs_sub .., nullary_bufs_sub .., nullary_bufs_sub .., nullary_bufs_sub .., quaternary_bufs_sub .., quaternary_bufs_sub .., reshape_bufs_sub .., nullary_bufs_sub .., binary_bufs_sub .., nullary_bufs_sub .., nullary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., unary_bufs_sub .., unary_bufs_sub .., binary_bufs_sub .., unary_bufs_sub .., unary_bufs_sub .., binary_bufs_sub .., binary_bufs_sub .., nullary_bufs_sub .., binary_bufs_sub .., nullary_bufs_sub .., binary_bufs_sub ..⟩

/-- The reference's result, as a term of its arguments. -/
def result (X : FVec F S16384x128 .f32) (l : IVec S1 32) : FVec F S_ .f32 := Cert.ReferenceIdeal.Term.loss (stack X) l

set_option maxRecDepth 8192 in
set_option maxHeartbeats 2000000 in
/-- Every weakly fair execution of the reference terminates, its result holding the loss of the stacked rows and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v34).trans (by
        simp only [ops, TRef.nullary, TRef.ternary, TRef.quaternary, TRef.toBuf, TRef.ofBuf, cast_eq]
        after_results_simp <;> rfl),
      (h c main_arg0).trans (by
        simp only [ops, TRef.nullary, TRef.ternary, TRef.quaternary, TRef.toBuf, TRef.ofBuf, cast_eq]
        after_results_simp <;> rfl),
      (h c main_arg1).trans (by
        simp only [ops, TRef.nullary, TRef.ternary, TRef.quaternary, TRef.toBuf, TRef.ofBuf, cast_eq]
        after_results_simp <;> rfl)⟩)
    (run_seq scopedRefs_eq scopedSems_eq defs main (fun _ => ops) main_eq (fun _ => ops_sub) m ρ)

/-- From positive reals the result is the mean of the losses of the rows taken. -/
theorem result_eq (X : FVec Ideal S16384x128 .f32) (x : Fin 16384 → Fin 128 → ℝ) (hX : ∀ r k, X (ix2 r k) = ((x r k : ℝ) : EReal))
    (hx : ∀ r k, 0 < x r k) (l : IVec S1 32) :
    result X l (fun a => a.elim0)
      = (((∑ r, Rows.rowLoss (Rows.factor (l (ix1 0))) (x (source r))) / 2097152 : ℝ) : EReal) :=
  Cert.ReferenceIdeal.Term.loss_eq (fun r => x (source r)) (stack X) (fun r k => (stack_apply X r k).trans (hX _ k)) (fun r k => hx _ k) l

end Cert.SplitReferenceIdeal.Term

end
-- ==== Proof.lean ====
/- The claims: the kernel and its ideal reading run with their arguments kept and every semaphore at zero, the reference
   likewise, and from positive reals the kernel's result is the reference's. The same of the split kernel, against the
   loss of the rows it takes; and, without a precondition, of its SparseCore call that computes row sums and row maxima,
   against their reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_positive
public import proofs.«01_k».proof.Proof.Gen.KernelIdeal.Value
public import proofs.«01_k».proof.Proof.Sums
public import proofs.«01_k».proof.Proof.RefRun
public import proofs.«01_k».proof.Proof.RefValue
public import proofs.«01_k».proof.Proof.Positive
public import proofs.«01_k».proof.Proof.Words.Launch
public import proofs.«01_k».proof.Proof.Ideal.Value
public import proofs.«01_k».proof.Proof.StatsRef
public import proofs.«01_k».proof.Proof.Split.Launch
public import proofs.«01_k».proof.Proof.SplitIdeal.Value
public import proofs.«01_k».proof.Proof.SplitReference
public import proofs.«01_k».proof.Proof.Gen.Split
public import proofs.«01_k».proof.Proof.Gen.Split.Skeleton
public import proofs.«01_k».proof.Proof.Gen.Split.Launch
public import proofs.«01_k».proof.Proof.Gen.Split.Points
public import proofs.«01_k».proof.Proof.Gen.SplitIdeal
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.SplitReferenceIdeal
public import Idealize.ShloMosaic.Lib.Quiescent
public import Idealize.ShloMosaic.Adequacy
public import Idealize.ShloMosaic.Init

@[expose] public section

noncomputable section

namespace Cert.Proof

open Idealize.ShloMosaic.TcCoe Idealize.SL.Sem
open Idealize.ShloMosaic hiding ix1 ix2 eq_ix2
open Idealize.ShloMosaic.ValueIdx

/-- The reference runs, its arguments kept and every counter at zero: it has no semaphore. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by rfl) r.2⟩) (Cert.ReferenceIdeal.Term.run m g)

/-- Both programs' results from positive reals: the mean of the rows' losses. -/
theorem same : algebraic_KernelIdeal_ReferenceIdeal_pre_positive := by
  intro m g m' g' hpre hargs
  refine ⟨fun c => (Cert.KernelIdeal.Gen.dats m 0 c).arrAt 2 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Term.run m' g')
  obtain ⟨x, hX, hx⟩ := Cert.Pre_positive.reals _ _ (congrFun (hpre c) fun a => a.elim0)
  obtain ⟨e0, e1⟩ := hargs c
  refine Eq.trans ?_ (Cert.KernelIdeal.Value.result_apply m c x hX hx).symm
  funext i
  unfold Cert.ReferenceIdeal.Term.result
  rw [e0, e1]
  have e := Cert.ReferenceIdeal.Term.loss_eq x _ hX hx (m ((c.tc : Thread Cert.KernelIdeal.nD Cert.KernelIdeal.τ).loc Cert.KernelIdeal.main_arg1))
  refine Eq.trans ?_ e
  exact congrArg (Cert.ReferenceIdeal.Term.loss (F := Ideal) _ _) (funext fun a => a.elim0)

/-- The SparseCore call runs, its argument kept and every counter at zero: at words, -/
theorem frame_stats : quiescent_RowStats := fun m ρ _ =>
  (θ_run Cert.RowStats.defs _ _).mono (fun _ h => ⟨fun c => (h.1 c).1, h.2⟩) (Cert.RowStats.Tile.run_main m ρ)

/-- and at ideal values. -/
theorem frame_stats_ideal : quiescent_RowStatsIdeal := fun m ρ _ =>
  (θ_run Cert.RowStatsIdeal.defs _ _).mono (fun _ h => ⟨fun c => (h.1 c).1, h.2⟩) (Cert.RowStatsIdeal.Tile.run_main m ρ)

/-- Its reference likewise: it has no semaphore. -/
theorem frame_stats_ref : quiescent_RowStatsReferenceIdeal := fun m g _ =>
  (θ_run Cert.RowStatsReferenceIdeal.defs _ _).mono (fun r h => ⟨fun c => (h c).2.2, sem_eq_zero_of_no_sems (by rfl) r.2⟩)
    (Cert.RowStatsReferenceIdeal.Term.run m g)

/-- Both end with the rows' sums and maxima. -/
theorem same_stats : algebraic_RowStatsIdeal_RowStatsReferenceIdeal := by
  intro m g m' g' _ hargs
  refine ⟨fun c => Cert.RowStatsIdeal.Tile.rowSums (Cert.RowStatsIdeal.Tile.flat m c), fun c => Cert.RowStatsIdeal.Tile.rowMaxs (Cert.RowStatsIdeal.Tile.flat m c),
    (θ_run Cert.RowStatsIdeal.defs _ _).mono (fun _ h c => ⟨(h.1 c).2.1, (h.1 c).2.2, (h.1 c).1⟩) (Cert.RowStatsIdeal.Tile.run_main m g), ?_⟩
  refine (θ_run Cert.RowStatsReferenceIdeal.defs _ _).mono (fun r h c => ⟨(h c).1.trans ?_, (h c).2.1.trans ?_, (h c).2.2⟩)
    (Cert.RowStatsReferenceIdeal.Term.run m' g')
  all_goals
    rw [hargs c]
    funext x
    have hrow : Cert.RowStatsReferenceIdeal.Term.row (m ((c.tc : Thread Cert.RowStatsIdeal.nD Cert.RowStatsIdeal.τ).loc Cert.RowStatsIdeal.main_arg0)) (x 0)
        = Cert.RowStatsIdeal.Tile.flatRow (Cert.RowStatsIdeal.Tile.flat m c) (x 0) := funext fun k => (Cert.RowStatsIdeal.Tile.flatRow_flat m c (x 0) k).symm
    have hx : x = ix1 (x 0) := Idealize.ShloMosaic.ValueIdx.eq_ix1 (x : (⟨1, ![4096]⟩ : Shape).Idx)
  · refine Eq.trans ?_ (Cert.RowStatsIdeal.Tile.rowSums_apply _ x).symm
    rw [← hrow]
    exact (congrArg _ hx).trans (Cert.RowStatsReferenceIdeal.Term.sums_apply _ (x 0))
  · refine Eq.trans ?_ (Cert.RowStatsIdeal.Tile.rowMaxs_apply _ x).symm
    rw [← hrow]
    exact (congrArg _ hx).trans (Cert.RowStatsReferenceIdeal.Term.maxs_apply _ (x 0))

/-- The split kernel runs, its arguments kept and every counter at zero: at words, -/
theorem frame_split : quiescent_Split := fun m ρ _ =>
  (θ_run Cert.Split.defs _ _).mono (fun _ h => ⟨fun c => ⟨(h.1 c).1, (h.1 c).2.1⟩, h.2⟩) (Cert.Split.Tile.run_main m ρ)

/-- at ideal values, -/
theorem frame_split_ideal : quiescent_SplitIdeal := fun m ρ _ =>
  (θ_run Cert.SplitIdeal.defs _ _).mono (fun _ h => ⟨fun c => ⟨(h.1 c).1, (h.1 c).2.1⟩, h.2⟩) (Cert.SplitIdeal.Tile.run_main m ρ)

/-- and its reference, which has no semaphore. -/
theorem frame_split_ref : quiescent_SplitReferenceIdeal := fun m g _ =>
  (θ_run Cert.SplitReferenceIdeal.defs _ _).mono (fun r h => ⟨fun c => (h c).2, sem_eq_zero_of_no_sems (by rfl) r.2⟩)
    (Cert.SplitReferenceIdeal.Term.run m g)

/-- Both results from positive reals: the mean of the losses of the rows taken. -/
theorem same_split : algebraic_SplitIdeal_SplitReferenceIdeal_pre_positive := by
  intro m g m' g' hpre hargs
  refine ⟨fun c => Cert.SplitIdeal.Tile.lossOf m c,
    (θ_run Cert.SplitIdeal.defs _ _).mono (fun _ h c => ⟨(h.1 c).2.2, (h.1 c).1, (h.1 c).2.1⟩) (Cert.SplitIdeal.Tile.run_main m g), ?_⟩
  refine (θ_run Cert.SplitReferenceIdeal.defs _ _).mono (fun r h c => ⟨(h c).1.trans ?_, (h c).2⟩) (Cert.SplitReferenceIdeal.Term.run m' g')
  obtain ⟨x, hX, hx⟩ := Cert.Pre_positive.reals _ _ (congrFun (hpre c) fun a => a.elim0)
  obtain ⟨e0, e1⟩ := hargs c
  rw [e0, e1]
  funext i
  refine Eq.trans ?_ (Cert.SplitIdeal.Value.loss_apply m c x hX hx i).symm
  have e := Cert.SplitReferenceIdeal.Term.result_eq _ x hX hx (m ((c.tc : Thread Cert.SplitIdeal.nD Cert.SplitIdeal.τ).loc Cert.SplitIdeal.main_arg1))
  refine Eq.trans ?_ e
  exact congrArg (Cert.SplitReferenceIdeal.Term.result (F := Ideal) _ _) (funext fun a => a.elim0)

theorem claim : Cert.Claim := ⟨Cert.Kernel.Gen.facts, Cert.KernelIdeal.Gen.facts, Cert.ReferenceIdeal.Gen.facts,
  Cert.RowStats.Gen.facts, Cert.RowStatsIdeal.Gen.facts, Cert.RowStatsReferenceIdeal.Gen.facts,
  Cert.Split.Gen.facts, Cert.SplitIdeal.Gen.facts, Cert.SplitReferenceIdeal.Gen.facts, Cert.Pre_positive.Gen.facts,
  fun m ρ _ => Cert.Kernel.Gen.frame m ρ, fun m ρ _ => Cert.KernelIdeal.Gen.frame m ρ, fun m ρ _ => Cert.KernelIdeal.Gen.frame m ρ,
  fun m ρ _ => frame_ref m ρ, fun m ρ _ => frame_ref m ρ, frame_stats, frame_stats_ideal, frame_stats_ref,
  frame_split, frame_split_ideal, fun m ρ _ => frame_split_ideal m ρ trivial, frame_split_ref, fun m ρ _ => frame_split_ref m ρ trivial,
  trivial, same, trivial, same_stats, trivial, same_split⟩

end Cert.Proof

end
